-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstRefIdeal (m : (ℓ : Loc Cert.FfnFirstRefIdeal.nD Cert.FfnFirstRefIdeal.τ Cert.FfnFirstRefIdeal.sig) → Buf (Elt Ideal) ℓ) : Prop :=
  True

def Pre_FfnRest (m : (ℓ : Loc Cert.FfnRest.nD Cert.FfnRest.τ Cert.FfnRest.sig) → Buf (Elt Bits) ℓ) : Prop :=
  True

def Pre_FfnRestIdeal (m : (ℓ : Loc Cert.FfnRestIdeal.nD Cert.FfnRestIdeal.τ Cert.FfnRestIdeal.sig) → Buf (Elt Ideal) ℓ) : Prop :=
  True

def Pre_FfnRestRefIdeal (m : (ℓ : Loc Cert.FfnRestRefIdeal.nD Cert.FfnRestRefIdeal.τ Cert.FfnRestRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4))
      ∧ r.2.sem = fun _ => 0)

def quiescent_FfnFirstRefIdeal [hFfnFirstRefIdeal : Cert.FfnFirstRefIdeal.Facts] : Prop :=
  ∀ (m : (ℓ : Loc Cert.FfnFirstRefIdeal.nD Cert.FfnFirstRefIdeal.τ Cert.FfnFirstRefIdeal.sig) → Buf (Elt Ideal) ℓ) (g : Dev Cert.FfnFirstRefIdeal.nD → PrngReg), Pre_FfnFirstRefIdeal m →
    θ_run (Cert.FfnFirstRefIdeal.defs (F := Ideal)) (onTc (τ := Cert.FfnFirstRefIdeal.τ) (Cert.FfnFirstRefIdeal.main (F := Ideal))) ⟨m, fun _ => 0, g⟩ (fun r => (∀ c : Dev Cert.FfnFirstRefIdeal.nD,
      r.2.mem ((c.tc : Thread Cert.FfnFirstRefIdeal.nD Cert.FfnFirstRefIdeal.τ).loc Cert.FfnFirstRefIdeal.main_arg0) = m ((c.tc : Thread Cert.FfnFirstRefIdeal.nD Cert.FfnFirstRefIdeal.τ).loc Cert.FfnFirstRefIdeal.main_arg0)
      ∧ r.2.mem ((c.tc : Thread Cert.FfnFirstRefIdeal.nD Cert.FfnFirstRefIdeal.τ).loc Cert.FfnFirstRefIdeal.main_arg1) = m ((c.tc : Thread Cert.FfnFirstRefIdeal.nD Cert.FfnFirstRefIdeal.τ).loc Cert.FfnFirstRefIdeal.main_arg1)
      ∧ r.2.mem ((c.tc : Thread Cert.FfnFirstRefIdeal.nD Cert.FfnFirstRefIdeal.τ).loc Cert.FfnFirstRefIdeal.main_arg2) = m ((c.tc : Thread Cert.FfnFirstRefIdeal.nD Cert.FfnFirstRefIdeal.τ).loc Cert.FfnFirstRefIdeal.main_arg2)
      ∧ r.2.mem ((c.tc : Thread Cert.FfnFirstRefIdeal.nD Cert.FfnFirstRefIdeal.τ).loc Cert.FfnFirstRefIdeal.main_arg3) = m ((c.tc : Thread Cert.FfnFirstRefIdeal.nD Cert.FfnFirstRefIdeal.τ).loc Cert.FfnFirstRefIdeal.main_arg3)
      ∧ r.2.mem ((c.tc : Thread Cert.FfnFirstRefIdeal.nD Cert.FfnFirstRefIdeal.τ).loc Cert.FfnFirstRefIdeal.main_arg4) = m ((c.tc : Thread Cert.FfnFirstRefIdeal.nD Cert.FfnFirstRefIdeal.τ).loc Cert.FfnFirstRefIdeal.main_arg4))
      ∧ r.2.sem = fun _ => 0)

def quiescent_FfnRest [hFfnRest : Cert.FfnRest.Facts] : Prop :=
  ∀ (m : (ℓ : Loc Cert.FfnRest.nD Cert.FfnRest.τ Cert.FfnRest.sig) → Buf (Elt Bits) ℓ) (g : Dev Cert.FfnRest.nD → PrngReg), Pre_FfnRest m →
    θ_run (Cert.FfnRest.defs (F := Bits)) (onTc (τ := Cert.FfnRest.τ) (Cert.FfnRest.main (F := Bits))) ⟨m, fun _ => 0, g⟩ (fun r => (∀ c : Dev Cert.FfnRest.nD,
      r.2.mem ((c.tc : Thread Cert.FfnRest.nD Cert.FfnRest.τ).loc Cert.FfnRest.main_arg0) = m ((c.tc : Thread Cert.FfnRest.nD Cert.FfnRest.τ).loc Cert.FfnRest.main_arg0)
      ∧ r.2.mem ((c.tc : Thread Cert.FfnRest.nD Cert.FfnRest.τ).loc Cert.FfnRest.main_arg1) = m ((c.tc : Thread Cert.FfnRest.nD Cert.FfnRest.τ).loc Cert.FfnRest.main_arg1)
      ∧ r.2.mem ((c.tc : Thread Cert.FfnRest.nD Cert.FfnRest.τ).loc Cert.FfnRest.main_arg2) = m ((c.tc : Thread Cert.FfnRest.nD Cert.FfnRest.τ).loc Cert.FfnRest.main_arg2)
      ∧ r.2.mem ((c.tc : Thread Cert.FfnRest.nD Cert.FfnRest.τ).loc Cert.FfnRest.main_arg3) = m ((c.tc : Thread Cert.FfnRest.nD Cert.FfnRest.τ).loc Cert.FfnRest.main_arg3)
      ∧ r.2.mem ((c.tc : Thread Cert.FfnRest.nD Cert.FfnRest.τ).loc Cert.FfnRest.main_arg4) = m ((c.tc : Thread Cert.FfnRest.nD Cert.FfnRest.τ).loc Cert.FfnRest.main_arg4)
      ∧ r.2.mem ((c.tc : Thread Cert.FfnRest.nD Cert.FfnRest.τ).loc Cert.FfnRest.main_arg5) = m ((c.tc : Thread Cert.FfnRest.nD Cert.FfnRest.τ).loc Cert.FfnRest.main_arg5))
      ∧ r.2.sem = fun _ => 0)

def quiescent_FfnRestIdeal [hFfnRestIdeal : Cert.FfnRestIdeal.Facts] : Prop :=
  ∀ (m : (ℓ : Loc Cert.FfnRestIdeal.nD Cert.FfnRestIdeal.τ Cert.FfnRestIdeal.sig) → Buf (Elt Ideal) ℓ) (g : Dev Cert.FfnRestIdeal.nD → PrngReg), Pre_FfnRestIdeal m →
    θ_run (Cert.FfnRestIdeal.defs (F := Ideal)) (onTc (τ := Cert.FfnRestIdeal.τ) (Cert.FfnRestIdeal.main (F := Ideal))) ⟨m, fun _ => 0, g⟩ (fun r => (∀ c : Dev Cert.FfnRestIdeal.nD,
      r.2.mem ((c.tc : Thread Cert.FfnRestIdeal.nD Cert.FfnRestIdeal.τ).loc Cert.FfnRestIdeal.main_arg0) = m ((c.tc : Thread Cert.FfnRestIdeal.nD Cert.FfnRestIdeal.τ).loc Cert.FfnRestIdeal.main_arg0)
      ∧ r.2.mem ((c.tc : Thread Cert.FfnRestIdeal.nD Cert.FfnRestIdeal.τ).loc Cert.FfnRestIdeal.main_arg1) = m ((c.tc : Thread Cert.FfnRestIdeal.nD Cert.FfnRestIdeal.τ).loc Cert.FfnRestIdeal.main_arg1)
      ∧ r.2.mem ((c.tc : Thread Cert.FfnRestIdeal.nD Cert.FfnRestIdeal.τ).loc Cert.FfnRestIdeal.main_arg2) = m ((c.tc : Thread Cert.FfnRestIdeal.nD Cert.FfnRestIdeal.τ).loc Cert.FfnRestIdeal.main_arg2)
      ∧ r.2.mem ((c.tc : Thread Cert.FfnRestIdeal.nD Cert.FfnRestIdeal.τ).loc Cert.FfnRestIdeal.main_arg3) = m ((c.tc : Thread Cert.FfnRestIdeal.nD Cert.FfnRestIdeal.τ).loc Cert.FfnRestIdeal.main_arg3)
      ∧ r.2.mem ((c.tc : Thread Cert.FfnRestIdeal.nD Cert.FfnRestIdeal.τ).loc Cert.FfnRestIdeal.main_arg4) = m ((c.tc : Thread Cert.FfnRestIdeal.nD Cert.FfnRestIdeal.τ).loc Cert.FfnRestIdeal.main_arg4)
      ∧ r.2.mem ((c.tc : Thread Cert.FfnRestIdeal.nD Cert.FfnRestIdeal.τ).loc Cert.FfnRestIdeal.main_arg5) = m ((c.tc : Thread Cert.FfnRestIdeal.nD Cert.FfnRestIdeal.τ).loc Cert.FfnRestIdeal.main_arg5))
      ∧ r.2.sem = fun _ => 0)

def quiescent_FfnRestRefIdeal [hFfnRestRefIdeal : Cert.FfnRestRefIdeal.Facts] : Prop :=
  ∀ (m : (ℓ : Loc Cert.FfnRestRefIdeal.nD Cert.FfnRestRefIdeal.τ Cert.FfnRestRefIdeal.sig) → Buf (Elt Ideal) ℓ) (g : Dev Cert.FfnRestRefIdeal.nD → PrngReg), Pre_FfnRestRefIdeal m →
    θ_run (Cert.FfnRestRefIdeal.defs (F := Ideal)) (onTc (τ := Cert.FfnRestRefIdeal.τ) (Cert.FfnRestRefIdeal.main (F := Ideal))) ⟨m, fun _ => 0, g⟩ (fun r => (∀ c : Dev Cert.FfnRestRefIdeal.nD,
      r.2.mem ((c.tc : Thread Cert.FfnRestRefIdeal.nD Cert.FfnRestRefIdeal.τ).loc Cert.FfnRestRefIdeal.main_arg0) = m ((c.tc : Thread Cert.FfnRestRefIdeal.nD Cert.FfnRestRefIdeal.τ).loc Cert.FfnRestRefIdeal.main_arg0)
      ∧ r.2.mem ((c.tc : Thread Cert.FfnRestRefIdeal.nD Cert.FfnRestRefIdeal.τ).loc Cert.FfnRestRefIdeal.main_arg1) = m ((c.tc : Thread Cert.FfnRestRefIdeal.nD Cert.FfnRestRefIdeal.τ).loc Cert.FfnRestRefIdeal.main_arg1)
      ∧ r.2.mem ((c.tc : Thread Cert.FfnRestRefIdeal.nD Cert.FfnRestRefIdeal.τ).loc Cert.FfnRestRefIdeal.main_arg2) = m ((c.tc : Thread Cert.FfnRestRefIdeal.nD Cert.FfnRestRefIdeal.τ).loc Cert.FfnRestRefIdeal.main_arg2)
      ∧ r.2.mem ((c.tc : Thread Cert.FfnRestRefIdeal.nD Cert.FfnRestRefIdeal.τ).loc Cert.FfnRestRefIdeal.main_arg3) = m ((c.tc : Thread Cert.FfnRestRefIdeal.nD Cert.FfnRestRefIdeal.τ).loc Cert.FfnRestRefIdeal.main_arg3)
      ∧ r.2.mem ((c.tc : Thread Cert.FfnRestRefIdeal.nD Cert.FfnRestRefIdeal.τ).loc Cert.FfnRestRefIdeal.main_arg4) = m ((c.tc : Thread Cert.FfnRestRefIdeal.nD Cert.FfnRestRefIdeal.τ).loc Cert.FfnRestRefIdeal.main_arg4)
      ∧ r.2.mem ((c.tc : Thread Cert.FfnRestRefIdeal.nD Cert.FfnRestRefIdeal.τ).loc Cert.FfnRestRefIdeal.main_arg5) = m ((c.tc : Thread Cert.FfnRestRefIdeal.nD Cert.FfnRestRefIdeal.τ).loc Cert.FfnRestRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v31) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v10)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v10) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v40) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_FfnFirst_FfnFirstIdeal : Prop :=
  True

def algebraic_FfnFirstIdeal_FfnFirstRefIdeal [hFfnFirstIdeal : Cert.FfnFirstIdeal.Facts] [hFfnFirstRefIdeal : Cert.FfnFirstRefIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstRefIdeal.nD Cert.FfnFirstRefIdeal.τ Cert.FfnFirstRefIdeal.sig) → Buf (Elt Ideal) ℓ) (g' : Dev Cert.FfnFirstRefIdeal.nD → PrngReg), Pre_FfnFirstIdeal m →
    (∀ c : Dev Cert.FfnFirstIdeal.nD,
      m' ((c.tc : Thread Cert.FfnFirstRefIdeal.nD Cert.FfnFirstRefIdeal.τ).loc Cert.FfnFirstRefIdeal.main_arg0) = m ((c.tc : Thread Cert.FfnFirstIdeal.nD Cert.FfnFirstIdeal.τ).loc Cert.FfnFirstIdeal.main_arg0)
      ∧ m' ((c.tc : Thread Cert.FfnFirstRefIdeal.nD Cert.FfnFirstRefIdeal.τ).loc Cert.FfnFirstRefIdeal.main_arg1) = m ((c.tc : Thread Cert.FfnFirstIdeal.nD Cert.FfnFirstIdeal.τ).loc Cert.FfnFirstIdeal.main_arg1)
      ∧ m' ((c.tc : Thread Cert.FfnFirstRefIdeal.nD Cert.FfnFirstRefIdeal.τ).loc Cert.FfnFirstRefIdeal.main_arg2) = m ((c.tc : Thread Cert.FfnFirstIdeal.nD Cert.FfnFirstIdeal.τ).loc Cert.FfnFirstIdeal.main_arg2)
      ∧ m' ((c.tc : Thread Cert.FfnFirstRefIdeal.nD Cert.FfnFirstRefIdeal.τ).loc Cert.FfnFirstRefIdeal.main_arg3) = m ((c.tc : Thread Cert.FfnFirstIdeal.nD Cert.FfnFirstIdeal.τ).loc Cert.FfnFirstIdeal.main_arg3)
      ∧ m' ((c.tc : Thread Cert.FfnFirstRefIdeal.nD Cert.FfnFirstRefIdeal.τ).loc Cert.FfnFirstRefIdeal.main_arg4) = m ((c.tc : Thread Cert.FfnFirstIdeal.nD Cert.FfnFirstIdeal.τ).loc Cert.FfnFirstIdeal.main_arg4)) →
    ∃ (v0 : (c : Dev Cert.FfnFirstIdeal.nD) → Buf (Elt Ideal) ((c.tc : Thread Cert.FfnFirstIdeal.nD Cert.FfnFirstIdeal.τ).loc Cert.FfnFirstIdeal.main_v6_0)) (v1 : (c : Dev Cert.FfnFirstIdeal.nD) → Buf (Elt Ideal) ((c.tc : Thread Cert.FfnFirstIdeal.nD Cert.FfnFirstIdeal.τ).loc Cert.FfnFirstIdeal.main_v6_1)) (v2 : (c : Dev Cert.FfnFirstIdeal.nD) → Buf (Elt Ideal) ((c.tc : Thread Cert.FfnFirstIdeal.nD Cert.FfnFirstIdeal.τ).loc Cert.FfnFirstIdeal.main_v6_2)) (v3 : (c : Dev Cert.FfnFirstIdeal.nD) → Buf (Elt Ideal) ((c.tc : Thread Cert.FfnFirstIdeal.nD Cert.FfnFirstIdeal.τ).loc Cert.FfnFirstIdeal.main_v6_3)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v6_0) = v0 c
          ∧ r.2.mem ((c.tc : Thread Cert.FfnFirstIdeal.nD Cert.FfnFirstIdeal.τ).loc Cert.FfnFirstIdeal.main_v6_1) = v1 c
          ∧ r.2.mem ((c.tc : Thread Cert.FfnFirstIdeal.nD Cert.FfnFirstIdeal.τ).loc Cert.FfnFirstIdeal.main_v6_2) = v2 c
          ∧ r.2.mem ((c.tc : Thread Cert.FfnFirstIdeal.nD Cert.FfnFirstIdeal.τ).loc Cert.FfnFirstIdeal.main_v6_3) = v3 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4))
      ∧ θ_run (Cert.FfnFirstRefIdeal.defs (F := Ideal)) (onTc (τ := Cert.FfnFirstRefIdeal.τ) (Cert.FfnFirstRefIdeal.main (F := Ideal))) ⟨m', fun _ => 0, g'⟩ (fun r => ∀ c : Dev Cert.FfnFirstRefIdeal.nD,
          r.2.mem ((c.tc : Thread Cert.FfnFirstRefIdeal.nD Cert.FfnFirstRefIdeal.τ).loc Cert.FfnFirstRefIdeal.main_v32) = v0 c
          ∧ r.2.mem ((c.tc : Thread Cert.FfnFirstRefIdeal.nD Cert.FfnFirstRefIdeal.τ).loc Cert.FfnFirstRefIdeal.main_v34) = v1 c
          ∧ r.2.mem ((c.tc : Thread Cert.FfnFirstRefIdeal.nD Cert.FfnFirstRefIdeal.τ).loc Cert.FfnFirstRefIdeal.main_v36) = v2 c
          ∧ r.2.mem ((c.tc : Thread Cert.FfnFirstRefIdeal.nD Cert.FfnFirstRefIdeal.τ).loc Cert.FfnFirstRefIdeal.main_v38) = v3 c
          ∧ r.2.mem ((c.tc : Thread Cert.FfnFirstRefIdeal.nD Cert.FfnFirstRefIdeal.τ).loc Cert.FfnFirstRefIdeal.main_arg0) = m' ((c.tc : Thread Cert.FfnFirstRefIdeal.nD Cert.FfnFirstRefIdeal.τ).loc Cert.FfnFirstRefIdeal.main_arg0)
          ∧ r.2.mem ((c.tc : Thread Cert.FfnFirstRefIdeal.nD Cert.FfnFirstRefIdeal.τ).loc Cert.FfnFirstRefIdeal.main_arg1) = m' ((c.tc : Thread Cert.FfnFirstRefIdeal.nD Cert.FfnFirstRefIdeal.τ).loc Cert.FfnFirstRefIdeal.main_arg1)
          ∧ r.2.mem ((c.tc : Thread Cert.FfnFirstRefIdeal.nD Cert.FfnFirstRefIdeal.τ).loc Cert.FfnFirstRefIdeal.main_arg2) = m' ((c.tc : Thread Cert.FfnFirstRefIdeal.nD Cert.FfnFirstRefIdeal.τ).loc Cert.FfnFirstRefIdeal.main_arg2)
          ∧ r.2.mem ((c.tc : Thread Cert.FfnFirstRefIdeal.nD Cert.FfnFirstRefIdeal.τ).loc Cert.FfnFirstRefIdeal.main_arg3) = m' ((c.tc : Thread Cert.FfnFirstRefIdeal.nD Cert.FfnFirstRefIdeal.τ).loc Cert.FfnFirstRefIdeal.main_arg3)
          ∧ r.2.mem ((c.tc : Thread Cert.FfnFirstRefIdeal.nD Cert.FfnFirstRefIdeal.τ).loc Cert.FfnFirstRefIdeal.main_arg4) = m' ((c.tc : Thread Cert.FfnFirstRefIdeal.nD Cert.FfnFirstRefIdeal.τ).loc Cert.FfnFirstRefIdeal.main_arg4))

def preserves_FfnRest_FfnRestIdeal : Prop :=
  True

def algebraic_FfnRestIdeal_FfnRestRefIdeal [hFfnRestIdeal : Cert.FfnRestIdeal.Facts] [hFfnRestRefIdeal : Cert.FfnRestRefIdeal.Facts] : Prop :=
  ∀ (m : (ℓ : Loc Cert.FfnRestIdeal.nD Cert.FfnRestIdeal.τ Cert.FfnRestIdeal.sig) → Buf (Elt Ideal) ℓ) (g : Dev Cert.FfnRestIdeal.nD → PrngReg)
    (m' : (ℓ : Loc Cert.FfnRestRefIdeal.nD Cert.FfnRestRefIdeal.τ Cert.FfnRestRefIdeal.sig) → Buf (Elt Ideal) ℓ) (g' : Dev Cert.FfnRestRefIdeal.nD → PrngReg), Pre_FfnRestIdeal m →
    (∀ c : Dev Cert.FfnRestIdeal.nD,
      m' ((c.tc : Thread Cert.FfnRestRefIdeal.nD Cert.FfnRestRefIdeal.τ).loc Cert.FfnRestRefIdeal.main_arg0) = m ((c.tc : Thread Cert.FfnRestIdeal.nD Cert.FfnRestIdeal.τ).loc Cert.FfnRestIdeal.main_arg0)
      ∧ m' ((c.tc : Thread Cert.FfnRestRefIdeal.nD Cert.FfnRestRefIdeal.τ).loc Cert.FfnRestRefIdeal.main_arg1) = m ((c.tc : Thread Cert.FfnRestIdeal.nD Cert.FfnRestIdeal.τ).loc Cert.FfnRestIdeal.main_arg1)
      ∧ m' ((c.tc : Thread Cert.FfnRestRefIdeal.nD Cert.FfnRestRefIdeal.τ).loc Cert.FfnRestRefIdeal.main_arg2) = m ((c.tc : Thread Cert.FfnRestIdeal.nD Cert.FfnRestIdeal.τ).loc Cert.FfnRestIdeal.main_arg2)
      ∧ m' ((c.tc : Thread Cert.FfnRestRefIdeal.nD Cert.FfnRestRefIdeal.τ).loc Cert.FfnRestRefIdeal.main_arg3) = m ((c.tc : Thread Cert.FfnRestIdeal.nD Cert.FfnRestIdeal.τ).loc Cert.FfnRestIdeal.main_arg3)
      ∧ m' ((c.tc : Thread Cert.FfnRestRefIdeal.nD Cert.FfnRestRefIdeal.τ).loc Cert.FfnRestRefIdeal.main_arg4) = m ((c.tc : Thread Cert.FfnRestIdeal.nD Cert.FfnRestIdeal.τ).loc Cert.FfnRestIdeal.main_arg4)
      ∧ m' ((c.tc : Thread Cert.FfnRestRefIdeal.nD Cert.FfnRestRefIdeal.τ).loc Cert.FfnRestRefIdeal.main_arg5) = m ((c.tc : Thread Cert.FfnRestIdeal.nD Cert.FfnRestIdeal.τ).loc Cert.FfnRestIdeal.main_arg5)) →
    ∃ (v0 : (c : Dev Cert.FfnRestIdeal.nD) → Buf (Elt Ideal) ((c.tc : Thread Cert.FfnRestIdeal.nD Cert.FfnRestIdeal.τ).loc Cert.FfnRestIdeal.main_v4_0)) (v1 : (c : Dev Cert.FfnRestIdeal.nD) → Buf (Elt Ideal) ((c.tc : Thread Cert.FfnRestIdeal.nD Cert.FfnRestIdeal.τ).loc Cert.FfnRestIdeal.main_v4_1)),
      θ_run (Cert.FfnRestIdeal.defs (F := Ideal)) (onTc (τ := Cert.FfnRestIdeal.τ) (Cert.FfnRestIdeal.main (F := Ideal))) ⟨m, fun _ => 0, g⟩ (fun r => ∀ c : Dev Cert.FfnRestIdeal.nD,
          r.2.mem ((c.tc : Thread Cert.FfnRestIdeal.nD Cert.FfnRestIdeal.τ).loc Cert.FfnRestIdeal.main_v4_0) = v0 c
          ∧ r.2.mem ((c.tc : Thread Cert.FfnRestIdeal.nD Cert.FfnRestIdeal.τ).loc Cert.FfnRestIdeal.main_v4_1) = v1 c
          ∧ r.2.mem ((c.tc : Thread Cert.FfnRestIdeal.nD Cert.FfnRestIdeal.τ).loc Cert.FfnRestIdeal.main_arg0) = m ((c.tc : Thread Cert.FfnRestIdeal.nD Cert.FfnRestIdeal.τ).loc Cert.FfnRestIdeal.main_arg0)
          ∧ r.2.mem ((c.tc : Thread Cert.FfnRestIdeal.nD Cert.FfnRestIdeal.τ).loc Cert.FfnRestIdeal.main_arg1) = m ((c.tc : Thread Cert.FfnRestIdeal.nD Cert.FfnRestIdeal.τ).loc Cert.FfnRestIdeal.main_arg1)
          ∧ r.2.mem ((c.tc : Thread Cert.FfnRestIdeal.nD Cert.FfnRestIdeal.τ).loc Cert.FfnRestIdeal.main_arg2) = m ((c.tc : Thread Cert.FfnRestIdeal.nD Cert.FfnRestIdeal.τ).loc Cert.FfnRestIdeal.main_arg2)
          ∧ r.2.mem ((c.tc : Thread Cert.FfnRestIdeal.nD Cert.FfnRestIdeal.τ).loc Cert.FfnRestIdeal.main_arg3) = m ((c.tc : Thread Cert.FfnRestIdeal.nD Cert.FfnRestIdeal.τ).loc Cert.FfnRestIdeal.main_arg3)
          ∧ r.2.mem ((c.tc : Thread Cert.FfnRestIdeal.nD Cert.FfnRestIdeal.τ).loc Cert.FfnRestIdeal.main_arg4) = m ((c.tc : Thread Cert.FfnRestIdeal.nD Cert.FfnRestIdeal.τ).loc Cert.FfnRestIdeal.main_arg4)
          ∧ r.2.mem ((c.tc : Thread Cert.FfnRestIdeal.nD Cert.FfnRestIdeal.τ).loc Cert.FfnRestIdeal.main_arg5) = m ((c.tc : Thread Cert.FfnRestIdeal.nD Cert.FfnRestIdeal.τ).loc Cert.FfnRestIdeal.main_arg5))
      ∧ θ_run (Cert.FfnRestRefIdeal.defs (F := Ideal)) (onTc (τ := Cert.FfnRestRefIdeal.τ) (Cert.FfnRestRefIdeal.main (F := Ideal))) ⟨m', fun _ => 0, g'⟩ (fun r => ∀ c : Dev Cert.FfnRestRefIdeal.nD,
          r.2.mem ((c.tc : Thread Cert.FfnRestRefIdeal.nD Cert.FfnRestRefIdeal.τ).loc Cert.FfnRestRefIdeal.main_v37) = v0 c
          ∧ r.2.mem ((c.tc : Thread Cert.FfnRestRefIdeal.nD Cert.FfnRestRefIdeal.τ).loc Cert.FfnRestRefIdeal.main_v38) = v1 c
          ∧ r.2.mem ((c.tc : Thread Cert.FfnRestRefIdeal.nD Cert.FfnRestRefIdeal.τ).loc Cert.FfnRestRefIdeal.main_arg0) = m' ((c.tc : Thread Cert.FfnRestRefIdeal.nD Cert.FfnRestRefIdeal.τ).loc Cert.FfnRestRefIdeal.main_arg0)
          ∧ r.2.mem ((c.tc : Thread Cert.FfnRestRefIdeal.nD Cert.FfnRestRefIdeal.τ).loc Cert.FfnRestRefIdeal.main_arg1) = m' ((c.tc : Thread Cert.FfnRestRefIdeal.nD Cert.FfnRestRefIdeal.τ).loc Cert.FfnRestRefIdeal.main_arg1)
          ∧ r.2.mem ((c.tc : Thread Cert.FfnRestRefIdeal.nD Cert.FfnRestRefIdeal.τ).loc Cert.FfnRestRefIdeal.main_arg2) = m' ((c.tc : Thread Cert.FfnRestRefIdeal.nD Cert.FfnRestRefIdeal.τ).loc Cert.FfnRestRefIdeal.main_arg2)
          ∧ r.2.mem ((c.tc : Thread Cert.FfnRestRefIdeal.nD Cert.FfnRestRefIdeal.τ).loc Cert.FfnRestRefIdeal.main_arg3) = m' ((c.tc : Thread Cert.FfnRestRefIdeal.nD Cert.FfnRestRefIdeal.τ).loc Cert.FfnRestRefIdeal.main_arg3)
          ∧ r.2.mem ((c.tc : Thread Cert.FfnRestRefIdeal.nD Cert.FfnRestRefIdeal.τ).loc Cert.FfnRestRefIdeal.main_arg4) = m' ((c.tc : Thread Cert.FfnRestRefIdeal.nD Cert.FfnRestRefIdeal.τ).loc Cert.FfnRestRefIdeal.main_arg4)
          ∧ r.2.mem ((c.tc : Thread Cert.FfnRestRefIdeal.nD Cert.FfnRestRefIdeal.τ).loc Cert.FfnRestRefIdeal.main_arg5) = m' ((c.tc : Thread Cert.FfnRestRefIdeal.nD Cert.FfnRestRefIdeal.τ).loc Cert.FfnRestRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v3_0)) (v1 : (c : Dev Cert.ProjIdeal.nD) → Buf (Elt Ideal) ((c.tc : Thread Cert.ProjIdeal.nD Cert.ProjIdeal.τ).loc Cert.ProjIdeal.main_v3_1)) (v2 : (c : Dev Cert.ProjIdeal.nD) → Buf (Elt Ideal) ((c.tc : Thread Cert.ProjIdeal.nD Cert.ProjIdeal.τ).loc Cert.ProjIdeal.main_v3_2)) (v3 : (c : Dev Cert.ProjIdeal.nD) → Buf (Elt Ideal) ((c.tc : Thread Cert.ProjIdeal.nD Cert.ProjIdeal.τ).loc Cert.ProjIdeal.main_v3_3)) (v4 : (c : Dev Cert.ProjIdeal.nD) → Buf (Elt Ideal) ((c.tc : Thread Cert.ProjIdeal.nD Cert.ProjIdeal.τ).loc Cert.ProjIdeal.main_v3_4)) (v5 : (c : Dev Cert.ProjIdeal.nD) → Buf (Elt Ideal) ((c.tc : Thread Cert.ProjIdeal.nD Cert.ProjIdeal.τ).loc Cert.ProjIdeal.main_v3_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3_0) = v0 c
          ∧ r.2.mem ((c.tc : Thread Cert.ProjIdeal.nD Cert.ProjIdeal.τ).loc Cert.ProjIdeal.main_v3_1) = v1 c
          ∧ r.2.mem ((c.tc : Thread Cert.ProjIdeal.nD Cert.ProjIdeal.τ).loc Cert.ProjIdeal.main_v3_2) = v2 c
          ∧ r.2.mem ((c.tc : Thread Cert.ProjIdeal.nD Cert.ProjIdeal.τ).loc Cert.ProjIdeal.main_v3_3) = v3 c
          ∧ r.2.mem ((c.tc : Thread Cert.ProjIdeal.nD Cert.ProjIdeal.τ).loc Cert.ProjIdeal.main_v3_4) = v4 c
          ∧ r.2.mem ((c.tc : Thread Cert.ProjIdeal.nD Cert.ProjIdeal.τ).loc Cert.ProjIdeal.main_v3_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v28) = v0 c
          ∧ r.2.mem ((c.tc : Thread Cert.ProjRefIdeal.nD Cert.ProjRefIdeal.τ).loc Cert.ProjRefIdeal.main_v34) = v1 c
          ∧ r.2.mem ((c.tc : Thread Cert.ProjRefIdeal.nD Cert.ProjRefIdeal.τ).loc Cert.ProjRefIdeal.main_v37) = v2 c
          ∧ r.2.mem ((c.tc : Thread Cert.ProjRefIdeal.nD Cert.ProjRefIdeal.τ).loc Cert.ProjRefIdeal.main_v41) = v3 c
          ∧ r.2.mem ((c.tc : Thread Cert.ProjRefIdeal.nD Cert.ProjRefIdeal.τ).loc Cert.ProjRefIdeal.main_v44) = v4 c
          ∧ r.2.mem ((c.tc : Thread Cert.ProjRefIdeal.nD Cert.ProjRefIdeal.τ).loc Cert.ProjRefIdeal.main_v24) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v10_0)) (v1 : (c : Dev Cert.MergeIdeal.nD) → Buf (Elt Ideal) ((c.tc : Thread Cert.MergeIdeal.nD Cert.MergeIdeal.τ).loc Cert.MergeIdeal.main_v10_1)) (v2 : (c : Dev Cert.MergeIdeal.nD) → Buf (Elt Ideal) ((c.tc : Thread Cert.MergeIdeal.nD Cert.MergeIdeal.τ).loc Cert.MergeIdeal.main_v10_2)) (v3 : (c : Dev Cert.MergeIdeal.nD) → Buf (Elt Ideal) ((c.tc : Thread Cert.MergeIdeal.nD Cert.MergeIdeal.τ).loc Cert.MergeIdeal.main_v10_3)) (v4 : (c : Dev Cert.MergeIdeal.nD) → Buf (Elt Ideal) ((c.tc : Thread Cert.MergeIdeal.nD Cert.MergeIdeal.τ).loc Cert.MergeIdeal.main_v10_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10_0) = v0 c
          ∧ r.2.mem ((c.tc : Thread Cert.MergeIdeal.nD Cert.MergeIdeal.τ).loc Cert.MergeIdeal.main_v10_1) = v1 c
          ∧ r.2.mem ((c.tc : Thread Cert.MergeIdeal.nD Cert.MergeIdeal.τ).loc Cert.MergeIdeal.main_v10_2) = v2 c
          ∧ r.2.mem ((c.tc : Thread Cert.MergeIdeal.nD Cert.MergeIdeal.τ).loc Cert.MergeIdeal.main_v10_3) = v3 c
          ∧ r.2.mem ((c.tc : Thread Cert.MergeIdeal.nD Cert.MergeIdeal.τ).loc Cert.MergeIdeal.main_v10_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v42) = v0 c
          ∧ r.2.mem ((c.tc : Thread Cert.MergeRefIdeal.nD Cert.MergeRefIdeal.τ).loc Cert.MergeRefIdeal.main_v44) = v1 c
          ∧ r.2.mem ((c.tc : Thread Cert.MergeRefIdeal.nD Cert.MergeRefIdeal.τ).loc Cert.MergeRefIdeal.main_v46) = v2 c
          ∧ r.2.mem ((c.tc : Thread Cert.MergeRefIdeal.nD Cert.MergeRefIdeal.τ).loc Cert.MergeRefIdeal.main_v48) = v3 c
          ∧ r.2.mem ((c.tc : Thread Cert.MergeRefIdeal.nD Cert.MergeRefIdeal.τ).loc Cert.MergeRefIdeal.main_v50) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13))

def Claim : Prop :=
  ∃ (hFfn : Cert.Ffn.Facts) (hFfnIdeal : Cert.FfnIdeal.Facts) (hFfnRefIdeal : Cert.FfnRefIdeal.Facts) (hPle : Cert.Ple.Facts) (hPleIdeal : Cert.PleIdeal.Facts) (hPleRefIdeal : Cert.PleRefIdeal.Facts) (hFfnFirst : Cert.FfnFirst.Facts) (hFfnFirstIdeal : Cert.FfnFirstIdeal.Facts) (hFfnFirstRefIdeal : Cert.FfnFirstRefIdeal.Facts) (hFfnRest : Cert.FfnRest.Facts) (hFfnRestIdeal : Cert.FfnRestIdeal.Facts) (hFfnRestRefIdeal : Cert.FfnRestRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Ple (hPle := hPle)
    ∧ quiescent_PleIdeal (hPleIdeal := hPleIdeal)
    ∧ quiescent_PleRefIdeal (hPleRefIdeal := hPleRefIdeal)
    ∧ quiescent_FfnFirst (hFfnFirst := hFfnFirst)
    ∧ quiescent_FfnFirstIdeal (hFfnFirstIdeal := hFfnFirstIdeal)
    ∧ quiescent_FfnFirstRefIdeal (hFfnFirstRefIdeal := hFfnFirstRefIdeal)
    ∧ quiescent_FfnRest (hFfnRest := hFfnRest)
    ∧ quiescent_FfnRestIdeal (hFfnRestIdeal := hFfnRestIdeal)
    ∧ quiescent_FfnRestRefIdeal (hFfnRestRefIdeal := hFfnRestRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ preserves_Ffn_FfnIdeal
    ∧ algebraic_FfnIdeal_FfnRefIdeal (hFfnIdeal := hFfnIdeal) (hFfnRefIdeal := hFfnRefIdeal)
    ∧ preserves_Ple_PleIdeal
    ∧ algebraic_PleIdeal_PleRefIdeal (hPleIdeal := hPleIdeal) (hPleRefIdeal := hPleRefIdeal)
    ∧ preserves_FfnFirst_FfnFirstIdeal
    ∧ algebraic_FfnFirstIdeal_FfnFirstRefIdeal (hFfnFirstIdeal := hFfnFirstIdeal) (hFfnFirstRefIdeal := hFfnFirstRefIdeal)
    ∧ preserves_FfnRest_FfnRestIdeal
    ∧ algebraic_FfnRestIdeal_FfnRestRefIdeal (hFfnRestIdeal := hFfnRestIdeal) (hFfnRestRefIdeal := hFfnRestRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
-- ==== Ffn.lean ====
abbrev S2x4096x2048 : Shape := ⟨3, ![2, 4096, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 15
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S8192x2048, .f32⟩
  | .hbm, ⟨6, _⟩ => ⟨S2048, .f32⟩
  | .hbm, ⟨7, _⟩ => ⟨S1x2048, .f32⟩
  | .hbm, ⟨8, _⟩ => ⟨S2048x5632, .f32⟩
  | .hbm, ⟨9, _⟩ => ⟨S2048x5632, .bf16⟩
  | .hbm, ⟨10, _⟩ => ⟨S2048x5632, .f32⟩
  | .hbm, ⟨11, _⟩ => ⟨S2048x5632, .bf16⟩
  | .hbm, ⟨12, _⟩ => ⟨S5632x2048, .f32⟩
  | .hbm, ⟨13, _⟩ => ⟨S5632x2048, .bf16⟩
  | .hbm, ⟨14, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S2x4096x2048 : Shape := ⟨3, ![2, 4096, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x5632 : Shape := ⟨2, ![2048, 5632]⟩
abbrev S2x4096x5632 : Shape := ⟨3, ![2, 4096, 5632]⟩
abbrev S5632x2048 : Shape := ⟨2, ![5632, 2048]⟩
abbrev S8192x2048 : Shape := ⟨2, ![8192, 2048]⟩

abbrev nBuf : Space → Nat
  | .hbm => 43
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S2048x5632, .f32⟩
  | .hbm, ⟨23, _⟩ => ⟨S2x4096x5632, .f32⟩
  | .hbm, ⟨24, _⟩ => ⟨S2x4096x5632, .f32⟩
  | .hbm, ⟨25, _⟩ => ⟨S2x4096x5632, .f32⟩
  | .hbm, ⟨26, _⟩ => ⟨S_, .f32⟩
  | .hbm, ⟨27, _⟩ => ⟨S2x4096x5632, .f32⟩
  | .hbm, ⟨28, _⟩ => ⟨S2x4096x5632, .f32⟩
  | .hbm, ⟨29, _⟩ => ⟨S_, .f32⟩
  | .hbm, ⟨30, _⟩ => ⟨S2x4096x5632, .f32⟩
  | .hbm, ⟨31, _⟩ => ⟨S2x4096x5632, .f32⟩
  | .hbm, ⟨32, _⟩ => ⟨S2x4096x5632, .f32⟩
  | .hbm, ⟨33, _⟩ => ⟨S2048x5632, .f32⟩
  | .hbm, ⟨34, _⟩ => ⟨S2x4096x5632, .f32⟩
  | .hbm, ⟨35, _⟩ => ⟨S2x4096x5632, .f32⟩
  | .hbm, ⟨36, _⟩ => ⟨S5632x2048, .f32⟩
  | .hbm, ⟨37, _⟩ => ⟨S2x4096x2048, .f32⟩
  | .hbm, ⟨38, _⟩ => ⟨S_, .f32⟩
  | .hbm, ⟨39, _⟩ => ⟨S2x4096x2048, .f32⟩
  | .hbm, ⟨40, _⟩ => ⟨S2x4096x2048, .f32⟩
  | .hbm, ⟨41, _⟩ => ⟨S2x4096x2048, .f32⟩
  | .hbm, ⟨42, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Ple.lean ====
abbrev S2x4096x2048 : Shape := ⟨3, ![2, 4096, 2048]⟩
abbrev S1x2x4096x256 : Shape := ⟨4, ![1, 2, 4096, 256]⟩
abbrev S1x2048 : Shape := ⟨2, ![1, 2048]⟩
abbrev S1x256x2048 : Shape := ⟨3, ![1, 256, 2048]⟩
abbrev S1x2048x2048 : Shape := ⟨3, ![1, 2048, 2048]⟩
abbrev S2048 : Shape := ⟨1, ![2048]⟩
abbrev S8192x2048 : Shape := ⟨2, ![8192, 2048]⟩
abbrev S2x4096x256 : Shape := ⟨3, ![2, 4096, 256]⟩
abbrev S8192x256 : Shape := ⟨2, ![8192, 256]⟩
abbrev S2048x2048 : Shape := ⟨2, ![2048, 2048]⟩
abbrev S256x2048 : Shape := ⟨2, ![256, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 17
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S1x2x4096x256, .f32⟩
  | .hbm, ⟨2, _⟩ => ⟨S1x2048, .f32⟩
  | .hbm, ⟨3, _⟩ => ⟨S1x256x2048, .f32⟩
  | .hbm, ⟨4, _⟩ => ⟨S1x2048x2048, .f32⟩
  | .hbm, ⟨5, _⟩ => ⟨S2048, .f32⟩
  | .hbm, ⟨6, _⟩ => ⟨S8192x2048, .f32⟩
  | .hbm, ⟨7, _⟩ => ⟨S2x4096x256, .f32⟩
  | .hbm, ⟨8, _⟩ => ⟨S8192x256, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S2048x2048, .f32⟩
  | .hbm, ⟨13, _⟩ => ⟨S2048x2048, .bf16⟩
  | .hbm, ⟨14, _⟩ => ⟨S256x2048, .f32⟩
  | .hbm, ⟨15, _⟩ => ⟨S256x2048, .bf16⟩
  | .hbm, ⟨16, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S1x2048, .f32⟩
  | .local _ .vmem, ⟨5, _⟩ => ⟨S1x2048, .f32⟩
  | .local _ .vmem, ⟨6, _⟩ => ⟨S2048x2048, .bf16⟩
  | .local _ .vmem, ⟨7, _⟩ => ⟨S256x2048, .bf16⟩
  | .local _ .vmem, ⟨8, _⟩ => ⟨S512x2048, .f32⟩
  | .local _ .vmem, ⟨9, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleRefIdeal.lean ====
abbrev S2x4096x2048 : Shape := ⟨3, ![2, 4096, 2048]⟩
abbrev S1x2x4096x256 : Shape := ⟨4, ![1, 2, 4096, 256]⟩
abbrev S1x2048 : Shape := ⟨2, ![1, 2048]⟩
abbrev S1x256x2048 : Shape := ⟨3, ![1, 256, 2048]⟩
abbrev S1x2048x2048 : Shape := ⟨3, ![1, 2048, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x2048 : Shape := ⟨2, ![2048, 2048]⟩
abbrev S2x4096x256 : Shape := ⟨3, ![2, 4096, 256]⟩
abbrev S256x2048 : Shape := ⟨2, ![256, 2048]⟩
abbrev S8192x2048 : Shape := ⟨2, ![8192, 2048]⟩

abbrev nBuf : Space → Nat
  | .hbm => 55
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2x4096x256, .f32⟩
  | .hbm, ⟨2, _⟩ => ⟨S1x2048, .f32⟩
  | .hbm, ⟨3, _⟩ => ⟨S1x256x2048, .f32⟩
  | .hbm, ⟨4, _⟩ => ⟨S1x2048x2048, .f32⟩
  | .hbm, ⟨5, _⟩ => ⟨S2048, .f32⟩
  | .hbm, ⟨6, _⟩ => ⟨S2048, .f32⟩
  | .hbm, ⟨7, _⟩ => ⟨S2x4096x2048, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S1x1x2048, .f32⟩
  | .hbm, ⟨21, _⟩ => ⟨S2x4096x2048, .f32⟩
  | .hbm, ⟨22, _⟩ => ⟨S2x4096x2048, .f32⟩
  | .hbm, ⟨23, _⟩ => ⟨S2048x2048, .f32⟩
  | .hbm, ⟨24, _⟩ => ⟨S2x4096x2048, .f32⟩
  | .hbm, ⟨25, _⟩ => ⟨S2x4096x2048, .f32⟩
  | .hbm, ⟨26, _⟩ => ⟨S2x4096x2048, .f32⟩
  | .hbm, ⟨27, _⟩ => ⟨S_, .f32⟩
  | .hbm, ⟨28, _⟩ => ⟨S2x4096x2048, .f32⟩
  | .hbm, ⟨29, _⟩ => ⟨S2x4096x2048, .f32⟩
  | .hbm, ⟨30, _⟩ => ⟨S_, .f32⟩
  | .hbm, ⟨31, _⟩ => ⟨S2x4096x2048, .f32⟩
  | .hbm, ⟨32, _⟩ => ⟨S2x4096x2048, .f32⟩
  | .hbm, ⟨33, _⟩ => ⟨S2x4096x256, .f32⟩
  | .hbm, ⟨34, _⟩ => ⟨S256x2048, .f32⟩
  | .hbm, ⟨35, _⟩ => ⟨S2x4096x2048, .f32⟩
  | .hbm, ⟨36, _⟩ => ⟨S2x4096x2048, .f32⟩
  | .hbm, ⟨37, _⟩ => ⟨S2x4096x2048, .f32⟩
  | .hbm, ⟨38, _⟩ => ⟨S2x4096x2048, .f32⟩
  | .hbm, ⟨39, _⟩ => ⟨S_, .f32⟩
  | .hbm, ⟨40, _⟩ => ⟨S2x4096, .f32⟩
  | .hbm, ⟨41, _⟩ => ⟨S2x4096x1, .f32⟩
  | .hbm, ⟨42, _⟩ => ⟨S_, .f32⟩
  | .hbm, ⟨43, _⟩ => ⟨S2x4096x1, .f32⟩
  | .hbm, ⟨44, _⟩ => ⟨S2x4096x1, .f32⟩
  | .hbm, ⟨45, _⟩ => ⟨S_, .f32⟩
  | .hbm, ⟨46, _⟩ => ⟨S2x4096x1, .f32⟩
  | .hbm, ⟨47, _⟩ => ⟨S2x4096x1, .f32⟩
  | .hbm, ⟨48, _⟩ => ⟨S2x4096x1, .f32⟩
  | .hbm, ⟨49, _⟩ => ⟨S2x4096x2048, .f32⟩
  | .hbm, ⟨50, _⟩ => ⟨S2x4096x2048, .f32⟩
  | .hbm, ⟨51, _⟩ => ⟨S1x1x2048, .f32⟩
  | .hbm, ⟨52, _⟩ => ⟨S2x4096x2048, .f32⟩
  | .hbm, ⟨53, _⟩ => ⟨S2x4096x2048, .f32⟩
  | .hbm, ⟨54, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== FfnFirst.lean ====
abbrev S2x4096x2048 : Shape := ⟨3, ![2, 4096, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S1024x2048 : Shape := ⟨2, ![1024, 2048]⟩
abbrev S2048x256 : Shape := ⟨2, ![2048, 256]⟩
abbrev S256x2048 : Shape := ⟨2, ![256, 2048]⟩
abbrev S1024 : Shape := ⟨1, ![1024]⟩
abbrev S1024x1 : Shape := ⟨2, ![1024, 1]⟩
abbrev S1024x256 : Shape := ⟨2, ![1024, 256]⟩

abbrev nBuf : Space → Nat
  | .hbm => 15
  | .vmem => 16
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S8192x2048, .f32⟩
  | .hbm, ⟨6, _⟩ => ⟨S2048, .f32⟩
  | .hbm, ⟨7, _⟩ => ⟨S1x2048, .f32⟩
  | .hbm, ⟨8, _⟩ => ⟨S2048x5632, .f32⟩
  | .hbm, ⟨9, _⟩ => ⟨S2048x5632, .f32⟩
  | .hbm, ⟨10, _⟩ => ⟨S5632x2048, .f32⟩
  | .hbm, ⟨11, _⟩ => ⟨S1024x2048, .f32⟩
  | .hbm, ⟨12, _⟩ => ⟨S2048x5632, .bf16⟩
  | .hbm, ⟨13, _⟩ => ⟨S2048x5632, .bf16⟩
  | .hbm, ⟨14, _⟩ => ⟨S5632x2048, .bf16⟩
  | .local _ .vmem, ⟨0, _⟩ => ⟨S1024x2048, .f32⟩
  | .local _ .vmem, ⟨1, _⟩ => ⟨S1x2048, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x2048, .f32⟩
  | .local _ .vmem, ⟨7, _⟩ => ⟨S256x2048, .f32⟩
  | .local _ .vmem, ⟨8, _⟩ => ⟨S1024x2048, .f32⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S256x2048, .bf16⟩
  | .local _ .vmem, ⟨14, _⟩ => ⟨S256x2048, .bf16⟩
  | .local _ .vmem, ⟨15, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![1, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]
-- ==== FfnFirstRefIdeal.lean ====
abbrev S2x4096x2048 : Shape := ⟨3, ![2, 4096, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x5632 : Shape := ⟨2, ![2048, 5632]⟩
abbrev S2x4096x5632 : Shape := ⟨3, ![2, 4096, 5632]⟩
abbrev S5632x2048 : Shape := ⟨2, ![5632, 2048]⟩
abbrev S8192x2048 : Shape := ⟨2, ![8192, 2048]⟩
abbrev S1024x2048 : Shape := ⟨2, ![1024, 2048]⟩

abbrev nBuf : Space → Nat
  | .hbm => 50
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S2048x5632, .f32⟩
  | .hbm, ⟨23, _⟩ => ⟨S2x4096x5632, .f32⟩
  | .hbm, ⟨24, _⟩ => ⟨S2x4096x5632, .f32⟩
  | .hbm, ⟨25, _⟩ => ⟨S2x4096x5632, .f32⟩
  | .hbm, ⟨26, _⟩ => ⟨S_, .f32⟩
  | .hbm, ⟨27, _⟩ => ⟨S2x4096x5632, .f32⟩
  | .hbm, ⟨28, _⟩ => ⟨S2x4096x5632, .f32⟩
  | .hbm, ⟨29, _⟩ => ⟨S_, .f32⟩
  | .hbm, ⟨30, _⟩ => ⟨S2x4096x5632, .f32⟩
  | .hbm, ⟨31, _⟩ => ⟨S2x4096x5632, .f32⟩
  | .hbm, ⟨32, _⟩ => ⟨S2x4096x5632, .f32⟩
  | .hbm, ⟨33, _⟩ => ⟨S2048x5632, .f32⟩
  | .hbm, ⟨34, _⟩ => ⟨S2x4096x5632, .f32⟩
  | .hbm, ⟨35, _⟩ => ⟨S2x4096x5632, .f32⟩
  | .hbm, ⟨36, _⟩ => ⟨S5632x2048, .f32⟩
  | .hbm, ⟨37, _⟩ => ⟨S2x4096x2048, .f32⟩
  | .hbm, ⟨38, _⟩ => ⟨S_, .f32⟩
  | .hbm, ⟨39, _⟩ => ⟨S2x4096x2048, .f32⟩
  | .hbm, ⟨40, _⟩ => ⟨S2x4096x2048, .f32⟩
  | .hbm, ⟨41, _⟩ => ⟨S2x4096x2048, .f32⟩
  | .hbm, ⟨42, _⟩ => ⟨S8192x2048, .f32⟩
  | .hbm, ⟨43, _⟩ => ⟨S1024x2048, .f32⟩
  | .hbm, ⟨44, _⟩ => ⟨S2048x5632, .f32⟩
  | .hbm, ⟨45, _⟩ => ⟨S2048x5632, .bf16⟩
  | .hbm, ⟨46, _⟩ => ⟨S2048x5632, .f32⟩
  | .hbm, ⟨47, _⟩ => ⟨S2048x5632, .bf16⟩
  | .hbm, ⟨48, _⟩ => ⟨S5632x2048, .f32⟩
  | .hbm, ⟨49, _⟩ => ⟨S5632x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== FfnRest.lean ====
abbrev S2x4096x2048 : Shape := ⟨3, ![2, 4096, 2048]⟩
abbrev S1x2048 : Shape := ⟨2, ![1, 2048]⟩
abbrev S2048x5632 : Shape := ⟨2, ![2048, 5632]⟩
abbrev S5632x2048 : Shape := ⟨2, ![5632, 2048]⟩
abbrev S1x2048x6168 : Shape := ⟨3, ![1, 2048, 6168]⟩
abbrev S1x6168x2048 : Shape := ⟨3, ![1, 6168, 2048]⟩
abbrev S8192x2048 : Shape := ⟨2, ![8192, 2048]⟩
abbrev S2048 : Shape := ⟨1, ![2048]⟩
abbrev S7168x2048 : Shape := ⟨2, ![7168, 2048]⟩
abbrev S2048x6144 : Shape := ⟨2, ![2048, 6144]⟩
abbrev S1024x2048 : Shape := ⟨2, ![1024, 2048]⟩
abbrev S2048x512 : Shape := ⟨2, ![2048, 512]⟩
abbrev S512x2048 : Shape := ⟨2, ![512, 2048]⟩
abbrev S1x128x2048 : Shape := ⟨3, ![1, 128, 2048]⟩
abbrev S2048x128 : Shape := ⟨2, ![2048, 128]⟩
abbrev S1024 : Shape := ⟨1, ![1024]⟩
abbrev S1024x1 : Shape := ⟨2, ![1024, 1]⟩
abbrev S1024x512 : Shape := ⟨2, ![1024, 512]⟩
abbrev S128x2048 : Shape := ⟨2, ![128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048x6168, .f32⟩
  | .hbm, ⟨6, _⟩ => ⟨S1x6168x2048, .f32⟩
  | .hbm, ⟨7, _⟩ => ⟨S8192x2048, .f32⟩
  | .hbm, ⟨8, _⟩ => ⟨S2048, .f32⟩
  | .hbm, ⟨9, _⟩ => ⟨S1x2048, .f32⟩
  | .hbm, ⟨10, _⟩ => ⟨S7168x2048, .f32⟩
  | .hbm, ⟨11, _⟩ => ⟨S2048x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x128x2048, .f32⟩
  | .local _ .vmem, ⟨10, _⟩ => ⟨S1x128x2048, .f32⟩
  | .local _ .vmem, ⟨11, _⟩ => ⟨S1024x2048, .f32⟩
  | .local _ .vmem, ⟨12, _⟩ => ⟨S1024x2048, .f32⟩
  | .local _ .vmem, ⟨13, _⟩ => ⟨S2048x128, .bf16⟩
  | .local _ .vmem, ⟨14, _⟩ => ⟨S2048x128, .bf16⟩
  | .local _ .vmem, ⟨15, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![7, 11], ![false, false]⟩

def k0_mult1 (i : grid0.Coords) : BitVec 32 :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c47_i32 : BitVec 32 := 47#32
  let v2 : BitVec 32 := Scalar.minsi v1 c47_i32
  let c128_i32 : BitVec 32 := 128#32
  let v3 : BitVec 32 := Scalar.muli v2 c128_i32
  let c11_i32_0 : BitVec 32 := 11#32
  let v4 : BitVec 32 := Scalar.muli arg0 c11_i32_0
  let v5 : BitVec 32 := Scalar.addi v4 arg1
  let c47_i32_1 : BitVec 32 := 47#32
  let v6 : BitVec 32 := Scalar.minsi v5 c47_i32_1
  let c128_i32_2 : BitVec 32 := 128#32
  let v7 : BitVec 32 := Scalar.muli v6 c128_i32_2
  let c3072_i32 : BitVec 32 := 3072#32
  let v8 : BitVec 1 := Scalar.cmpi .slt v7 c3072_i32
  let c0_i32 : BitVec 32 := 0#32
  let c8_i32 : BitVec 32 := 8#32
  let v9 : BitVec 32 := Scalar.select v8 c0_i32 c8_i32
  let v10 : BitVec 32 := Scalar.addi v3 v9
  v10
def k0_cond2 (i : grid0.Coords) : BitVec 1 :=
  let arg0 : BitVec 32 := BitVec.ofNat 32 (i 0).val
  let c11_i32 : BitVec 32 := 11#32
  let v20 : BitVec 32 := Scalar.muli arg0 c11_i32
  let arg1 : BitVec 32 := BitVec.ofNat 32 (i 1).val
  let v21 : BitVec 32 := Scalar.addi v20 arg1
  let c48_i32 : BitVec 32 := 48#32
  let v22 : BitVec 1 := Scalar.cmpi .slt v21 c48_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c47_i32 : BitVec 32 := 47#32
  let v2 : BitVec 32 := Scalar.minsi v1 c47_i32
  let c128_i32 : BitVec 32 := 128#32
  let v3 : BitVec 32 := Scalar.muli v2 c128_i32
  let c11_i32_0 : BitVec 32 := 11#32
  let v4 : BitVec 32 := Scalar.muli arg0 c11_i32_0
  let v5 : BitVec 32 := Scalar.addi v4 arg1
  let c47_i32_1 : BitVec 32 := 47#32
  let v6 : BitVec 32 := Scalar.minsi v5 c47_i32_1
  let c128_i32_2 : BitVec 32 := 128#32
  let v7 : BitVec 32 := Scalar.muli v6 c128_i32_2
  let c3072_i32 : BitVec 32 := 3072#32
  let v8 : BitVec 1 := Scalar.cmpi .slt v7 c3072_i32
  let c0_i32 : BitVec 32 := 0#32
  let c8_i32 : BitVec 32 := 8#32
  let v9 : BitVec 32 := Scalar.select v8 c0_i32 c8_i32
  let v10 : BitVec 32 := Scalar.addi v3 v9
  let v11 : BitVec 32 := v10
  let c0_i32_3 : BitVec 32 := 0#32
  let c0_i32_4 : BitVec 32 := 0#32
  let c0_i32_5 : BitVec 32 := 0#32
  ![c0_i32_3.toNat, v11.toNat, c0_i32_4.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c47_i32 : BitVec 32 := 47#32
  let v2 : BitVec 32 := Scalar.minsi v1 c47_i32
  let c0_i32 : BitVec 32 := 0#32
  let c0_i32_0 : BitVec 32 := 0#32
  ![c0_i32.toNat, v2.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnRestRefIdeal.lean ====
abbrev S2x4096x2048 : Shape := ⟨3, ![2, 4096, 2048]⟩
abbrev S1x2048 : Shape := ⟨2, ![1, 2048]⟩
abbrev S2048x5632 : Shape := ⟨2, ![2048, 5632]⟩
abbrev S5632x2048 : Shape := ⟨2, ![5632, 2048]⟩
abbrev S1x2048x6168 : Shape := ⟨3, ![1, 2048, 6168]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x5632 : Shape := ⟨3, ![2, 4096, 5632]⟩
abbrev S2048x6168 : Shape := ⟨2, ![2048, 6168]⟩
abbrev S2048x3072 : Shape := ⟨2, ![2048, 3072]⟩
abbrev S2048x6144 : Shape := ⟨2, ![2048, 6144]⟩
abbrev S8192x2048 : Shape := ⟨2, ![8192, 2048]⟩
abbrev S7168x2048 : Shape := ⟨2, ![7168, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048x6168, .f32⟩
  | .hbm, ⟨6, _⟩ => ⟨S2048, .f32⟩
  | .hbm, ⟨7, _⟩ => ⟨S2x4096x2048, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S1x1x2048, .f32⟩
  | .hbm, ⟨21, _⟩ => ⟨S2x4096x2048, .f32⟩
  | .hbm, ⟨22, _⟩ => ⟨S2x4096x2048, .f32⟩
  | .hbm, ⟨23, _⟩ => ⟨S2048x5632, .f32⟩
  | .hbm, ⟨24, _⟩ => ⟨S2x4096x5632, .f32⟩
  | .hbm, ⟨25, _⟩ => ⟨S2x4096x5632, .f32⟩
  | .hbm, ⟨26, _⟩ => ⟨S2x4096x5632, .f32⟩
  | .hbm, ⟨27, _⟩ => ⟨S_, .f32⟩
  | .hbm, ⟨28, _⟩ => ⟨S2x4096x5632, .f32⟩
  | .hbm, ⟨29, _⟩ => ⟨S2x4096x5632, .f32⟩
  | .hbm, ⟨30, _⟩ => ⟨S_, .f32⟩
  | .hbm, ⟨31, _⟩ => ⟨S2x4096x5632, .f32⟩
  | .hbm, ⟨32, _⟩ => ⟨S2x4096x5632, .f32⟩
  | .hbm, ⟨33, _⟩ => ⟨S2x4096x5632, .f32⟩
  | .hbm, ⟨34, _⟩ => ⟨S2048x5632, .f32⟩
  | .hbm, ⟨35, _⟩ => ⟨S2x4096x5632, .f32⟩
  | .hbm, ⟨36, _⟩ => ⟨S2x4096x5632, .f32⟩
  | .hbm, ⟨37, _⟩ => ⟨S5632x2048, .f32⟩
  | .hbm, ⟨38, _⟩ => ⟨S2x4096x2048, .f32⟩
  | .hbm, ⟨39, _⟩ => ⟨S_, .f32⟩
  | .hbm, ⟨40, _⟩ => ⟨S2x4096x2048, .f32⟩
  | .hbm, ⟨41, _⟩ => ⟨S2x4096x2048, .f32⟩
  | .hbm, ⟨42, _⟩ => ⟨S2x4096x2048, .f32⟩
  | .hbm, ⟨43, _⟩ => ⟨S2048x6168, .f32⟩
  | .hbm, ⟨44, _⟩ => ⟨S2048x3072, .f32⟩
  | .hbm, ⟨45, _⟩ => ⟨S2048x6168, .f32⟩
  | .hbm, ⟨46, _⟩ => ⟨S2048x3072, .f32⟩
  | .hbm, ⟨47, _⟩ => ⟨S2048x6144, .f32⟩
  | .hbm, ⟨48, _⟩ => ⟨S8192x2048, .f32⟩
  | .hbm, ⟨49, _⟩ => ⟨S7168x2048, .f32⟩
  | .hbm, ⟨50, _⟩ => ⟨S2048x6144, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Proj.lean ====
abbrev S1024x2048 : Shape := ⟨2, ![1024, 2048]⟩
abbrev S7168x2048 : Shape := ⟨2, ![7168, 2048]⟩
abbrev S1x2048 : Shape := ⟨2, ![1, 2048]⟩
abbrev S2048x6144 : Shape := ⟨2, ![2048, 6144]⟩
abbrev S1x2048x6168 : Shape := ⟨3, ![1, 2048, 6168]⟩
abbrev S2048 : Shape := ⟨1, ![2048]⟩
abbrev S1x6168x2048 : Shape := ⟨3, ![1, 6168, 2048]⟩
abbrev S6x8192x512 : Shape := ⟨3, ![6, 8192, 512]⟩
abbrev S1x8192x512 : Shape := ⟨3, ![1, 8192, 512]⟩
abbrev S2x8192x512 : Shape := ⟨3, ![2, 8192, 512]⟩
abbrev S8192x128 : Shape := ⟨2, ![8192, 128]⟩
abbrev S512x2048 : Shape := ⟨2, ![512, 2048]⟩
abbrev S1x8x2048 : Shape := ⟨3, ![1, 8, 2048]⟩
abbrev S1x16x2048 : Shape := ⟨3, ![1, 16, 2048]⟩
abbrev S6x512x512 : Shape := ⟨3, ![6, 512, 512]⟩
abbrev S1x512x512 : Shape := ⟨3, ![1, 512, 512]⟩
abbrev S2x512x512 : Shape := ⟨3, ![2, 512, 512]⟩
abbrev S512x128 : Shape := ⟨2, ![512, 128]⟩
abbrev S512 : Shape := ⟨1, ![512]⟩
abbrev S512x1 : Shape := ⟨2, ![512, 1]⟩
abbrev S8x2048 : Shape := ⟨2, ![8, 2048]⟩
abbrev S512x8 : Shape := ⟨2, ![512, 8]⟩
abbrev S16x2048 : Shape := ⟨2, ![16, 2048]⟩
abbrev S512x16 : Shape := ⟨2, ![512, 16]⟩
abbrev S2048x512 : Shape := ⟨2, ![2048, 512]⟩
abbrev S512x512 : Shape := ⟨2, ![512, 512]⟩

abbrev nBuf : Space → Nat
  | .hbm => 14
  | .vmem => 19
  | .smem => 0
  | _ => 0

abbrev bufTy : (tb : Table) → Fin (tcTables nBuf tb) → BufTy
  | .hbm, ⟨0, _⟩ => ⟨S1024x2048, .f32⟩
  | .hbm, ⟨1, _⟩ => ⟨S7168x2048, .f32⟩
  | .hbm, ⟨2, _⟩ => ⟨S1x2048, .f32⟩
  | .hbm, ⟨3, _⟩ => ⟨S2048x6144, .bf16⟩
  | .hbm, ⟨4, _⟩ => ⟨S1x2048x6168, .f32⟩
  | .hbm, ⟨5, _⟩ => ⟨S2048, .f32⟩
  | .hbm, ⟨6, _⟩ => ⟨S1x2048, .f32⟩
  | .hbm, ⟨7, _⟩ => ⟨S1x6168x2048, .f32⟩
  | .hbm, ⟨8, _⟩ => ⟨S6x8192x512, .bf16⟩
  | .hbm, ⟨9, _⟩ => ⟨S1x8192x512, .bf16⟩
  | .hbm, ⟨10, _⟩ => ⟨S1x8192x512, .f32⟩
  | .hbm, ⟨11, _⟩ => ⟨S2x8192x512, .bf16⟩
  | .hbm, ⟨12, _⟩ => ⟨S2x8192x512, .f32⟩
  | .hbm, ⟨13, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S1x2048, .f32⟩
  | .local _ .vmem, ⟨4, _⟩ => ⟨S2048x6144, .bf16⟩
  | .local _ .vmem, ⟨5, _⟩ => ⟨S1x8x2048, .f32⟩
  | .local _ .vmem, ⟨6, _⟩ => ⟨S1x16x2048, .f32⟩
  | .local _ .vmem, ⟨7, _⟩ => ⟨S6x512x512, .bf16⟩
  | .local _ .vmem, ⟨8, _⟩ => ⟨S6x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .f32⟩
  | .local _ .vmem, ⟨12, _⟩ => ⟨S1x512x512, .f32⟩
  | .local _ .vmem, ⟨13, _⟩ => ⟨S2x512x512, .bf16⟩
  | .local _ .vmem, ⟨14, _⟩ => ⟨S2x512x512, .bf16⟩
  | .local _ .vmem, ⟨15, _⟩ => ⟨S2x512x512, .f32⟩
  | .local _ .vmem, ⟨16, _⟩ => ⟨S2x512x512, .f32⟩
  | .local _ .vmem, ⟨17, _⟩ => ⟨S512x128, .f32⟩
  | .local _ .vmem, ⟨18, _⟩ => ⟨S512x128, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c2_i32_0 : BitVec 32 := 2#32
  let v3 : BitVec 1 := Scalar.cmpi .sge arg0 c2_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c3072_i32 : BitVec 32 := 3072#32
  let c0_i32_0 : BitVec 32 := 0#32
  let c0_i32_1 : BitVec 32 := 0#32
  ![c0_i32.toNat, c3072_i32.toNat, c0_i32_0.toNat]

def cc0_transform_5 (i : grid0.Coords) : Fin 3 → Nat :=
  let arg0 : BitVec 32 := BitVec.ofNat 32 (i 0).val
  let c0_i32 : BitVec 32 := 0#32
  let c6152_i32 : BitVec 32 := 6152#32
  let c0_i32_0 : BitVec 32 := 0#32
  let c0_i32_1 : BitVec 32 := 0#32
  ![c0_i32.toNat, c6152_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjRefIdeal.lean ====
abbrev S1024x2048 : Shape := ⟨2, ![1024, 2048]⟩
abbrev S7168x2048 : Shape := ⟨2, ![7168, 2048]⟩
abbrev S1x2048 : Shape := ⟨2, ![1, 2048]⟩
abbrev S2048x6144 : Shape := ⟨2, ![2048, 6144]⟩
abbrev S1x2048x6168 : Shape := ⟨3, ![1, 2048, 6168]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x6144 : Shape := ⟨2, ![8192, 6144]⟩
abbrev S2048x6168 : Shape := ⟨2, ![2048, 6168]⟩
abbrev S2048x8 : Shape := ⟨2, ![2048, 8]⟩
abbrev S8192x8 : Shape := ⟨2, ![8192, 8]⟩
abbrev S2048x16 : Shape := ⟨2, ![2048, 16]⟩
abbrev S8192x16 : Shape := ⟨2, ![8192, 16]⟩
abbrev S8192x104 : Shape := ⟨2, ![8192, 104]⟩
abbrev S8192x128 : Shape := ⟨2, ![8192, 128]⟩
abbrev S8192x3072 : Shape := ⟨2, ![8192, 3072]⟩
abbrev S8192x6x512 : Shape := ⟨3, ![8192, 6, 512]⟩
abbrev S6x8192x512 : Shape := ⟨3, ![6, 8192, 512]⟩
abbrev S8192x512 : Shape := ⟨2, ![8192, 512]⟩
abbrev S8192x1x512 : Shape := ⟨3, ![8192, 1, 512]⟩
abbrev S1x8192x512 : Shape := ⟨3, ![1, 8192, 512]⟩
abbrev S8192x1024 : Shape := ⟨2, ![8192, 1024]⟩
abbrev S8192x2x512 : Shape := ⟨3, ![8192, 2, 512]⟩
abbrev S2x8192x512 : Shape := ⟨3, ![2, 8192, 512]⟩

abbrev nBuf : Space → Nat
  | .hbm => 55
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S7168x2048, .f32⟩
  | .hbm, ⟨2, _⟩ => ⟨S1x2048, .f32⟩
  | .hbm, ⟨3, _⟩ => ⟨S2048x6144, .bf16⟩
  | .hbm, ⟨4, _⟩ => ⟨S1x2048x6168, .f32⟩
  | .hbm, ⟨5, _⟩ => ⟨S8192x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S2048x6144, .f32⟩
  | .hbm, ⟨24, _⟩ => ⟨S8192x6144, .f32⟩
  | .hbm, ⟨25, _⟩ => ⟨S2048x6168, .f32⟩
  | .hbm, ⟨26, _⟩ => ⟨S2048x8, .f32⟩
  | .hbm, ⟨27, _⟩ => ⟨S8192x8, .f32⟩
  | .hbm, ⟨28, _⟩ => ⟨S2048x6168, .f32⟩
  | .hbm, ⟨29, _⟩ => ⟨S2048x16, .f32⟩
  | .hbm, ⟨30, _⟩ => ⟨S8192x16, .f32⟩
  | .hbm, ⟨31, _⟩ => ⟨S_, .f32⟩
  | .hbm, ⟨32, _⟩ => ⟨S8192x104, .f32⟩
  | .hbm, ⟨33, _⟩ => ⟨S8192x128, .f32⟩
  | .hbm, ⟨34, _⟩ => ⟨S8192x3072, .f32⟩
  | .hbm, ⟨35, _⟩ => ⟨S8192x6x512, .f32⟩
  | .hbm, ⟨36, _⟩ => ⟨S6x8192x512, .f32⟩
  | .hbm, ⟨37, _⟩ => ⟨S6x8192x512, .bf16⟩
  | .hbm, ⟨38, _⟩ => ⟨S8192x512, .f32⟩
  | .hbm, ⟨39, _⟩ => ⟨S8192x1x512, .f32⟩
  | .hbm, ⟨40, _⟩ => ⟨S1x8192x512, .f32⟩
  | .hbm, ⟨41, _⟩ => ⟨S_, .f32⟩
  | .hbm, ⟨42, _⟩ => ⟨S1x8192x512, .f32⟩
  | .hbm, ⟨43, _⟩ => ⟨S1x8192x512, .f32⟩
  | .hbm, ⟨44, _⟩ => ⟨S1x8192x512, .bf16⟩
  | .hbm, ⟨45, _⟩ => ⟨S8192x512, .f32⟩
  | .hbm, ⟨46, _⟩ => ⟨S8192x1x512, .f32⟩
  | .hbm, ⟨47, _⟩ => ⟨S1x8192x512, .f32⟩
  | .hbm, ⟨48, _⟩ => ⟨S8192x1024, .f32⟩
  | .hbm, ⟨49, _⟩ => ⟨S8192x2x512, .f32⟩
  | .hbm, ⟨50, _⟩ => ⟨S2x8192x512, .f32⟩
  | .hbm, ⟨51, _⟩ => ⟨S2x8192x512, .bf16⟩
  | .hbm, ⟨52, _⟩ => ⟨S8192x1024, .f32⟩
  | .hbm, ⟨53, _⟩ => ⟨S8192x2x512, .f32⟩
  | .hbm, ⟨54, _⟩ => ⟨S2x8192x512, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]
-- ==== Merge.lean ====
abbrev S1024x2048 : Shape := ⟨2, ![1024, 2048]⟩
abbrev S7168x2048 : Shape := ⟨2, ![7168, 2048]⟩
abbrev S1x2048 : Shape := ⟨2, ![1, 2048]⟩
abbrev S2x4096x1024 : Shape := ⟨3, ![2, 4096, 1024]⟩
abbrev S2048x4096 : Shape := ⟨2, ![2048, 4096]⟩
abbrev S1x4096 : Shape := ⟨2, ![1, 4096]⟩
abbrev S2048x2048 : Shape := ⟨2, ![2048, 2048]⟩
abbrev S1x2048x5632 : Shape := ⟨3, ![1, 2048, 5632]⟩
abbrev S1x2048x2048 : Shape := ⟨3, ![1, 2048, 2048]⟩
abbrev S1x256x2048 : Shape := ⟨3, ![1, 256, 2048]⟩
abbrev S2048 : Shape := ⟨1, ![2048]⟩
abbrev S8192x1024 : Shape := ⟨2, ![8192, 1024]⟩
abbrev S4096 : Shape := ⟨1, ![4096]⟩
abbrev S2048x5632 : Shape := ⟨2, ![2048, 5632]⟩
abbrev S256x2048 : Shape := ⟨2, ![256, 2048]⟩
abbrev S8192x2048 : Shape := ⟨2, ![8192, 2048]⟩
abbrev S256x1024 : Shape := ⟨2, ![256, 1024]⟩
abbrev S64x5632 : Shape := ⟨2, ![64, 5632]⟩
abbrev S64x2048 : Shape := ⟨2, ![64, 2048]⟩
abbrev S16x2048 : Shape := ⟨2, ![16, 2048]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S1x512 : Shape := ⟨2, ![1, 512]⟩
abbrev S1024x512 : Shape := ⟨2, ![1024, 512]⟩
abbrev S512x2048 : Shape := ⟨2, ![512, 2048]⟩

abbrev nBuf : Space → Nat
  | .hbm => 29
  | .vmem => 31
  | .smem => 0
  | _ => 0

abbrev bufTy : (tb : Table) → Fin (tcTables nBuf tb) → BufTy
  | .hbm, ⟨0, _⟩ => ⟨S1024x2048, .f32⟩
  | .hbm, ⟨1, _⟩ => ⟨S7168x2048, .f32⟩
  | .hbm, ⟨2, _⟩ => ⟨S1x2048, .f32⟩
  | .hbm, ⟨3, _⟩ => ⟨S2x4096x1024, .bf16⟩
  | .hbm, ⟨4, _⟩ => ⟨S2x4096x1024, .bf16⟩
  | .hbm, ⟨5, _⟩ => ⟨S2048x4096, .bf16⟩
  | .hbm, ⟨6, _⟩ => ⟨S1x4096, .f32⟩
  | .hbm, ⟨7, _⟩ => ⟨S1024x2048, .bf16⟩
  | .hbm, ⟨8, _⟩ => ⟨S1024x2048, .bf16⟩
  | .hbm, ⟨9, _⟩ => ⟨S2048x2048, .bf16⟩
  | .hbm, ⟨10, _⟩ => ⟨S1x2048x5632, .f32⟩
  | .hbm, ⟨11, _⟩ => ⟨S1x2048x5632, .f32⟩
  | .hbm, ⟨12, _⟩ => ⟨S1x2048x2048, .f32⟩
  | .hbm, ⟨13, _⟩ => ⟨S1x256x2048, .f32⟩
  | .hbm, ⟨14, _⟩ => ⟨S2048, .f32⟩
  | .hbm, ⟨15, _⟩ => ⟨S1x2048, .f32⟩
  | .hbm, ⟨16, _⟩ => ⟨S8192x1024, .bf16⟩
  | .hbm, ⟨17, _⟩ => ⟨S8192x1024, .bf16⟩
  | .hbm, ⟨18, _⟩ => ⟨S4096, .f32⟩
  | .hbm, ⟨19, _⟩ => ⟨S1x4096, .f32⟩
  | .hbm, ⟨20, _⟩ => ⟨S2048x5632, .f32⟩
  | .hbm, ⟨21, _⟩ => ⟨S2048x5632, .f32⟩
  | .hbm, ⟨22, _⟩ => ⟨S2048x2048, .f32⟩
  | .hbm, ⟨23, _⟩ => ⟨S256x2048, .f32⟩
  | .hbm, ⟨24, _⟩ => ⟨S8192x2048, .f32⟩
  | .hbm, ⟨25, _⟩ => ⟨S2048x5632, .bf16⟩
  | .hbm, ⟨26, _⟩ => ⟨S2048x5632, .bf16⟩
  | .hbm, ⟨27, _⟩ => ⟨S2048x2048, .bf16⟩
  | .hbm, ⟨28, _⟩ => ⟨S256x2048, .bf16⟩
  | .local _ .vmem, ⟨0, _⟩ => ⟨S1x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S2048x4096, .bf16⟩
  | .local _ .vmem, ⟨9, _⟩ => ⟨S1x4096, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S64x5632, .f32⟩
  | .local _ .vmem, ⟨14, _⟩ => ⟨S64x5632, .f32⟩
  | .local _ .vmem, ⟨15, _⟩ => ⟨S64x5632, .f32⟩
  | .local _ .vmem, ⟨16, _⟩ => ⟨S64x5632, .f32⟩
  | .local _ .vmem, ⟨17, _⟩ => ⟨S64x2048, .f32⟩
  | .local _ .vmem, ⟨18, _⟩ => ⟨S64x2048, .f32⟩
  | .local _ .vmem, ⟨19, _⟩ => ⟨S16x2048, .f32⟩
  | .local _ .vmem, ⟨20, _⟩ => ⟨S16x2048, .f32⟩
  | .local _ .vmem, ⟨21, _⟩ => ⟨S256x2048, .f32⟩
  | .local _ .vmem, ⟨22, _⟩ => ⟨S256x2048, .f32⟩
  | .local _ .vmem, ⟨23, _⟩ => ⟨S64x5632, .bf16⟩
  | .local _ .vmem, ⟨24, _⟩ => ⟨S64x5632, .bf16⟩
  | .local _ .vmem, ⟨25, _⟩ => ⟨S64x5632, .bf16⟩
  | .local _ .vmem, ⟨26, _⟩ => ⟨S64x5632, .bf16⟩
  | .local _ .vmem, ⟨27, _⟩ => ⟨S64x2048, .bf16⟩
  | .local _ .vmem, ⟨28, _⟩ => ⟨S64x2048, .bf16⟩
  | .local _ .vmem, ⟨29, _⟩ => ⟨S16x2048, .bf16⟩
  | .local _ .vmem, ⟨30, _⟩ => ⟨S16x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev main_v10_2 : Ref sig .tc := ⟨.hbm, 26, rfl⟩
abbrev main_v10_3 : Ref sig .tc := ⟨.hbm, 27, rfl⟩
abbrev main_v10_4 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![32], ![false]⟩

def k0_cond5 (i : grid0.Coords) : BitVec 1 :=
  let arg0 : BitVec 32 := BitVec.ofNat 32 (i 0).val
  let c4_i32 : BitVec 32 := 4#32
  let v12 : BitVec 1 := Scalar.cmpi .slt arg0 c4_i32
  let v13 : BitVec 32 := Scalar.extui v12
  let c0_i32_5 : BitVec 32 := 0#32
  let v14 : BitVec 1 := Scalar.cmpi .ne v13 c0_i32_5
  v14

def k0_cond6 (i : grid0.Coords) : BitVec 1 :=
  let arg0 : BitVec 32 := BitVec.ofNat 32 (i 0).val
  let c4_i32_6 : BitVec 32 := 4#32
  let v15 : BitVec 1 := Scalar.cmpi .sge arg0 c4_i32_6
  let v16 : BitVec 32 := Scalar.extui v15
  let c0_i32_7 : BitVec 32 := 0#32
  let v17 : BitVec 1 := Scalar.cmpi .ne v16 c0_i32_7
  v17

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .slt arg0 c32_i32_0
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .slt arg0 c32_i32_2
  let v7 : BitVec 32 := Scalar.extui v6
  let c0_i32_3 : BitVec 32 := 0#32
  let v8 : BitVec 1 := Scalar.cmpi .ne v7 c0_i32_3
  v8

def k0_cond4 (i : grid0.Coords) : BitVec 1 :=
  let arg0 : BitVec 32 := BitVec.ofNat 32 (i 0).val
  let c16_i32 : BitVec 32 := 16#32
  let v9 : BitVec 1 := Scalar.cmpi .slt arg0 c16_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S64x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x5632 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x5632 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x5632 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MergeRefIdeal.lean ====
abbrev S1024x2048 : Shape := ⟨2, ![1024, 2048]⟩
abbrev S7168x2048 : Shape := ⟨2, ![7168, 2048]⟩
abbrev S1x2048 : Shape := ⟨2, ![1, 2048]⟩
abbrev S2x4096x1024 : Shape := ⟨3, ![2, 4096, 1024]⟩
abbrev S2048x4096 : Shape := ⟨2, ![2048, 4096]⟩
abbrev S1x4096 : Shape := ⟨2, ![1, 4096]⟩
abbrev S2048x2048 : Shape := ⟨2, ![2048, 2048]⟩
abbrev S1x2048x5632 : Shape := ⟨3, ![1, 2048, 5632]⟩
abbrev S1x2048x2048 : Shape := ⟨3, ![1, 2048, 2048]⟩
abbrev S1x256x2048 : Shape := ⟨3, ![1, 256, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S4096 : Shape := ⟨1, ![4096]⟩
abbrev S8192x1024 : Shape := ⟨2, ![8192, 1024]⟩
abbrev S2048x5632 : Shape := ⟨2, ![2048, 5632]⟩
abbrev S256x2048 : Shape := ⟨2, ![256, 2048]⟩

abbrev nBuf : Space → Nat
  | .hbm => 70
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S7168x2048, .f32⟩
  | .hbm, ⟨2, _⟩ => ⟨S1x2048, .f32⟩
  | .hbm, ⟨3, _⟩ => ⟨S2x4096x1024, .bf16⟩
  | .hbm, ⟨4, _⟩ => ⟨S2x4096x1024, .bf16⟩
  | .hbm, ⟨5, _⟩ => ⟨S2048x4096, .bf16⟩
  | .hbm, ⟨6, _⟩ => ⟨S1x4096, .f32⟩
  | .hbm, ⟨7, _⟩ => ⟨S1024x2048, .bf16⟩
  | .hbm, ⟨8, _⟩ => ⟨S1024x2048, .bf16⟩
  | .hbm, ⟨9, _⟩ => ⟨S2048x2048, .bf16⟩
  | .hbm, ⟨10, _⟩ => ⟨S1x2048x5632, .f32⟩
  | .hbm, ⟨11, _⟩ => ⟨S1x2048x5632, .f32⟩
  | .hbm, ⟨12, _⟩ => ⟨S1x2048x2048, .f32⟩
  | .hbm, ⟨13, _⟩ => ⟨S1x256x2048, .f32⟩
  | .hbm, ⟨14, _⟩ => ⟨S8192x2048, .f32⟩
  | .hbm, ⟨15, _⟩ => ⟨S2048, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S2048x4096, .f32⟩
  | .hbm, ⟨33, _⟩ => ⟨S8192x4096, .f32⟩
  | .hbm, ⟨34, _⟩ => ⟨S4096, .f32⟩
  | .hbm, ⟨35, _⟩ => ⟨S1x4096, .f32⟩
  | .hbm, ⟨36, _⟩ => ⟨S8192x4096, .f32⟩
  | .hbm, ⟨37, _⟩ => ⟨S8192x4096, .f32⟩
  | .hbm, ⟨38, _⟩ => ⟨S8192x4096, .f32⟩
  | .hbm, ⟨39, _⟩ => ⟨S8192x4096, .f32⟩
  | .hbm, ⟨40, _⟩ => ⟨S_, .f32⟩
  | .hbm, ⟨41, _⟩ => ⟨S8192x4096, .f32⟩
  | .hbm, ⟨42, _⟩ => ⟨S8192x4096, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S2x4096x1024, .f32⟩
  | .hbm, ⟨47, _⟩ => ⟨S8192x1024, .f32⟩
  | .hbm, ⟨48, _⟩ => ⟨S1024x2048, .f32⟩
  | .hbm, ⟨49, _⟩ => ⟨S8192x2048, .f32⟩
  | .hbm, ⟨50, _⟩ => ⟨S2x4096x1024, .f32⟩
  | .hbm, ⟨51, _⟩ => ⟨S8192x1024, .f32⟩
  | .hbm, ⟨52, _⟩ => ⟨S1024x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S2048x2048, .f32⟩
  | .hbm, ⟨60, _⟩ => ⟨S8192x2048, .f32⟩
  | .hbm, ⟨61, _⟩ => ⟨S8192x2048, .f32⟩
  | .hbm, ⟨62, _⟩ => ⟨S2048x5632, .f32⟩
  | .hbm, ⟨63, _⟩ => ⟨S2048x5632, .bf16⟩
  | .hbm, ⟨64, _⟩ => ⟨S2048x5632, .f32⟩
  | .hbm, ⟨65, _⟩ => ⟨S2048x5632, .bf16⟩
  | .hbm, ⟨66, _⟩ => ⟨S2048x2048, .f32⟩
  | .hbm, ⟨67, _⟩ => ⟨S2048x2048, .bf16⟩
  | .hbm, ⟨68, _⟩ => ⟨S256x2048, .f32⟩
  | .hbm, ⟨69, _⟩ => ⟨S256x2048, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Proof.LayerMath.lean ====
module

public import Idealize.ShloMosaic.Lib.Pointwise

/-! The layer's formulas on rows of extended reals, which both programs of each pair are shown to compute. -/

@[expose] public section

noncomputable section

open Idealize.ShloMosaic

namespace Cert.LayerMath

/-- The root-mean-square normalisation of a row `x` of 2048 numbers under the weight `g`. -/
def nrm (x g : Fin 2048 → EReal) (k : Fin 2048) : EReal :=
  x k * Ideal.rsqrt (Ideal.div (∑ i, x i * x i) (Ideal.ofBits .f32 0x45000000#32) + Ideal.ofBits .f32 0x358637BD#32) * g k

/-- The logistic function. -/
def sig (z : EReal) : EReal := Ideal.div 1 (1 + Ideal.exp (-z))

/-- A row of the hidden state after the per-layer embedding is added through its gate. -/
def emb (x g : Fin 2048 → EReal) (wg : Fin 2048 → Fin 2048 → EReal) (p : Fin 256 → EReal)
    (wp : Fin 256 → Fin 2048 → EReal) (n : Fin 2048) : EReal :=
  x n + sig (∑ k, nrm x g k * wg k n) * ∑ k, p k * wp k n

/-- The number one half. -/
def half : EReal := Ideal.ofBits .f32 0x3F000000#32

/-- The summand of lane `l` of the feed-forward unit's last contraction, for the normalised row `xn`. -/
def ffnT (xn : Fin 2048 → EReal) (wg wu : Fin 2048 → Fin 5632 → EReal) (wd : Fin 5632 → Fin 2048 → EReal)
    (n : Fin 2048) (l : Fin 5632) : EReal :=
  half * ((∑ k, xn k * wg k l) * sig (∑ k, xn k * wg k l)) * (∑ k, xn k * wu k l) * wd l n

/-- A row after the feed-forward half-step. -/
def ffn (x g : Fin 2048 → EReal) (wg wu : Fin 2048 → Fin 5632 → EReal) (wd : Fin 5632 → Fin 2048 → EReal)
    (n : Fin 2048) : EReal :=
  x n + ∑ l, ffnT (nrm x g) wg wu wd n l

/-- The sum over the `s`-th of eleven tiles of 512 lanes. -/
def tile (f : Fin 5632 → EReal) (s : ℕ) : EReal :=
  if h : s < 11 then ∑ k : Fin 512, f ⟨s * 512 + k, by omega⟩ else 0

/-- Eleven tiles make up all lanes. -/
theorem sum_tiles (f : Fin 5632 → EReal) : ∑ s ∈ Finset.range 11, tile f s = ∑ l, f l := by
  rw [Finset.sum_range, Fin.sum_univ_tiles 11 512 rfl f]
  refine Finset.sum_congr rfl fun s _ => ?_
  rw [tile, dif_pos s.isLt]

/-- The sum over the `s`-th of 22 tiles of 256 lanes. -/
def tile22 (f : Fin 5632 → EReal) (s : ℕ) : EReal :=
  if h : s < 22 then ∑ k : Fin 256, f ⟨s * 256 + k, by omega⟩ else 0

/-- The 22 tiles make up all lanes. -/
theorem sum_tiles22 (f : Fin 5632 → EReal) : ∑ s ∈ Finset.range 22, tile22 f s = ∑ l, f l := by
  rw [Finset.sum_range, Fin.sum_univ_tiles 22 256 rfl f]
  refine Finset.sum_congr rfl fun s _ => ?_
  rw [tile22, dif_pos s.isLt]

/-- One half is a finite number that is not negative. -/
theorem half_eq : half = ((1 / 2 : ℝ) : EReal) := by
  unfold half
  simp [Ideal.ofBits, Ideal.ieee]
  norm_cast
  norm_num

/-- One half times a sum is the sum of the halves. -/
theorem half_mul_sum {ι : Type} (s : Finset ι) (f : ι → EReal) : half * ∑ i ∈ s, f i = ∑ i ∈ s, half * f i := by
  classical
  induction s using Finset.induction_on with
  | empty => simp
  | insert a s ha ih =>
    rw [Finset.sum_insert ha, Finset.sum_insert ha, ← ih,
      EReal.left_distrib_of_nonneg_of_ne_top (by rw [half_eq]; exact_mod_cast (by norm_num : (0 : ℝ) ≤ 1 / 2))
        (by rw [half_eq]; exact EReal.coe_ne_top _)]

/-- The half-step with the factor one half outside the last contraction. -/
theorem ffn_eq (x g : Fin 2048 → EReal) (wg wu : Fin 2048 → Fin 5632 → EReal) (wd : Fin 5632 → Fin 2048 → EReal)
    (n : Fin 2048) :
    x n + half * ∑ l, (∑ k, nrm x g k * wg k l) * sig (∑ k, nrm x g k * wg k l) * (∑ k, nrm x g k * wu k l) * wd l n
    = ffn x g wg wu wd n := by
  rw [half_mul_sum, ffn]
  refine congrArg _ (Finset.sum_congr rfl fun l _ => ?_)
  simp only [ffnT, mul_assoc]

end Cert.LayerMath
-- ==== Proof.FfnPay.lean ====
module

public import proofs.«01_k».proof.Proof.Gen.FfnIdeal.Frame
public import proofs.«01_k».proof.Proof.Gen.FfnRefIdeal.Read
public import proofs.«01_k».proof.Proof.LayerMath
public import Idealize.ShloMosaic.Lib.Pipeline.ValueKit

/-! The body of the call `ffn` and its reference, both read as the formulas of `LayerMath`. -/

@[expose] public section

set_option maxRecDepth 16384

noncomputable section

open Idealize.ShloMosaic Idealize.ShloMosaic.TcCoe Idealize.SL.Sem

namespace Cert.FfnIdeal.RefValue

open Cert.FfnIdeal Cert.FfnIdeal.Gen Cert.LayerMath

/-- The row tile as it is first stored into the result's block. -/
theorem pay1_at (x0 : FVec Ideal S1024x2048 .f32) (r : Fin 1024) (n : Fin 2048) :
    k0_pay1 (F := Ideal) x0 (ix2 r n) = x0 (ix2 r n) := by
  pointwise [k0_pay1]

/-- The normalised row tile the body keeps in scratch. -/
theorem pay2_at (x0 : FVec Ideal S1024x2048 .f32) (x1 : FVec Ideal S1x2048 .f32) (r : Fin 1024) (k : Fin 2048) :
    k0_pay2 (F := Ideal) x0 x1 (ix2 r k) = nrm (fun k => x0 (ix2 r k)) (fun k => x1 (ix2 0 k)) k := by
  pointwise [k0_pay1, k0_pay2]
  rfl

/-- The accumulation of one tile of 512 lanes. -/
theorem pay3_at (xn : FVec Ideal S1024x2048 .bf16) (wg wu : FVec Ideal S2048x512 .bf16)
    (acc : FVec Ideal S1024x2048 .f32) (wd : FVec Ideal S512x2048 .bf16) (r : Fin 1024) (n : Fin 2048) :
    k0_pay3 (F := Ideal) xn wg wu acc wd (ix2 r n) = acc (ix2 r n) +
      ∑ f : Fin 512, half * ((∑ k, xn (ix2 r k) * wg (ix2 k f)) * LayerMath.sig (∑ k, xn (ix2 r k) * wg (ix2 k f)))
        * (∑ k, xn (ix2 r k) * wu (ix2 k f)) * wd (ix2 f n) := by
  pointwise [k0_pay3]
  rfl

open Cert.FfnRefIdeal.Read in
/-- The reference's result. -/
theorem ref_at (h : FVec Ideal S2x4096x2048 .f32) (g : FVec Ideal S1x2048 .f32)
    (wg wu : FVec Ideal S1x2048x5632 .f32) (wd : FVec Ideal S1x5632x2048 .f32) (i : Fin 8192) (n : Fin 2048) :
    val_main_v31 (F := Ideal) h g wg wu wd (ix2 i n)
    = ffn (fun k => h (ix3 ⟨i / 4096, by omega⟩ ⟨i % 4096, by omega⟩ k)) (fun k => g (ix2 0 k))
        (fun k l => wg (ix3 0 k l)) (fun k l => wu (ix3 0 k l)) (fun l n => wd (ix3 0 l n)) n := by
  pointwise [val_main_v0, val_main_v1, val_main_cst, val_main_v2, val_main_v3, val_main_cst_0, val_main_v4,
    val_main_v5, val_main_cst_1, val_main_v6, val_main_v7, val_main_v8, val_main_v9, val_main_v10, val_main_v11,
    val_main_v12, val_main_v13, val_main_v14, val_main_v15, val_main_v16, val_main_v17, val_main_cst_2, val_main_v18,
    val_main_v19, val_main_cst_3, val_main_v20, val_main_v21, val_main_v22, val_main_v23, val_main_v24, val_main_v25,
    val_main_v26, val_main_v27, val_main_cst_4, val_main_v28, val_main_v29, val_main_v30, val_main_v31]
  exact ffn_eq (fun k => h (ix3 ⟨i / 4096, by omega⟩ ⟨i % 4096, by omega⟩ k)) (fun k => g (ix2 0 k))
    (fun k l => wg (ix3 0 k l)) (fun k l => wu (ix3 0 k l)) (fun l n => wd (ix3 0 l n)) n

end Cert.FfnIdeal.RefValue
-- ==== Proof.FfnValue.lean ====
module

public import proofs.«01_k».proof.Proof.FfnPay
public import Idealize.ShloMosaic.Lib.Pipeline.ValueKit
public import Idealize.ShloMosaic.Lib.Claim
public import Idealize.ShloMosaic.Lib.Pipeline.ReadBack

/-! The value of the call `ffn`: its result array is the reference's array. -/

@[expose] public section

set_option maxRecDepth 16384

noncomputable section

open Idealize.ShloMosaic Idealize.ShloMosaic.TcCoe Idealize.SL.Sem
open Idealize.ShloMosaic.Pipeline (Dat)

namespace Cert.FfnIdeal.RefValue

open Cert.FfnIdeal Cert.FfnIdeal.Gen Cert.LayerMath

variable (m : (ℓ : Loc nD τ sig) → Buf (Elt Ideal) ℓ)

/-- The reference's result as a function of the arguments. -/
abbrev REF (h : FVec Ideal S2x4096x2048 .f32) (g : FVec Ideal S1x2048 .f32)
    (wg wu : FVec Ideal S1x2048x5632 .f32) (wd : FVec Ideal S1x5632x2048 .f32) : FVec Ideal S8192x2048 .f32 :=
  Cert.FfnRefIdeal.Read.val_main_v31 (F := Ideal) h g wg wu wd

/-- The block of each window at grid point `t`. -/
theorem idx_val : ∀ t : Fin cfg0.N, win0_0.index t = ![t.val / 11, 0] ∧ win0_1.index t = ![0, 0] ∧
    win0_2.index t = ![0, t.val % 11] ∧ win0_3.index t = ![0, t.val % 11] ∧ win0_4.index t = ![t.val % 11, 0] ∧
    win0_5.index t = ![t.val / 11, 0] ∧ t.val < 88 :=
  (by decide +kernel : ∀ t : Fin grid0.N, _)

variable (c : Dev nD)

/-- Row `r` of row tile `q` of the input. -/
def X (q : ℕ) (r : Fin 1024) (k : Fin 2048) : EReal :=
  (m ((c : Thread nD τ).loc main_arg0) : FVec Ideal S2x4096x2048 .f32)
    (ix3 ⟨(q * 1024 + r) / 4096 % 2, by omega⟩ ⟨(q * 1024 + r) % 4096, by omega⟩ k)

/-- The norm's weight. -/
def G (k : Fin 2048) : EReal := (m ((c : Thread nD τ).loc main_arg1) : FVec Ideal S1x2048 .f32) (ix2 0 k)

/-- The gate's weight. -/
def WG (k : Fin 2048) (l : Fin 5632) : EReal :=
  (m ((c : Thread nD τ).loc main_arg2) : FVec Ideal S1x2048x5632 .f32) (ix3 0 k l)

/-- The up projection's weight. -/
def WU (k : Fin 2048) (l : Fin 5632) : EReal :=
  (m ((c : Thread nD τ).loc main_arg3) : FVec Ideal S1x2048x5632 .f32) (ix3 0 k l)

/-- The down projection's weight. -/
def WD (l : Fin 5632) (n : Fin 2048) : EReal :=
  (m ((c : Thread nD τ).loc main_arg4) : FVec Ideal S1x5632x2048 .f32) (ix3 0 l n)

section
variable (t : Fin cfg0.N)

/-- The block of the input. -/
theorem blk0 (r : Fin 1024) (k : Fin 2048) : (iblk m c 0 t : FVec Ideal S1024x2048 .f32) (ix2 r k)
    = X m c (t.val / 11) r k := by
  have := (idx_val t).2.2.2.2.2.2
  unfold X
  blk_point [iblk, V, idx_val t]

/-- The block of the norm's weight. -/
theorem blk1 (k : Fin 2048) : (iblk m c 1 t : FVec Ideal S1x2048 .f32) (ix2 0 k) = G m c k := by
  unfold G
  blk_point [iblk, V, idx_val t]

/-- The block of the gate's weight. -/
theorem blk2 (k : Fin 2048) (f : Fin 512) : (iblk m c 2 t : FVec Ideal S2048x512 .bf16) (ix2 k f)
    = WG m c k ⟨t.val % 11 * 512 + f, by omega⟩ := by
  unfold WG
  blk_point [iblk, V, idx_val t]

/-- The block of the up projection's weight. -/
theorem blk3 (k : Fin 2048) (f : Fin 512) : (iblk m c 3 t : FVec Ideal S2048x512 .bf16) (ix2 k f)
    = WU m c k ⟨t.val % 11 * 512 + f, by omega⟩ := by
  unfold WU
  blk_point [iblk, V, idx_val t]

/-- The block of the down projection's weight. -/
theorem blk4 (f : Fin 512) (n : Fin 2048) : (iblk m c 4 t : FVec Ideal S512x2048 .bf16) (ix2 f n)
    = WD m c ⟨t.val % 11 * 512 + f, by omega⟩ n := by
  unfold WD
  blk_point [iblk, V, idx_val t]

end

/-- One point's accumulation, given the normalised row tile. -/
theorem step (t : Fin cfg0.N) (r : Fin 1024) (n : Fin 2048) (xn : FVec Ideal S1024x2048 .bf16)
    (acc : FVec Ideal S1024x2048 .f32) (hx : ∀ k, xn (ix2 r k) = nrm (X m c (t.val / 11) r) (G m c) k) :
    k0_pay3 (F := Ideal) xn (iblk m c 2 t) (iblk m c 3 t) acc (iblk m c 4 t) (ix2 r n) = acc (ix2 r n) +
      tile (ffnT (nrm (X m c (t.val / 11) r) (G m c)) (WG m c) (WU m c) (WD m c) n) (t.val % 11) := by
  rw [tile, dif_pos (Nat.mod_lt _ (by norm_num))]
  refine (pay3_at xn _ _ acc _ r n).trans ?_
  simp only [hx, blk2, blk3, blk4]
  rfl

/-- What the scratch and the result's block hold after point `n`: the normalised row tile; the row tile and the tiles of
    lanes added so far. -/
theorem holds_at (n : ℕ) (h : n < cfg0.N) (r : Fin 1024) (k : Fin 2048) :
    ((outsAt0 m c n h).2 : FVec Ideal S1024x2048 .bf16) (ix2 r k) = nrm (X m c (n / 11) r) (G m c) k ∧
    ((outsAt0 m c n h).1 : FVec Ideal S1024x2048 .f32) (ix2 r k) = X m c (n / 11) r k +
      ∑ s ∈ Finset.range (n % 11 + 1), tile (ffnT (nrm (X m c (n / 11) r) (G m c)) (WG m c) (WU m c) (WD m c) k) s := by
  induction n using Nat.strong_induction_on generalizing k with
  | _ n ih =>
    by_cases h0 : n % 11 = 0
    · have e := outsAt0_A m c ⟨n, h⟩ h0
      dsimp only at e
      rw [e]
      have e2 : ∀ k, k0_pay2 (F := Ideal) (iblk m c 0 ⟨n, h⟩) (iblk m c 1 ⟨n, h⟩) (ix2 r k)
          = nrm (X m c (n / 11) r) (G m c) k := by
        intro k
        refine (pay2_at _ _ r k).trans ?_
        have e0 := blk0 m c ⟨n, h⟩ r
        rw [funext e0, funext (blk1 m c ⟨n, h⟩)]
      refine ⟨?_, ?_⟩
      · frame_out
        exact e2 k
      · frame_out
        refine (step m c ⟨n, h⟩ r k _ _ e2).trans ?_
        rw [h0, Finset.sum_range_one]
        refine Ideal.add_congr ?_ rfl
        exact (pay1_at _ r k).trans (blk0 m c ⟨n, h⟩ r k)
    · have e := outsAt0_B m c ⟨n, h⟩ h0
      dsimp only at e
      rw [e]
      have hd : (n - 1) / 11 = n / 11 := by omega
      have hm : n % 11 = (n - 1) % 11 + 1 := by omega
      have ih' := fun k => ih (n - 1) (by omega) (by omega) k
      rw [hd] at ih'
      refine ⟨?_, ?_⟩
      · frame_out
        exact (ih' k).1
      · frame_out
        rw [read_unread_whole]
        refine (step m c ⟨n, h⟩ r k (outsAt0 m c (n - 1) (by omega)).2 (outsAt0 m c (n - 1) (by omega)).1
          fun k => (ih' k).1).trans ?_
        refine (Ideal.add_congr (ih' k).2 rfl).trans ?_
        dsimp only
        rw [Finset.sum_range_succ _ (n % 11), ← hm, add_assoc]

/-- The result array after the run is the reference's. -/
theorem final : (dats m 0 c).arrAt 5 (cfgs 0).N
    = REF (m ((c : Thread nD τ).loc main_arg0)) (m ((c : Thread nD τ).loc main_arg1))
      (m ((c : Thread nD τ).loc main_arg2)) (m ((c : Thread nD τ).loc main_arg3))
      (m ((c : Thread nD τ).loc main_arg4)) := by
  refine (dats m 0 c).arrAt_eq_of_covers 5 _ (by decide +kernel) fun t hf y => ?_
  have ht := (flush0_5 t).mp hf
  have hlt := (idx_val t).2.2.2.2.2.2
  blk_simp
  rw [after0_5]
  obtain ⟨r, k, hy⟩ : ∃ (r : Fin 1024) (k : Fin 2048), y = ix2 r k := ⟨y 0, y 1, eq_ix2 y⟩
  subst hy
  have e := (holds_at m c t.val t.isLt r k).2
  rw [ht, sum_tiles] at e
  refine e.trans ?_
  have er := ref_at (m ((c : Thread nD τ).loc main_arg0)) (m ((c : Thread nD τ).loc main_arg1))
    (m ((c : Thread nD τ).loc main_arg2)) (m ((c : Thread nD τ).loc main_arg3)) (m ((c : Thread nD τ).loc main_arg4))
    ⟨t.val / 11 * 1024 + r, by omega⟩ k
  have ex : X m c (t.val / 11) r = fun k => (m ((c : Thread nD τ).loc main_arg0) : FVec Ideal S2x4096x2048 .f32)
      (ix3 ⟨(t.val / 11 * 1024 + r) / 4096, by omega⟩ ⟨(t.val / 11 * 1024 + r) % 4096, by omega⟩ k) := by
    funext k
    unfold X
    congr 2
    exact Fin.ext (Nat.mod_eq_of_lt (by omega))
  rw [ex]
  refine Eq.trans er.symm ?_
  refine congrArg (REF _ _ _ _ _) ?_
  blk_ext [idx_val t]

end Cert.FfnIdeal.RefValue
-- ==== Proof.FfnClaim.lean ====
module

public import proofs.«01_k».proof.Proof.FfnValue
public import proofs.«01_k».proof.Defs

/-! The claims about the call `ffn`. -/

@[expose] public section

set_option maxRecDepth 16384

open Idealize.ShloMosaic Idealize.ShloMosaic.TcCoe Idealize.SL.Sem

namespace Cert.FfnIdeal.RefValue

/-- The reference leaves its arguments unchanged. -/
theorem frame_ref : Cert.quiescent_FfnRefIdeal := by
  intro m g _
  exact (θ_run Cert.FfnRefIdeal.defs _ _).mono
    (fun r h => ⟨fun c => (h c).2, Idealize.ShloMosaic.sem_eq_zero_of_no_sems (by decide) r.2⟩)
    (Cert.FfnRefIdeal.Value.run m g)

/-- The kernel and the reference end with equal results. -/
theorem algebraic : Cert.algebraic_FfnIdeal_FfnRefIdeal := by
  pair_intro
  · run_from Cert.FfnIdeal.Gen.run_main m g
  · run_from Cert.FfnRefIdeal.Value.run m' g'
    exact (final m c).symm

end Cert.FfnIdeal.RefValue
-- ==== Proof.PlePay.lean ====
module

public import proofs.«01_k».proof.Proof.Gen.PleIdeal.Frame
public import proofs.«01_k».proof.Proof.Gen.PleRefIdeal.Read
public import proofs.«01_k».proof.Proof.LayerMath
public import Idealize.ShloMosaic.Lib.Pipeline.ValueKit

/-! The body of the call `ple` and its reference, both read as the formulas of `LayerMath`. -/

@[expose] public section

set_option maxRecDepth 16384

noncomputable section

open Idealize.ShloMosaic Idealize.ShloMosaic.TcCoe Idealize.SL.Sem

namespace Cert.PleIdeal.RefValue

open Cert.PleIdeal Cert.PleIdeal.Gen Cert.LayerMath

/-- The hidden state the body computes. -/
theorem pay2_at (x0 : FVec Ideal S512x2048 .f32) (x2 : FVec Ideal S1x2048 .f32) (x4 : FVec Ideal S2048x2048 .bf16)
    (x1 : FVec Ideal S512x256 .f32) (x5 : FVec Ideal S256x2048 .bf16) (r : Fin 512) (n : Fin 2048) :
    k0_pay2 (F := Ideal) x0 x2 x4 x1 x5 (ix2 r n)
    = emb (fun k => x0 (ix2 r k)) (fun k => x2 (ix2 0 k)) (fun k n => x4 (ix2 k n)) (fun k => x1 (ix2 r k))
        (fun k n => x5 (ix2 k n)) n := by
  pointwise [k0_pay2]
  rfl

/-- What the body stores. -/
theorem pay1_at (x0 : FVec Ideal S512x2048 .f32) (x2 : FVec Ideal S1x2048 .f32) (x4 : FVec Ideal S2048x2048 .bf16)
    (x1 : FVec Ideal S512x256 .f32) (x5 : FVec Ideal S256x2048 .bf16) (x3 : FVec Ideal S1x2048 .f32)
    (r : Fin 512) (n : Fin 2048) :
    k0_pay1 (F := Ideal) (k0_pay2 x0 x2 x4 x1 x5) (k0_pay3 x3) (k0_pay4 x0 x2 x4 x1 x5) (ix2 r n)
    = nrm (emb (fun k => x0 (ix2 r k)) (fun k => x2 (ix2 0 k)) (fun k n => x4 (ix2 k n)) (fun k => x1 (ix2 r k))
        (fun k n => x5 (ix2 k n))) (fun k => x3 (ix2 0 k)) n := by
  pointwise [k0_pay1, k0_pay3, k0_pay4]
  simp only [pay2_at]
  rfl

open Cert.PleRefIdeal.Read in
/-- The hidden state of the reference. -/
theorem ref26_at (h : FVec Ideal S2x4096x2048 .f32) (p : FVec Ideal S1x2x4096x256 .f32) (g : FVec Ideal S1x2048 .f32)
    (wp : FVec Ideal S1x256x2048 .f32) (wg : FVec Ideal S1x2048x2048 .f32) (b : Fin 2) (s : Fin 4096) (n : Fin 2048) :
    val_main_v26 (F := Ideal) h p g wp wg (ix3 b s n)
    = emb (fun k => h (ix3 b s k)) (fun k => g (ix2 0 k)) (fun k n => wg (ix3 0 k n)) (fun k => p (ix4 0 b s k))
        (fun k n => wp (ix3 0 k n)) n := by
  pointwise [val_main_v0, val_main_v1, val_main_cst, val_main_v2, val_main_v3,
    val_main_cst_0, val_main_v4, val_main_v5, val_main_cst_1, val_main_v6, val_main_v7, val_main_v8, val_main_v9,
    val_main_v10, val_main_v11, val_main_v12, val_main_v13, val_main_v14, val_main_v15, val_main_v16, val_main_v17,
    val_main_cst_2, val_main_v18, val_main_v19, val_main_cst_3, val_main_v20, val_main_v21, val_main_v22, val_main_v23,
    val_main_v24, val_main_v25, val_main_v26]
  rfl

open Cert.PleRefIdeal.Read in
/-- The reference's result. -/
theorem ref40_at (h : FVec Ideal S2x4096x2048 .f32) (p : FVec Ideal S1x2x4096x256 .f32) (g : FVec Ideal S1x2048 .f32)
    (wp : FVec Ideal S1x256x2048 .f32) (wg : FVec Ideal S1x2048x2048 .f32) (gf : FVec Ideal S2048 .f32)
    (i : Fin 8192) (n : Fin 2048) :
    val_main_v40 (F := Ideal) h p g wp wg gf (ix2 i n)
    = nrm (emb (fun k => h (ix3 ⟨i / 4096, by omega⟩ ⟨i % 4096, by omega⟩ k)) (fun k => g (ix2 0 k))
        (fun k n => wg (ix3 0 k n)) (fun k => p (ix4 0 ⟨i / 4096, by omega⟩ ⟨i % 4096, by omega⟩ k))
        (fun k n => wp (ix3 0 k n))) (fun k => gf (ix1 k)) n := by
  pointwise [val_main_v27, val_main_cst_4, val_main_v28, val_main_v29, val_main_cst_5,
    val_main_v30, val_main_v31, val_main_cst_6, val_main_v32, val_main_v33, val_main_v34, val_main_v35, val_main_v36,
    val_main_v37, val_main_v38, val_main_v39, val_main_v40]
  simp only [ref26_at]
  rfl

end Cert.PleIdeal.RefValue
-- ==== Proof.PleValue.lean ====
module

public import proofs.«01_k».proof.Proof.PlePay
public import Idealize.ShloMosaic.Lib.Pipeline.ValueKit
public import Idealize.ShloMosaic.Lib.Claim

/-! The value of the call `ple`: its result array is the reference's array. -/

@[expose] public section

set_option maxRecDepth 16384

noncomputable section

open Idealize.ShloMosaic Idealize.ShloMosaic.TcCoe Idealize.SL.Sem
open Idealize.ShloMosaic.Pipeline (Dat)

namespace Cert.PleIdeal.RefValue

open Cert.PleIdeal Cert.PleIdeal.Gen Cert.LayerMath

variable (m : (ℓ : Loc nD τ sig) → Buf (Elt Ideal) ℓ)

/-- The reference's result as a function of the arguments. -/
abbrev REF (h : FVec Ideal S2x4096x2048 .f32) (p : FVec Ideal S1x2x4096x256 .f32) (g : FVec Ideal S1x2048 .f32)
    (wp : FVec Ideal S1x256x2048 .f32) (wg : FVec Ideal S1x2048x2048 .f32) (gf : FVec Ideal S2048 .f32) :
    FVec Ideal S8192x2048 .f32 :=
  Cert.PleRefIdeal.Read.val_main_v40 (F := Ideal) h p g wp wg gf

/-- The block of each window at grid point `t`. -/
theorem idx_val : ∀ t : Fin cfg0.N, win0_0.index t = ![t.val, 0] ∧ win0_1.index t = ![t.val, 0] ∧
    win0_2.index t = ![0, 0] ∧ win0_3.index t = ![0, 0] ∧ win0_4.index t = ![0, 0] ∧ win0_5.index t = ![0, 0] ∧
    win0_6.index t = ![t.val, 0] ∧ t.val < 16 :=
  (by decide +kernel : ∀ t : Fin grid0.N, _)

variable (c : Dev nD) (t : Fin cfg0.N)

/-- The block of `h`. -/
theorem blk0 (r : Fin 512) (k : Fin 2048) : (iblk m c 0 t : FVec Ideal S512x2048 .f32) (ix2 r k)
    = (m ((c : Thread nD τ).loc main_arg0) : FVec Ideal S2x4096x2048 .f32)
      (ix3 ⟨(t.val * 512 + r) / 4096, by have := (idx_val t).2.2.2.2.2.2.2; omega⟩
        ⟨(t.val * 512 + r) % 4096, by omega⟩ k) := by
  blk_point [iblk, V, idx_val t]

/-- The block of `p`. -/
theorem blk1 (r : Fin 512) (k : Fin 256) : (iblk m c 1 t : FVec Ideal S512x256 .f32) (ix2 r k)
    = (m ((c : Thread nD τ).loc main_arg1) : FVec Ideal S1x2x4096x256 .f32)
      (ix4 0 ⟨(t.val * 512 + r) / 4096, by have := (idx_val t).2.2.2.2.2.2.2; omega⟩
        ⟨(t.val * 512 + r) % 4096, by omega⟩ k) := by
  blk_point [iblk, V, idx_val t]

/-- The norm's weight. -/
theorem blk2 (k : Fin 2048) : (iblk m c 2 t : FVec Ideal S1x2048 .f32) (ix2 0 k)
    = (m ((c : Thread nD τ).loc main_arg2) : FVec Ideal S1x2048 .f32) (ix2 0 k) := by
  blk_point [iblk, V, idx_val t]

/-- The final norm's weight. -/
theorem blk3 (k : Fin 2048) : (iblk m c 3 t : FVec Ideal S1x2048 .f32) (ix2 0 k)
    = (m ((c : Thread nD τ).loc main_arg5) : FVec Ideal S2048 .f32) (ix1 k) := by
  blk_point [iblk, V, idx_val t]

/-- The gate's weight. -/
theorem blk4 (k n : Fin 2048) : (iblk m c 4 t : FVec Ideal S2048x2048 .bf16) (ix2 k n)
    = (m ((c : Thread nD τ).loc main_arg4) : FVec Ideal S1x2048x2048 .f32) (ix3 0 k n) := by
  blk_point [iblk, V, idx_val t]

/-- The projection's weight. -/
theorem blk5 (k : Fin 256) (n : Fin 2048) : (iblk m c 5 t : FVec Ideal S256x2048 .bf16) (ix2 k n)
    = (m ((c : Thread nD τ).loc main_arg3) : FVec Ideal S1x256x2048 .f32) (ix3 0 k n) := by
  blk_point [iblk, V, idx_val t]

/-- What the body stores at row `r`, column `n` of point `t`'s block is the reference's result at row `512 t + r`. -/
theorem point (r : Fin 512) (n : Fin 2048) :
    k0_pay1 (F := Ideal) (k0_pay2 (iblk m c 0 t) (iblk m c 2 t) (iblk m c 4 t) (iblk m c 1 t) (iblk m c 5 t))
      (k0_pay3 (iblk m c 3 t)) (k0_pay4 (iblk m c 0 t) (iblk m c 2 t) (iblk m c 4 t) (iblk m c 1 t) (iblk m c 5 t))
      (ix2 r n)
    = REF (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (ix2 ⟨t.val * 512 + r, by have := (idx_val t).2.2.2.2.2.2.2; omega⟩ n) := by
  refine (pay1_at _ _ _ _ _ _ r n).trans (Eq.trans ?_ (ref40_at _ _ _ _ _ _ _ n).symm)
  have e0 := blk0 m c t r
  have e1 := blk1 m c t r
  rw [funext e0, funext e1, funext (blk2 m c t), funext (blk3 m c t), funext fun k => funext (blk4 m c t k),
    funext fun k => funext (blk5 m c t k)]

/-- The result array after the run is the reference's. -/
theorem final : (dats m 0 c).arrAt 6 (cfgs 0).N
    = REF (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  refine (dats m 0 c).arrAt_eq_of_covers 6 _ (by decide +kernel) fun t _ y => ?_
  blk_simp
  rw [after0_6]; frame_out
  refine ((congrArg _ (eq_ix2 y)).trans (point m c t (y 0) (y 1))).trans ?_
  refine congrArg (REF _ _ _ _ _ _) ?_
  blk_ext [idx_val t]

end Cert.PleIdeal.RefValue
-- ==== Proof.PleClaim.lean ====
module

public import proofs.«01_k».proof.Proof.PleValue
public import proofs.«01_k».proof.Defs

/-! The claims about the call `ple`. -/

@[expose] public section

set_option maxRecDepth 16384

open Idealize.ShloMosaic Idealize.ShloMosaic.TcCoe Idealize.SL.Sem

namespace Cert.PleIdeal.RefValue

/-- The reference leaves its arguments unchanged. -/
theorem frame_ref : Cert.quiescent_PleRefIdeal := by
  intro m g _
  exact (θ_run Cert.PleRefIdeal.defs _ _).mono
    (fun r h => ⟨fun c => (h c).2, Idealize.ShloMosaic.sem_eq_zero_of_no_sems (by decide) r.2⟩)
    (Cert.PleRefIdeal.Value.run m g)

/-- The kernel and the reference end with equal results. -/
theorem algebraic : Cert.algebraic_PleIdeal_PleRefIdeal := by
  pair_intro
  · run_from Cert.PleIdeal.Gen.run_main m g
  · run_from Cert.PleRefIdeal.Value.run m' g'
    rw [Cert.PleRefIdeal.Read.val_main_v40_eq, (hagree c).1, (hagree c).2.1, (hagree c).2.2.1, (hagree c).2.2.2.1,
      (hagree c).2.2.2.2.1, (hagree c).2.2.2.2.2]
    exact (final m c).symm

end Cert.PleIdeal.RefValue
-- ==== Proof.FfnFirstPay.lean ====
module

public import proofs.«01_k».proof.Proof.Gen.FfnFirstIdeal.Frame
public import proofs.«01_k».proof.Proof.Gen.FfnFirstRefIdeal.Read
public import proofs.«01_k».proof.Proof.LayerMath
public import Idealize.ShloMosaic.Lib.Pipeline.ValueKit

/-! The body of the call `ffn_first` and its reference, both read as the formulas of `LayerMath`. -/

@[expose] public section

set_option maxRecDepth 16384

noncomputable section

open Idealize.ShloMosaic Idealize.ShloMosaic.TcCoe Idealize.SL.Sem

namespace Cert.FfnFirstIdeal.RefValue

open Cert.FfnFirstIdeal Cert.FfnFirstIdeal.Gen Cert.LayerMath

/-- The row tile as it is first stored into the result's block. -/
theorem pay1_at (x0 : FVec Ideal S1024x2048 .f32) (r : Fin 1024) (n : Fin 2048) :
    k0_pay1 (F := Ideal) x0 (ix2 r n) = x0 (ix2 r n) := by
  pointwise [k0_pay1]

/-- The normalised row tile the body keeps in scratch. -/
theorem pay2_at (x0 : FVec Ideal S1024x2048 .f32) (x1 : FVec Ideal S1x2048 .f32) (r : Fin 1024) (k : Fin 2048) :
    k0_pay2 (F := Ideal) x0 x1 (ix2 r k) = nrm (fun k => x0 (ix2 r k)) (fun k => x1 (ix2 0 k)) k := by
  pointwise [k0_pay1, k0_pay2]
  rfl

/-- The cast of a block of the gate's weight. -/
theorem pay3_at (w : FVec Ideal S2048x256 .f32) (k : Fin 2048) (f : Fin 256) :
    k0_pay3 (F := Ideal) w (ix2 k f) = w (ix2 k f) := by
  pointwise [k0_pay3]

/-- The cast of a block of the up projection's weight. -/
theorem pay4_at (w : FVec Ideal S2048x256 .f32) (k : Fin 2048) (f : Fin 256) :
    k0_pay4 (F := Ideal) w (ix2 k f) = w (ix2 k f) := by
  pointwise [k0_pay4]

/-- The cast of a block of the down projection's weight. -/
theorem pay5_at (w : FVec Ideal S256x2048 .f32) (f : Fin 256) (n : Fin 2048) :
    k0_pay5 (F := Ideal) w (ix2 f n) = w (ix2 f n) := by
  pointwise [k0_pay5]

/-- The accumulation of one tile of 256 lanes. -/
theorem pay6_at (xn : FVec Ideal S1024x2048 .bf16) (wg wu : FVec Ideal S2048x256 .f32)
    (acc : FVec Ideal S1024x2048 .f32) (wd : FVec Ideal S256x2048 .f32) (r : Fin 1024) (n : Fin 2048) :
    k0_pay6 (F := Ideal) xn wg wu acc wd (ix2 r n) = acc (ix2 r n) +
      ∑ f : Fin 256, half * ((∑ k, xn (ix2 r k) * wg (ix2 k f)) * LayerMath.sig (∑ k, xn (ix2 r k) * wg (ix2 k f)))
        * (∑ k, xn (ix2 r k) * wu (ix2 k f)) * wd (ix2 f n) := by
  pointwise [k0_pay3, k0_pay4, k0_pay5, k0_pay6]
  rfl

open Cert.FfnFirstRefIdeal.Read in
/-- The reference's first result. -/
theorem ref_at (h : FVec Ideal S2x4096x2048 .f32) (g : FVec Ideal S1x2048 .f32)
    (wg wu : FVec Ideal S1x2048x5632 .f32) (wd : FVec Ideal S1x5632x2048 .f32) (i : Fin 1024) (n : Fin 2048) :
    val_main_v32 (F := Ideal) h g wg wu wd (ix2 i n)
    = ffn (fun k => h (ix3 ⟨i / 4096, by omega⟩ ⟨i % 4096, by omega⟩ k)) (fun k => g (ix2 0 k))
        (fun k l => wg (ix3 0 k l)) (fun k l => wu (ix3 0 k l)) (fun l n => wd (ix3 0 l n)) n := by
  pointwise [val_main_v0, val_main_v1, val_main_cst, val_main_v2, val_main_v3, val_main_cst_0, val_main_v4,
    val_main_v5, val_main_cst_1, val_main_v6, val_main_v7, val_main_v8, val_main_v9, val_main_v10, val_main_v11,
    val_main_v12, val_main_v13, val_main_v14, val_main_v15, val_main_v16, val_main_v17, val_main_cst_2, val_main_v18,
    val_main_v19, val_main_cst_3, val_main_v20, val_main_v21, val_main_v22, val_main_v23, val_main_v24, val_main_v25,
    val_main_v26, val_main_v27, val_main_cst_4, val_main_v28, val_main_v29, val_main_v30, val_main_v31, val_main_v32]
  exact ffn_eq (fun k => h (ix3 ⟨i / 4096, by omega⟩ ⟨i % 4096, by omega⟩ k)) (fun k => g (ix2 0 k))
    (fun k l => wg (ix3 0 k l)) (fun k l => wu (ix3 0 k l)) (fun l n => wd (ix3 0 l n)) n

open Cert.FfnFirstRefIdeal.Read in
/-- The reference's second result: the gate's weight, cast. -/
theorem ref1_at (w : FVec Ideal S1x2048x5632 .f32) (k : Fin 2048) (l : Fin 5632) :
    val_main_v34 (F := Ideal) w (ix2 k l) = w (ix3 0 k l) := by
  pointwise [val_main_v33, val_main_v34]

open Cert.FfnFirstRefIdeal.Read in
/-- The reference's third result: the up projection's weight, cast. -/
theorem ref2_at (w : FVec Ideal S1x2048x5632 .f32) (k : Fin 2048) (l : Fin 5632) :
    val_main_v36 (F := Ideal) w (ix2 k l) = w (ix3 0 k l) := by
  pointwise [val_main_v35, val_main_v36]

open Cert.FfnFirstRefIdeal.Read in
/-- The reference's fourth result: the down projection's weight, cast. -/
theorem ref3_at (w : FVec Ideal S1x5632x2048 .f32) (l : Fin 5632) (n : Fin 2048) :
    val_main_v38 (F := Ideal) w (ix2 l n) = w (ix3 0 l n) := by
  pointwise [val_main_v37, val_main_v38]

end Cert.FfnFirstIdeal.RefValue
-- ==== Proof.FfnFirstValue.lean ====
module

public import proofs.«01_k».proof.Proof.FfnFirstPay
public import Idealize.ShloMosaic.Lib.Pipeline.ValueKit
public import Idealize.ShloMosaic.Lib.Claim
public import Idealize.ShloMosaic.Lib.Pipeline.ReadBack

/-! The value of the call `ffn_first`: its result arrays are the reference's arrays. -/

@[expose] public section

set_option maxRecDepth 16384

noncomputable section

open Idealize.ShloMosaic Idealize.ShloMosaic.TcCoe Idealize.SL.Sem
open Idealize.ShloMosaic.Pipeline (Dat)

namespace Cert.FfnFirstIdeal.RefValue

open Cert.FfnFirstIdeal Cert.FfnFirstIdeal.Gen Cert.LayerMath

variable (m : (ℓ : Loc nD τ sig) → Buf (Elt Ideal) ℓ)

/-- The reference's result as a function of the arguments. -/
abbrev REF (h : FVec Ideal S2x4096x2048 .f32) (g : FVec Ideal S1x2048 .f32)
    (wg wu : FVec Ideal S1x2048x5632 .f32) (wd : FVec Ideal S1x5632x2048 .f32) : FVec Ideal S1024x2048 .f32 :=
  Cert.FfnFirstRefIdeal.Read.val_main_v32 (F := Ideal) h g wg wu wd

/-- The block of each window at grid point `t`. -/
theorem idx_val : ∀ t : Fin cfg0.N, win0_0.index t = ![0, 0] ∧ win0_1.index t = ![0, 0] ∧
    win0_2.index t = ![0, t.val] ∧ win0_3.index t = ![0, t.val] ∧ win0_4.index t = ![t.val, 0] ∧
    win0_5.index t = ![0, 0] ∧ win0_6.index t = ![0, t.val] ∧ win0_7.index t = ![0, t.val] ∧
    win0_8.index t = ![t.val, 0] ∧ t.val < 22 :=
  (by decide +kernel : ∀ t : Fin grid0.N, _)

variable (c : Dev nD)

/-- Row `r` of the input. -/
def X (r : Fin 1024) (k : Fin 2048) : EReal :=
  (m ((c : Thread nD τ).loc main_arg0) : FVec Ideal S2x4096x2048 .f32)
    (ix3 ⟨r / 4096, by omega⟩ ⟨r % 4096, by omega⟩ k)

/-- The norm's weight. -/
def G (k : Fin 2048) : EReal := (m ((c : Thread nD τ).loc main_arg1) : FVec Ideal S1x2048 .f32) (ix2 0 k)

/-- The gate's weight. -/
def WG (k : Fin 2048) (l : Fin 5632) : EReal :=
  (m ((c : Thread nD τ).loc main_arg2) : FVec Ideal S1x2048x5632 .f32) (ix3 0 k l)

/-- The up projection's weight. -/
def WU (k : Fin 2048) (l : Fin 5632) : EReal :=
  (m ((c : Thread nD τ).loc main_arg3) : FVec Ideal S1x2048x5632 .f32) (ix3 0 k l)

/-- The down projection's weight. -/
def WD (l : Fin 5632) (n : Fin 2048) : EReal :=
  (m ((c : Thread nD τ).loc main_arg4) : FVec Ideal S1x5632x2048 .f32) (ix3 0 l n)

section
variable (t : Fin cfg0.N)

/-- The block of the input. -/
theorem blk0 (r : Fin 1024) (k : Fin 2048) : (iblk m c 0 t : FVec Ideal S1024x2048 .f32) (ix2 r k)
    = X m c r k := by
  unfold X
  blk_point [iblk, V, idx_val t]

/-- The block of the norm's weight. -/
theorem blk1 (k : Fin 2048) : (iblk m c 1 t : FVec Ideal S1x2048 .f32) (ix2 0 k) = G m c k := by
  unfold G
  blk_point [iblk, V, idx_val t]

/-- The block of the gate's weight. -/
theorem blk2 (k : Fin 2048) (f : Fin 256) : (iblk m c 2 t : FVec Ideal S2048x256 .f32) (ix2 k f)
    = WG m c k ⟨t.val * 256 + f, by have := (idx_val t).2.2.2.2.2.2.2.2.2; omega⟩ := by
  unfold WG
  blk_point [iblk, V, idx_val t]

/-- The block of the up projection's weight. -/
theorem blk3 (k : Fin 2048) (f : Fin 256) : (iblk m c 3 t : FVec Ideal S2048x256 .f32) (ix2 k f)
    = WU m c k ⟨t.val * 256 + f, by have := (idx_val t).2.2.2.2.2.2.2.2.2; omega⟩ := by
  unfold WU
  blk_point [iblk, V, idx_val t]

/-- The block of the down projection's weight. -/
theorem blk4 (f : Fin 256) (n : Fin 2048) : (iblk m c 4 t : FVec Ideal S256x2048 .f32) (ix2 f n)
    = WD m c ⟨t.val * 256 + f, by have := (idx_val t).2.2.2.2.2.2.2.2.2; omega⟩ n := by
  unfold WD
  blk_point [iblk, V, idx_val t]

end

/-- One point's accumulation, given the normalised row tile. -/
theorem step (t : Fin cfg0.N) (r : Fin 1024) (n : Fin 2048) (xn : FVec Ideal S1024x2048 .bf16)
    (acc : FVec Ideal S1024x2048 .f32) (hx : ∀ k, xn (ix2 r k) = nrm (X m c r) (G m c) k) :
    k0_pay6 (F := Ideal) xn (iblk m c 2 t) (iblk m c 3 t) acc (iblk m c 4 t) (ix2 r n) = acc (ix2 r n) +
      tile22 (ffnT (nrm (X m c r) (G m c)) (WG m c) (WU m c) (WD m c) n) t.val := by
  rw [tile22, dif_pos (idx_val t).2.2.2.2.2.2.2.2.2]
  refine (pay6_at xn _ _ acc _ r n).trans ?_
  simp only [hx, blk2, blk3, blk4]
  rfl

/-- What the scratch and the result's block hold after point `n`: the normalised row tile; the row tile and the tiles of
    lanes added so far. -/
theorem holds_at (n : ℕ) (h : n < cfg0.N) (r : Fin 1024) (k : Fin 2048) :
    ((outsAt0 m c n h).2.2.2.2 : FVec Ideal S1024x2048 .bf16) (ix2 r k) = nrm (X m c r) (G m c) k ∧
    ((outsAt0 m c n h).1 : FVec Ideal S1024x2048 .f32) (ix2 r k) = X m c r k +
      ∑ s ∈ Finset.range (n + 1), tile22 (ffnT (nrm (X m c r) (G m c)) (WG m c) (WU m c) (WD m c) k) s := by
  have hn : n < 22 := (idx_val ⟨n, h⟩).2.2.2.2.2.2.2.2.2
  induction n using Nat.strong_induction_on generalizing k with
  | _ n ih =>
    by_cases h0 : n % 22 = 0
    · have e := outsAt0_A m c ⟨n, h⟩ h0
      dsimp only at e
      rw [e]
      have e2 : ∀ k, k0_pay2 (F := Ideal) (iblk m c 0 ⟨n, h⟩) (iblk m c 1 ⟨n, h⟩) (ix2 r k)
          = nrm (X m c r) (G m c) k := by
        intro k
        refine (pay2_at _ _ r k).trans ?_
        have e0 := blk0 m c ⟨n, h⟩ r
        rw [funext e0, funext (blk1 m c ⟨n, h⟩)]
      refine ⟨?_, ?_⟩
      · frame_out
        exact e2 k
      · frame_out
        refine (step m c ⟨n, h⟩ r k _ _ e2).trans ?_
        have h00 : n = 0 := by omega
        subst h00
        rw [Finset.sum_range_one]
        refine Ideal.add_congr ?_ rfl
        exact (pay1_at _ r k).trans (blk0 m c ⟨0, h⟩ r k)
    · have e := outsAt0_B m c ⟨n, h⟩ h0
      dsimp only at e
      rw [e]
      have hm : n = (n - 1) + 1 := by omega
      have ih' := fun k => ih (n - 1) (by omega) (by omega) k (by omega)
      refine ⟨?_, ?_⟩
      · frame_out
        exact (ih' k).1
      · frame_out
        rw [read_unread_whole]
        refine (step m c ⟨n, h⟩ r k (outsAt0 m c (n - 1) (by omega)).2.2.2.2 (outsAt0 m c (n - 1) (by omega)).1
          fun k => (ih' k).1).trans ?_
        refine (Ideal.add_congr (ih' k).2 rfl).trans ?_
        dsimp only
        rw [Finset.sum_range_succ _ n, ← hm, add_assoc]

/-- The blocks of the three cast weights after point `t`. -/
theorem casts_at (t : Fin cfg0.N) :
    (∀ (k : Fin 2048) (f : Fin 256), ((outsAt0 m c t.val t.isLt).2.1 : FVec Ideal S2048x256 .bf16) (ix2 k f)
      = WG m c k ⟨t.val * 256 + f, by have := (idx_val t).2.2.2.2.2.2.2.2.2; omega⟩) ∧
    (∀ (k : Fin 2048) (f : Fin 256), ((outsAt0 m c t.val t.isLt).2.2.1 : FVec Ideal S2048x256 .bf16) (ix2 k f)
      = WU m c k ⟨t.val * 256 + f, by have := (idx_val t).2.2.2.2.2.2.2.2.2; omega⟩) ∧
    ∀ (f : Fin 256) (n : Fin 2048), ((outsAt0 m c t.val t.isLt).2.2.2.1 : FVec Ideal S256x2048 .bf16) (ix2 f n)
      = WD m c ⟨t.val * 256 + f, by have := (idx_val t).2.2.2.2.2.2.2.2.2; omega⟩ n := by
  by_cases h0 : t.val % 22 = 0
  · rw [outsAt0_A m c t h0]
    refine ⟨fun k f => ?_, fun k f => ?_, fun f n => ?_⟩
    · frame_out
      exact (pay3_at _ k f).trans (blk2 m c t k f)
    · frame_out
      exact (pay4_at _ k f).trans (blk3 m c t k f)
    · frame_out
      exact (pay5_at _ f n).trans (blk4 m c t f n)
  · rw [outsAt0_B m c t h0]
    refine ⟨fun k f => ?_, fun k f => ?_, fun f n => ?_⟩
    · frame_out
      exact (pay3_at _ k f).trans (blk2 m c t k f)
    · frame_out
      exact (pay4_at _ k f).trans (blk3 m c t k f)
    · frame_out
      exact (pay5_at _ f n).trans (blk4 m c t f n)

/-- The first result array after the run is the reference's. -/
theorem final : (dats m 0 c).arrAt 5 (cfgs 0).N
    = REF (m ((c : Thread nD τ).loc main_arg0)) (m ((c : Thread nD τ).loc main_arg1))
      (m ((c : Thread nD τ).loc main_arg2)) (m ((c : Thread nD τ).loc main_arg3))
      (m ((c : Thread nD τ).loc main_arg4)) := by
  refine (dats m 0 c).arrAt_eq_of_covers 5 _ (by decide +kernel) fun t hf y => ?_
  have ht := (flush0_5 t).mp hf
  have hlt := (idx_val t).2.2.2.2.2.2.2.2.2
  have h21 : t.val + 1 = 22 := by omega
  blk_simp
  rw [after0_5]
  obtain ⟨r, k, hy⟩ : ∃ (r : Fin 1024) (k : Fin 2048), y = ix2 r k := ⟨y 0, y 1, eq_ix2 y⟩
  subst hy
  have e := (holds_at m c t.val t.isLt r k).2
  rw [h21, sum_tiles22] at e
  refine e.trans ?_
  have er := ref_at (m ((c : Thread nD τ).loc main_arg0)) (m ((c : Thread nD τ).loc main_arg1))
    (m ((c : Thread nD τ).loc main_arg2)) (m ((c : Thread nD τ).loc main_arg3)) (m ((c : Thread nD τ).loc main_arg4))
    r k
  refine Eq.trans er.symm ?_
  refine congrArg (REF _ _ _ _ _) ?_
  blk_ext [idx_val t]

/-- The second result array after the run is the gate's weight, cast. -/
theorem final1 : (dats m 0 c).arrAt 6 (cfgs 0).N
    = Cert.FfnFirstRefIdeal.Read.val_main_v34 (F := Ideal) (m ((c : Thread nD τ).loc main_arg2)) := by
  refine (dats m 0 c).arrAt_eq_of_covers 6 _ (by decide +kernel) fun t hf y => ?_
  have hlt := (idx_val t).2.2.2.2.2.2.2.2.2
  blk_simp
  rw [after0_6]
  obtain ⟨k, f, hy⟩ : ∃ (k : Fin 2048) (f : Fin 256), y = ix2 k f := ⟨y 0, y 1, eq_ix2 y⟩
  subst hy
  refine ((casts_at m c t).1 k f).trans ?_
  have er := ref1_at (m ((c : Thread nD τ).loc main_arg2)) k ⟨t.val * 256 + f, by omega⟩
  refine Eq.trans er.symm ?_
  refine congrArg (Cert.FfnFirstRefIdeal.Read.val_main_v34 (F := Ideal) _) ?_
  blk_ext [idx_val t]

/-- The third result array after the run is the up projection's weight, cast. -/
theorem final2 : (dats m 0 c).arrAt 7 (cfgs 0).N
    = Cert.FfnFirstRefIdeal.Read.val_main_v36 (F := Ideal) (m ((c : Thread nD τ).loc main_arg3)) := by
  refine (dats m 0 c).arrAt_eq_of_covers 7 _ (by decide +kernel) fun t hf y => ?_
  have hlt := (idx_val t).2.2.2.2.2.2.2.2.2
  blk_simp
  rw [after0_7]
  obtain ⟨k, f, hy⟩ : ∃ (k : Fin 2048) (f : Fin 256), y = ix2 k f := ⟨y 0, y 1, eq_ix2 y⟩
  subst hy
  refine ((casts_at m c t).2.1 k f).trans ?_
  have er := ref2_at (m ((c : Thread nD τ).loc main_arg3)) k ⟨t.val * 256 + f, by omega⟩
  refine Eq.trans er.symm ?_
  refine congrArg (Cert.FfnFirstRefIdeal.Read.val_main_v36 (F := Ideal) _) ?_
  blk_ext [idx_val t]

/-- The fourth result array after the run is the down projection's weight, cast. -/
theorem final3 : (dats m 0 c).arrAt 8 (cfgs 0).N
    = Cert.FfnFirstRefIdeal.Read.val_main_v38 (F := Ideal) (m ((c : Thread nD τ).loc main_arg4)) := by
  refine (dats m 0 c).arrAt_eq_of_covers 8 _ (by decide +kernel) fun t hf y => ?_
  have hlt := (idx_val t).2.2.2.2.2.2.2.2.2
  blk_simp
  rw [after0_8]
  obtain ⟨f, n, hy⟩ : ∃ (f : Fin 256) (n : Fin 2048), y = ix2 f n := ⟨y 0, y 1, eq_ix2 y⟩
  subst hy
  refine ((casts_at m c t).2.2 f n).trans ?_
  have er := ref3_at (m ((c : Thread nD τ).loc main_arg4)) ⟨t.val * 256 + f, by omega⟩ n
  refine Eq.trans er.symm ?_
  refine congrArg (Cert.FfnFirstRefIdeal.Read.val_main_v38 (F := Ideal) _) ?_
  blk_ext [idx_val t]

end Cert.FfnFirstIdeal.RefValue
-- ==== Proof.FfnFirstClaim.lean ====
module

public import proofs.«01_k».proof.Proof.FfnFirstValue
public import proofs.«01_k».proof.Defs

/-! The claims about the call `ffn_first`. -/

@[expose] public section

set_option maxRecDepth 16384

open Idealize.ShloMosaic Idealize.ShloMosaic.TcCoe Idealize.SL.Sem

namespace Cert.FfnFirstIdeal.RefValue

/-- The reference leaves its arguments unchanged. -/
theorem frame_ref : Cert.quiescent_FfnFirstRefIdeal := by
  intro m g _
  exact (θ_run Cert.FfnFirstRefIdeal.defs _ _).mono
    (fun r h => ⟨fun c => (h c).2.2.2.2, Idealize.ShloMosaic.sem_eq_zero_of_no_sems (by decide) r.2⟩)
    (Cert.FfnFirstRefIdeal.Value.run m g)

/-- The kernel and the reference end with equal results. -/
theorem algebraic : Cert.algebraic_FfnFirstIdeal_FfnFirstRefIdeal := by
  pair_intro
  · run_from Cert.FfnFirstIdeal.Gen.run_main m g
  · run_from Cert.FfnFirstRefIdeal.Value.run m' g'
    · exact (final m c).symm
    · exact (final1 m c).symm
    · exact (final2 m c).symm
    · exact (final3 m c).symm

end Cert.FfnFirstIdeal.RefValue
-- ==== Proof.FfnRestIdealPoints.lean ====
module

public import proofs.«01_k».proof.Proof.Gen.FfnRestIdeal.Frame
public import proofs.«01_k».proof.Proof.Gen.FfnRestIdeal.Points
public import proofs.«01_k».proof.Proof.Gen.FfnRestIdeal.Skeleton
public import Idealize.ShloMosaic.Lib.Pipeline.TableIdle

/-! The points of the call `ffn` on the rows from 1024: where it begins a row tile, where the cast of the second weight is at work, and the buffers of its windows. -/

@[expose] public section

set_option maxRecDepth 16384

noncomputable section

namespace Cert.FfnRestIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point is the first of its row tile. -/
abbrev cond0_0 (i : grid0.Coords) : Prop := (Scalar.cmpi .ne (Scalar.extui (Scalar.cmpi .eq (BitVec.ofNat 32 (i 1).val) 0#32)) 0#32) = 1#1
/-- It is so at the multiples of eleven. -/
theorem hcond0_0 : ∀ t : Fin cfg0.N, cond0_0 (grid0.coords t) ↔ t.val % 11 = 0 :=
  (fun t => by
    have ht : t.val < 77 := Nat.lt_of_lt_of_eq t.isLt N_0
    have e0 : (grid0.coords t 0).val = t.val / 11 % 7 := Pipeline.Grid.coords_val t 0 (by decide) rfl
    have e1 : (grid0.coords t 1).val = t.val / 1 % 11 := Pipeline.Grid.coords_val t 1 (by decide) rfl
    simp only [cond0_0, e0, e1]
    word_cmp
   : ∀ t : Fin grid0.N, cond0_0 (grid0.coords t) ↔ t.val % 11 = 0)

/-- The cast is at work at the point. -/
abbrev cond0_1 (i : grid0.Coords) : Prop := k0_cond2 i = 1#1
/-- It is so at the first forty-eight points. -/
theorem hcond0_1 : ∀ t : Fin cfg0.N, cond0_1 (grid0.coords t) ↔ t.val < 48 :=
  (by decide +kernel : ∀ t : Fin grid0.N, cond0_1 (grid0.coords t) ↔ t.val < 48)

/-- Window 0 is in use here. -/
theorem liveAt0_0 : ∀ t : Fin cfg0.N, cfg0.idle 0 (grid0.coords t) = false := fun _ => rfl
/-- Window 1 is in use here. -/
theorem liveAt0_1 : ∀ t : Fin cfg0.N, cfg0.idle 1 (grid0.coords t) = false := fun _ => rfl
/-- Window 2 is in use here. -/
theorem liveAt0_2 : ∀ t : Fin cfg0.N, cfg0.idle 2 (grid0.coords t) = false := fun _ => rfl
/-- Window 3 is in use here. -/
theorem liveAt0_3 : ∀ t : Fin cfg0.N, cfg0.idle 3 (grid0.coords t) = false := fun _ => rfl
/-- Window 4 is in use here. -/
theorem liveAt0_4 : ∀ t : Fin cfg0.N, cfg0.idle 4 (grid0.coords t) = false := fun _ => rfl
/-- Window 5 is in use here. -/
theorem liveAt0_5 : ∀ t : Fin cfg0.N, cfg0.idle 5 (grid0.coords t) = false := fun _ => rfl
/-- Window 6 is in use here. -/
theorem liveAt0_6 : ∀ t : Fin cfg0.N, cfg0.idle 6 (grid0.coords t) = false := fun _ => rfl
/-- Window 7 is at rest here. -/
theorem idleAt0_7_A : ∀ t : Fin cfg0.N, cond0_0 (grid0.coords t) → ¬cond0_1 (grid0.coords t) → cfg0.idle 7 (grid0.coords t) = true := by decide +kernel
/-- Window 7 is at rest here. -/
theorem idleAt0_7_B : ∀ t : Fin cfg0.N, ¬cond0_0 (grid0.coords t) → ¬cond0_1 (grid0.coords t) → cfg0.idle 7 (grid0.coords t) = true := by decide +kernel
/-- Window 7 is in use here. -/
theorem liveAt0_7_C : ∀ t : Fin cfg0.N, ¬cond0_0 (grid0.coords t) → cond0_1 (grid0.coords t) → cfg0.idle 7 (grid0.coords t) = false := by decide +kernel
/-- Window 7 is in use here. -/
theorem liveAt0_7_D : ∀ t : Fin cfg0.N, cond0_0 (grid0.coords t) → cond0_1 (grid0.coords t) → cfg0.idle 7 (grid0.coords t) = false := by decide +kernel

/-- Window 7 is at rest here. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → t.val ≠ 76 → (cfg0.win 7).flush t = false := by decide +kernel
theorem flush0_7_last : ∀ t : Fin cfg0.N, t.val = 76 → (cfg0.win 7).flush t = true := by decide +kernel

/-- A buffer of the result. -/
abbrev VO0_6 : View sig .tc .vmem S1024x2048 .f32 := (Memref.whole cc0_stg6_0 : Memref sig .tc .vmem S1024x2048 .f32).view
/-- A buffer of the cast. -/
abbrev VO0_7 : View sig .tc .vmem S2048x128 .bf16 := (Memref.whole cc0_stg7_0 : Memref sig .tc .vmem S2048x128 .bf16).view
/-- The buffer of window 0 at point `t`. -/
abbrev ms0_0 (t : Fin cfg0.N) : Memref sig .tc .vmem S1024x2048 .f32 := win0_0.stage (cfg0.slots t 0)
/-- The buffer of window 0 at point `t` is whole. -/
abbrev hs0_0 (t : Fin cfg0.N) : (ms0_0 t).IsWhole := hstage0_0 ((cfg0.slots t 0).cast nbuf0_0)
/-- The buffer of window 1 at point `t`. -/
abbrev ms0_1 (t : Fin cfg0.N) : Memref sig .tc .vmem S1x2048 .f32 := win0_1.stage (cfg0.slots t 1)
/-- The buffer of window 1 at point `t` is whole. -/
abbrev hs0_1 (t : Fin cfg0.N) : (ms0_1 t).IsWhole := hstage0_1 ((cfg0.slots t 1).cast nbuf0_1)
/-- The buffer of window 2 at point `t`. -/
abbrev ms0_2 (t : Fin cfg0.N) : Memref sig .tc .vmem S2048x512 .bf16 := win0_2.stage (cfg0.slots t 2)
/-- The buffer of window 2 at point `t` is whole. -/
abbrev hs0_2 (t : Fin cfg0.N) : (ms0_2 t).IsWhole := hstage0_2 ((cfg0.slots t 2).cast nbuf0_2)
/-- The buffer of window 3 at point `t`. -/
abbrev ms0_3 (t : Fin cfg0.N) : Memref sig .tc .vmem S2048x512 .bf16 := win0_3.stage (cfg0.slots t 3)
/-- The buffer of window 3 at point `t` is whole. -/
abbrev hs0_3 (t : Fin cfg0.N) : (ms0_3 t).IsWhole := hstage0_3 ((cfg0.slots t 3).cast nbuf0_3)
/-- The buffer of window 4 at point `t`. -/
abbrev ms0_4 (t : Fin cfg0.N) : Memref sig .tc .vmem S512x2048 .bf16 := win0_4.stage (cfg0.slots t 4)
/-- The buffer of window 4 at point `t` is whole. -/
abbrev hs0_4 (t : Fin cfg0.N) : (ms0_4 t).IsWhole := hstage0_4 ((cfg0.slots t 4).cast nbuf0_4)
/-- The buffer of window 5 at point `t`. -/
abbrev ms0_5 (t : Fin cfg0.N) : Memref sig .tc .vmem S1x128x2048 .f32 := win0_5.stage (cfg0.slots t 5)
/-- The buffer of window 5 at point `t` is whole. -/
abbrev hs0_5 (t : Fin cfg0.N) : (ms0_5 t).IsWhole := hstage0_5 ((cfg0.slots t 5).cast nbuf0_5)
/-- The buffer of window 6 at point `t`. -/
abbrev ms0_6 (t : Fin cfg0.N) : Memref sig .tc .vmem S1024x2048 .f32 := win0_6.stage (cfg0.slots t 6)
/-- The buffer of window 6 at point `t` is whole. -/
abbrev hs0_6 (t : Fin cfg0.N) : (ms0_6 t).IsWhole := hstage0_6 ((cfg0.slots t 6).cast nbuf0_6)
/-- The buffer of window 7 at point `t`. -/
abbrev ms0_7 (t : Fin cfg0.N) : Memref sig .tc .vmem S2048x128 .bf16 := win0_7.stage (cfg0.slots t 7)
/-- The buffer of window 7 at point `t` is whole. -/
abbrev hs0_7 (t : Fin cfg0.N) : (ms0_7 t).IsWhole := hstage0_7 ((cfg0.slots t 7).cast nbuf0_7)
/-- The normalised rows, kept from point to point. -/
abbrev scM0_0 : Memref sig .tc .vmem S1024x2048 .bf16 := Memref.whole cc0_scratch0
/-- The same, as a view. -/
abbrev VS0_0 : View sig .tc .vmem S1024x2048 .bf16 := scM0_0.view

/-- The state before the first point, spelt out. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.FfnRestIdeal.Gen

end
-- ==== Proof.FfnRestIdealRunA.lean ====
module

public import proofs.«01_k».proof.Proof.FfnRestIdealPoints

/-! One point of the call `ffn` on the rows from 1024: the first of a row tile with the cast at rest. -/

@[expose] public section

set_option maxRecDepth 16384

noncomputable section

namespace Cert.FfnRestIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point that is the first of a row tile with the cast at rest: it runs to its end from the buffers at any contents, and the lists are what it stores into each. -/
noncomputable def kernelRun0_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x128x2048 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x2048 .bf16) (harg10 : arg10.IsWhole) (hc0 : cond0_0 i) (hc1 : ¬cond0_1 i)
    (x0 : Vec F S1024x2048 .f32) (x1 : Vec F S1x2048 .f32) (x2 : Vec F S2048x512 .bf16) (x3 : Vec F S2048x512 .bf16) (x4 : Vec F S512x2048 .bf16) (x5 : Vec F S1x128x2048 .f32) :
    Σ' (L6 : List (View.Piece (Elt F) S1024x2048 .f32)), Σ' (L7 : List (View.Piece (Elt F) S2048x128 .bf16)), { LS0 : List (View.Piece (Elt F) S1024x2048 .bf16) //
      ∀ (xi7 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10) K } := by
  refine ⟨?_, [], ?_, fun xi7 E K => ?run⟩
  case run =>
    simp only [cc0_ffn_eq_skeleton]; unfold cc0_ffn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; iexact HS0

end Cert.FfnRestIdeal.Gen

end
-- ==== Proof.FfnRestIdealRunB.lean ====
module

public import proofs.«01_k».proof.Proof.FfnRestIdealRunA

/-! One point of the call `ffn` on the rows from 1024: a later one of a row tile with the cast at rest. -/

@[expose] public section

set_option maxRecDepth 16384

noncomputable section

namespace Cert.FfnRestIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point that is a later one of a row tile with the cast at rest: it runs to its end from the buffers at any contents, and the lists are what it stores into each. -/
noncomputable def kernelRun0_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x128x2048 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x2048 .bf16) (harg10 : arg10.IsWhole) (hc0 : ¬cond0_0 i) (hc1 : ¬cond0_1 i)
    (x0 : Vec F S1024x2048 .f32) (x1 : Vec F S1x2048 .f32) (x2 : Vec F S2048x512 .bf16) (x3 : Vec F S2048x512 .bf16) (x4 : Vec F S512x2048 .bf16) (x5 : Vec F S1x128x2048 .f32) (xo6 : Vec F S1024x2048 .f32) (xs0 : Vec F S1024x2048 .bf16) :
    Σ' (L6 : List (View.Piece (Elt F) S1024x2048 .f32)), Σ' (L7 : List (View.Piece (Elt F) S2048x128 .bf16)), { LS0 : List (View.Piece (Elt F) S1024x2048 .bf16) //
      ∀ (xi7 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xs0) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10) K } := by
  refine ⟨?_, [], [], fun xi7 E K => ?run⟩
  case run =>
    simp only [cc0_ffn_eq_skeleton]; unfold cc0_ffn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; isplitr; · ipureintro; exact harg10.read_unread _
    iexact HS0

end Cert.FfnRestIdeal.Gen

end
-- ==== Proof.FfnRestIdealRunC.lean ====
module

public import proofs.«01_k».proof.Proof.FfnRestIdealRunB

/-! One point of the call `ffn` on the rows from 1024: a later one of a row tile with the cast at work. -/

@[expose] public section

set_option maxRecDepth 16384

noncomputable section

namespace Cert.FfnRestIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point that is a later one of a row tile with the cast at work: it runs to its end from the buffers at any contents, and the lists are what it stores into each. -/
noncomputable def kernelRun0_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x128x2048 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x2048 .bf16) (harg10 : arg10.IsWhole) (hc0 : ¬cond0_0 i) (hc1 : cond0_1 i)
    (x0 : Vec F S1024x2048 .f32) (x1 : Vec F S1x2048 .f32) (x2 : Vec F S2048x512 .bf16) (x3 : Vec F S2048x512 .bf16) (x4 : Vec F S512x2048 .bf16) (x5 : Vec F S1x128x2048 .f32) (xo6 : Vec F S1024x2048 .f32) (xs0 : Vec F S1024x2048 .bf16) :
    Σ' (L6 : List (View.Piece (Elt F) S1024x2048 .f32)), Σ' (L7 : List (View.Piece (Elt F) S2048x128 .bf16)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10) K } := by
  refine ⟨?_, ?_, [], fun E K => ?run⟩
  case run =>
    simp only [cc0_ffn_eq_skeleton]; unfold cc0_ffn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; isplitr; · ipureintro; exact harg10.read_unread _
    iexact HS0

end Cert.FfnRestIdeal.Gen

end
-- ==== Proof.FfnRestIdealRunD.lean ====
module

public import proofs.«01_k».proof.Proof.FfnRestIdealRunC

/-! One point of the call `ffn` on the rows from 1024: the first of a row tile with the cast at work. -/

@[expose] public section

set_option maxRecDepth 16384

noncomputable section

namespace Cert.FfnRestIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point that is the first of a row tile with the cast at work: it runs to its end from the buffers at any contents, and the lists are what it stores into each. -/
noncomputable def kernelRun0_D (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x128x2048 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x2048 .bf16) (harg10 : arg10.IsWhole) (hc0 : cond0_0 i) (hc1 : cond0_1 i)
    (x0 : Vec F S1024x2048 .f32) (x1 : Vec F S1x2048 .f32) (x2 : Vec F S2048x512 .bf16) (x3 : Vec F S2048x512 .bf16) (x4 : Vec F S512x2048 .bf16) (x5 : Vec F S1x128x2048 .f32) :
    Σ' (L6 : List (View.Piece (Elt F) S1024x2048 .f32)), Σ' (L7 : List (View.Piece (Elt F) S2048x128 .bf16)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10) K } := by
  refine ⟨?_, ?_, ?_, fun E K => ?run⟩
  case run =>
    simp only [cc0_ffn_eq_skeleton]; unfold cc0_ffn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

end Cert.FfnRestIdeal.Gen

end
-- ==== Proof.FfnRestIdealFrame.lean ====
module

public import proofs.«01_k».proof.Proof.FfnRestIdealRunD
public import Idealize.ShloMosaic.Lib.Claim

/-! The call `ffn` on the rows from 1024 runs to its end and leaves its arguments as they were. -/

@[expose] public section

set_option maxRecDepth 16384

noncomputable section

namespace Cert.FfnRestIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- At a point that is the first of a row tile with the cast at rest, the stores into the row tile of the result reach every element. -/
theorem cover0_A_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x128x2048 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x2048 .bf16) (harg10 : arg10.IsWhole) (hc0 : cond0_0 i) (hc1 : ¬cond0_1 i)
    (x0 : Vec F S1024x2048 .f32) (x1 : Vec F S1x2048 .f32) (x2 : Vec F S2048x512 .bf16) (x3 : Vec F S2048x512 .bf16) (x4 : Vec F S512x2048 .bf16) (x5 : Vec F S1x128x2048 .f32) (y : S1024x2048.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).1 S1024x2048.size (by sl_kernel_rfl) y

/-- What a point that is the first of a row tile with the cast at rest leaves in the row tile of the result. -/
def out0_A_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x128x2048 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x2048 .bf16) (harg10 : arg10.IsWhole) (hc0 : cond0_0 i) (hc1 : ¬cond0_1 i)
    (x0 : Vec F S1024x2048 .f32) (x1 : Vec F S1x2048 .f32) (x2 : Vec F S2048x512 .bf16) (x3 : Vec F S2048x512 .bf16) (x4 : Vec F S512x2048 .bf16) (x5 : Vec F S1x128x2048 .f32) : Vec F S1024x2048 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4 x5).1)

/-- At a point that is the first of a row tile with the cast at rest, the stores into the normalised rows reach every element. -/
theorem scover0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x128x2048 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x2048 .bf16) (harg10 : arg10.IsWhole) (hc0 : cond0_0 i) (hc1 : ¬cond0_1 i)
    (x0 : Vec F S1024x2048 .f32) (x1 : Vec F S1x2048 .f32) (x2 : Vec F S2048x512 .bf16) (x3 : Vec F S2048x512 .bf16) (x4 : Vec F S512x2048 .bf16) (x5 : Vec F S1x128x2048 .f32) (y : S1024x2048.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).2.2.1 S1024x2048.size (by sl_kernel_rfl) y

/-- What a point that is the first of a row tile with the cast at rest leaves in the normalised rows. -/
def sout0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x128x2048 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x2048 .bf16) (harg10 : arg10.IsWhole) (hc0 : cond0_0 i) (hc1 : ¬cond0_1 i)
    (x0 : Vec F S1024x2048 .f32) (x1 : Vec F S1x2048 .f32) (x2 : Vec F S2048x512 .bf16) (x3 : Vec F S2048x512 .bf16) (x4 : Vec F S512x2048 .bf16) (x5 : Vec F S1x128x2048 .f32) : Vec F S1024x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5).2.2.1)

/-- At a point that is a later one of a row tile with the cast at rest, the stores into the row tile of the result reach every element. -/
theorem cover0_B_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x128x2048 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x2048 .bf16) (harg10 : arg10.IsWhole) (hc0 : ¬cond0_0 i) (hc1 : ¬cond0_1 i)
    (x0 : Vec F S1024x2048 .f32) (x1 : Vec F S1x2048 .f32) (x2 : Vec F S2048x512 .bf16) (x3 : Vec F S2048x512 .bf16) (x4 : Vec F S512x2048 .bf16) (x5 : Vec F S1x128x2048 .f32) (xo6 : Vec F S1024x2048 .f32) (xs0 : Vec F S1024x2048 .bf16) (y : S1024x2048.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xo6 xs0).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xo6 xs0).1 S1024x2048.size (by sl_kernel_rfl) y

/-- What a point that is a later one of a row tile with the cast at rest leaves in the row tile of the result. -/
def out0_B_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x128x2048 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x2048 .bf16) (harg10 : arg10.IsWhole) (hc0 : ¬cond0_0 i) (hc1 : ¬cond0_1 i)
    (x0 : Vec F S1024x2048 .f32) (x1 : Vec F S1x2048 .f32) (x2 : Vec F S2048x512 .bf16) (x3 : Vec F S2048x512 .bf16) (x4 : Vec F S512x2048 .bf16) (x5 : Vec F S1x128x2048 .f32) (xo6 : Vec F S1024x2048 .f32) (xs0 : Vec F S1024x2048 .bf16) : Vec F S1024x2048 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 x5 xo6 xs0).1)

/-- What a point that is a later one of a row tile with the cast at rest leaves in the normalised rows. -/
def sout0_B_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x128x2048 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x2048 .bf16) (harg10 : arg10.IsWhole) (hc0 : ¬cond0_0 i) (hc1 : ¬cond0_1 i)
    (x0 : Vec F S1024x2048 .f32) (x1 : Vec F S1x2048 .f32) (x2 : Vec F S2048x512 .bf16) (x3 : Vec F S2048x512 .bf16) (x4 : Vec F S512x2048 .bf16) (x5 : Vec F S1x128x2048 .f32) (xo6 : Vec F S1024x2048 .f32) (xs0 : Vec F S1024x2048 .bf16) : Vec F S1024x2048 .bf16 := xs0

/-- At a point that is a later one of a row tile with the cast at work, the stores into the row tile of the result reach every element. -/
theorem cover0_C_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x128x2048 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x2048 .bf16) (harg10 : arg10.IsWhole) (hc0 : ¬cond0_0 i) (hc1 : cond0_1 i)
    (x0 : Vec F S1024x2048 .f32) (x1 : Vec F S1x2048 .f32) (x2 : Vec F S2048x512 .bf16) (x3 : Vec F S2048x512 .bf16) (x4 : Vec F S512x2048 .bf16) (x5 : Vec F S1x128x2048 .f32) (xo6 : Vec F S1024x2048 .f32) (xs0 : Vec F S1024x2048 .bf16) (y : S1024x2048.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xo6 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xo6 xs0).1 S1024x2048.size (by sl_kernel_rfl) y

/-- What a point that is a later one of a row tile with the cast at work leaves in the row tile of the result. -/
def out0_C_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x128x2048 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x2048 .bf16) (harg10 : arg10.IsWhole) (hc0 : ¬cond0_0 i) (hc1 : cond0_1 i)
    (x0 : Vec F S1024x2048 .f32) (x1 : Vec F S1x2048 .f32) (x2 : Vec F S2048x512 .bf16) (x3 : Vec F S2048x512 .bf16) (x4 : Vec F S512x2048 .bf16) (x5 : Vec F S1x128x2048 .f32) (xo6 : Vec F S1024x2048 .f32) (xs0 : Vec F S1024x2048 .bf16) : Vec F S1024x2048 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 x5 xo6 xs0).1)

/-- At a point that is a later one of a row tile with the cast at work, the stores into the block of the cast reach every element. -/
theorem cover0_C_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x128x2048 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x2048 .bf16) (harg10 : arg10.IsWhole) (hc0 : ¬cond0_0 i) (hc1 : cond0_1 i)
    (x0 : Vec F S1024x2048 .f32) (x1 : Vec F S1x2048 .f32) (x2 : Vec F S2048x512 .bf16) (x3 : Vec F S2048x512 .bf16) (x4 : Vec F S512x2048 .bf16) (x5 : Vec F S1x128x2048 .f32) (xo6 : Vec F S1024x2048 .f32) (xs0 : Vec F S1024x2048 .bf16) (y : S2048x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xo6 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xo6 xs0).2.1 S2048x128.size (by sl_kernel_rfl) y

/-- What a point that is a later one of a row tile with the cast at work leaves in the block of the cast. -/
def out0_C_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x128x2048 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x2048 .bf16) (harg10 : arg10.IsWhole) (hc0 : ¬cond0_0 i) (hc1 : cond0_1 i)
    (x0 : Vec F S1024x2048 .f32) (x1 : Vec F S1x2048 .f32) (x2 : Vec F S2048x512 .bf16) (x3 : Vec F S2048x512 .bf16) (x4 : Vec F S512x2048 .bf16) (x5 : Vec F S1x128x2048 .f32) (xo6 : Vec F S1024x2048 .f32) (xs0 : Vec F S1024x2048 .bf16) : Vec F S2048x128 .bf16 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 x5 xo6 xs0).2.1)

/-- What a point that is a later one of a row tile with the cast at work leaves in the normalised rows. -/
def sout0_C_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x128x2048 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x2048 .bf16) (harg10 : arg10.IsWhole) (hc0 : ¬cond0_0 i) (hc1 : cond0_1 i)
    (x0 : Vec F S1024x2048 .f32) (x1 : Vec F S1x2048 .f32) (x2 : Vec F S2048x512 .bf16) (x3 : Vec F S2048x512 .bf16) (x4 : Vec F S512x2048 .bf16) (x5 : Vec F S1x128x2048 .f32) (xo6 : Vec F S1024x2048 .f32) (xs0 : Vec F S1024x2048 .bf16) : Vec F S1024x2048 .bf16 := xs0

/-- At a point that is the first of a row tile with the cast at work, the stores into the row tile of the result reach every element. -/
theorem cover0_D_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x128x2048 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x2048 .bf16) (harg10 : arg10.IsWhole) (hc0 : cond0_0 i) (hc1 : cond0_1 i)
    (x0 : Vec F S1024x2048 .f32) (x1 : Vec F S1x2048 .f32) (x2 : Vec F S2048x512 .bf16) (x3 : Vec F S2048x512 .bf16) (x4 : Vec F S512x2048 .bf16) (x5 : Vec F S1x128x2048 .f32) (y : S1024x2048.Idx) :
    ∃ pc ∈ (kernelRun0_D c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun0_D c i arg2 harg2 arg3 harg3 arg4 harg4 arg5 harg5 arg6 harg6 arg7 harg7 arg8 harg8 arg9 harg9 arg10 harg10 hc0 hc1 x0 x1 x2 x3 x4 x5).1 S1024x2048.size (by sl_kernel_rfl) y

/-- What a point that is the first of a row tile with the cast at work leaves in the row tile of the result. -/
def out0_D_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x128x2048 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x2048 .bf16) (harg10 : arg10.IsWhole) (hc0 : cond0_0 i) (hc1 : cond0_1 i)
    (x0 : Vec F S1024x2048 .f32) (x1 : Vec F S1x2048 .f32) (x2 : Vec F S2048x512 .bf16) (x3 : Vec F S2048x512 .bf16) (x4 : Vec F S512x2048 .bf16) (x5 : Vec F S1x128x2048 .f32) : Vec F S1024x2048 .f32 :=
  VO0_6.read (Elt F) (VO0_6.writes (Elt F) VO0_6.junk (kernelRun0_D c i arg2 harg2 arg3 harg3 arg4 harg4 arg5 harg5 arg6 harg6 arg7 harg7 arg8 harg8 arg9 harg9 arg10 harg10 hc0 hc1 x0 x1 x2 x3 x4 x5).1)

/-- At a point that is the first of a row tile with the cast at work, the stores into the block of the cast reach every element. -/
theorem cover0_D_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x128x2048 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x2048 .bf16) (harg10 : arg10.IsWhole) (hc0 : cond0_0 i) (hc1 : cond0_1 i)
    (x0 : Vec F S1024x2048 .f32) (x1 : Vec F S1x2048 .f32) (x2 : Vec F S2048x512 .bf16) (x3 : Vec F S2048x512 .bf16) (x4 : Vec F S512x2048 .bf16) (x5 : Vec F S1x128x2048 .f32) (y : S2048x128.Idx) :
    ∃ pc ∈ (kernelRun0_D c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun0_D c i arg2 harg2 arg3 harg3 arg4 harg4 arg5 harg5 arg6 harg6 arg7 harg7 arg8 harg8 arg9 harg9 arg10 harg10 hc0 hc1 x0 x1 x2 x3 x4 x5).2.1 S2048x128.size (by sl_kernel_rfl) y

/-- What a point that is the first of a row tile with the cast at work leaves in the block of the cast. -/
def out0_D_7 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x128x2048 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x2048 .bf16) (harg10 : arg10.IsWhole) (hc0 : cond0_0 i) (hc1 : cond0_1 i)
    (x0 : Vec F S1024x2048 .f32) (x1 : Vec F S1x2048 .f32) (x2 : Vec F S2048x512 .bf16) (x3 : Vec F S2048x512 .bf16) (x4 : Vec F S512x2048 .bf16) (x5 : Vec F S1x128x2048 .f32) : Vec F S2048x128 .bf16 :=
  VO0_7.read (Elt F) (VO0_7.writes (Elt F) VO0_7.junk (kernelRun0_D c i arg2 harg2 arg3 harg3 arg4 harg4 arg5 harg5 arg6 harg6 arg7 harg7 arg8 harg8 arg9 harg9 arg10 harg10 hc0 hc1 x0 x1 x2 x3 x4 x5).2.1)

/-- At a point that is the first of a row tile with the cast at work, the stores into the normalised rows reach every element. -/
theorem scover0_D_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x128x2048 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x2048 .bf16) (harg10 : arg10.IsWhole) (hc0 : cond0_0 i) (hc1 : cond0_1 i)
    (x0 : Vec F S1024x2048 .f32) (x1 : Vec F S1x2048 .f32) (x2 : Vec F S2048x512 .bf16) (x3 : Vec F S2048x512 .bf16) (x4 : Vec F S512x2048 .bf16) (x5 : Vec F S1x128x2048 .f32) (y : S1024x2048.Idx) :
    ∃ pc ∈ (kernelRun0_D c i arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun0_D c i arg2 harg2 arg3 harg3 arg4 harg4 arg5 harg5 arg6 harg6 arg7 harg7 arg8 harg8 arg9 harg9 arg10 harg10 hc0 hc1 x0 x1 x2 x3 x4 x5).2.2.1 S1024x2048.size (by sl_kernel_rfl) y

/-- What a point that is the first of a row tile with the cast at work leaves in the normalised rows. -/
def sout0_D_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x128x2048 .f32) (harg7 : arg7.IsWhole) (arg8 : Memref sig .tc .vmem S1024x2048 .f32) (harg8 : arg8.IsWhole) (arg9 : Memref sig .tc .vmem S2048x128 .bf16) (harg9 : arg9.IsWhole) (arg10 : Memref sig .tc .vmem S1024x2048 .bf16) (harg10 : arg10.IsWhole) (hc0 : cond0_0 i) (hc1 : cond0_1 i)
    (x0 : Vec F S1024x2048 .f32) (x1 : Vec F S1x2048 .f32) (x2 : Vec F S2048x512 .bf16) (x3 : Vec F S2048x512 .bf16) (x4 : Vec F S512x2048 .bf16) (x5 : Vec F S1x128x2048 .f32) : Vec F S1024x2048 .bf16 :=
  VS0_0.read (Elt F) (VS0_0.writes (Elt F) VS0_0.junk (kernelRun0_D c i arg2 harg2 arg3 harg3 arg4 harg4 arg5 harg5 arg6 harg6 arg7 harg7 arg8 harg8 arg9 harg9 arg10 harg10 hc0 hc1 x0 x1 x2 x3 x4 x5).2.2.1)

/-- What the two result buffers and the normalised rows hold after point `n`: at a point where the cast is at rest its block is the one of the point before. -/
def outsAt0 (c : Dev nD) : (n : ℕ) → n < cfg0.N → Vec F S1024x2048 .f32 × Vec F S2048x128 .bf16 × Vec F S1024x2048 .bf16
  | 0, hn => (out0_D_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) ((hcond0_1 ⟨0, hn⟩).mpr (Nat.zero_lt_succ 47)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_D_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) ((hcond0_1 ⟨0, hn⟩).mpr (Nat.zero_lt_succ 47)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_D_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) ((hcond0_1 ⟨0, hn⟩).mpr (Nat.zero_lt_succ 47)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 11 = 0 then
      if h1 : (n + 1) < 48 then
        (out0_D_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_D_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), (outsAt0 c n (Nat.lt_of_succ_lt hn)).2.1, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) < 48 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.2, (outsAt0 c n (Nat.lt_of_succ_lt hn)).2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.2)

/-- The contents after a point that is the first of a row tile with the cast at rest. -/
theorem outsAt0_A (c : Dev nD) (t : Fin cfg0.N) (h0 : t.val % 11 = 0) (h1 : ¬t.val < 48) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t), (outsAt0 m c (t.val - 1) (Nat.lt_of_le_of_lt (Nat.sub_le _ _) t.isLt)).2.1, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact absurd (Nat.zero_lt_succ 47) h1
  | succ n =>
    dsimp only at h0 h1 ⊢
    rw [outsAt0, dif_pos h0, dif_neg h1]
    try rfl

/-- The contents after a point that is a later one of a row tile with the cast at rest. -/
theorem outsAt0_B (c : Dev nD) (t : Fin cfg0.N) (h0 : ¬t.val % 11 = 0) (h1 : ¬t.val < 48) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.2, (outsAt0 m c (t.val - 1) (Nat.lt_of_le_of_lt (Nat.sub_le _ _) t.isLt)).2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n =>
    dsimp only at h0 h1 ⊢
    rw [outsAt0, dif_neg h0, dif_neg h1]
    try rfl

/-- The contents after a point that is a later one of a row tile with the cast at work. -/
theorem outsAt0_C (c : Dev nD) (t : Fin cfg0.N) (h0 : ¬t.val % 11 = 0) (h1 : t.val < 48) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n =>
    dsimp only at h0 h1 ⊢
    rw [outsAt0, dif_neg h0, dif_pos h1]
    try rfl

/-- The contents after a point that is the first of a row tile with the cast at work. -/
theorem outsAt0_D (c : Dev nD) (t : Fin cfg0.N) (h0 : t.val % 11 = 0) (h1 : t.val < 48) :
    outsAt0 m c t.val t.isLt = (out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) ((hcond0_1 t).mpr h1) (iblk m c 0 t) (iblk m c 1 t) (iblk m c 2 t) (iblk m c 3 t) (iblk m c 4 t) (iblk m c 5 t), out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) ((hcond0_1 t).mpr h1) (iblk m c 0 t) (iblk m c 1 t) (iblk m c 2 t) (iblk m c 3 t) (iblk m c 4 t) (iblk m c 5 t), sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) ((hcond0_1 t).mpr h1) (iblk m c 0 t) (iblk m c 1 t) (iblk m c 2 t) (iblk m c 3 t) (iblk m c 4 t) (iblk m c 5 t)) := by
  obtain ⟨n, hn⟩ := t
  cases n with
  | zero => exact rfl
  | succ n =>
    dsimp only at h0 h1 ⊢
    rw [outsAt0, dif_pos h0, dif_pos h1]
    try rfl

/-- What holds between points: the normalised rows are those the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

/-- Before the first point nothing is known of the normalised rows. -/
theorem PhiS_zero (c : Dev nD) (n : ℕ) (h : n ≤ cfg0.N) (hz : n = 0) : PhiS m c n h = Pipeline.ΦA spec0 c := by
  subst hz; rfl

/-- After point `n`. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-- The contents of every window before and after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q _ := fullShare
  owed _ := 0

/-- The arrays are those the region finds. -/
theorem A_eq (c : Dev nD) (w : Fin cfg0.W) : (dats m 0 c).A w = V m c (Pipeline.arrRef spec0 w) := by
  dsimp only [dats]

/-- The state between points, by the number of the point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the buffer of window 0 holds after point `t`. -/
theorem after0_0 (c : Dev nD) (t : Fin cfg0.N) : (dats m 0 c).after 0 t = iblk m c 0 t := by dsimp only [dats]
/-- What the buffer of window 1 holds after point `t`. -/
theorem after0_1 (c : Dev nD) (t : Fin cfg0.N) : (dats m 0 c).after 1 t = iblk m c 1 t := by dsimp only [dats]
/-- What the buffer of window 2 holds after point `t`. -/
theorem after0_2 (c : Dev nD) (t : Fin cfg0.N) : (dats m 0 c).after 2 t = iblk m c 2 t := by dsimp only [dats]
/-- What the buffer of window 3 holds after point `t`. -/
theorem after0_3 (c : Dev nD) (t : Fin cfg0.N) : (dats m 0 c).after 3 t = iblk m c 3 t := by dsimp only [dats]
/-- What the buffer of window 4 holds after point `t`. -/
theorem after0_4 (c : Dev nD) (t : Fin cfg0.N) : (dats m 0 c).after 4 t = iblk m c 4 t := by dsimp only [dats]
/-- What the buffer of window 5 holds after point `t`. -/
theorem after0_5 (c : Dev nD) (t : Fin cfg0.N) : (dats m 0 c).after 5 t = iblk m c 5 t := by dsimp only [dats]
/-- What the buffer of window 6 holds after point `t`. -/
theorem after0_6 (c : Dev nD) (t : Fin cfg0.N) : (dats m 0 c).after 6 t = (outsAt0 m c t.val t.isLt).1 := by dsimp only [dats]
/-- What the buffer of window 7 holds after point `t`. -/
theorem after0_7 (c : Dev nD) (t : Fin cfg0.N) : (dats m 0 c).after 7 t = (outsAt0 m c t.val t.isLt).2.1 := by dsimp only [dats]

/-- What the buffer of window 0 holds before point `t`. -/
theorem before0_0 (c : Dev nD) (t : Fin cfg0.N) (d) : (dats m 0 c).before 0 t d = iblk m c 0 t :=
  before0_0_of m (dats m 0 c) (A_eq m c 0) (after0_0 m c) t d
/-- What the buffer of window 1 holds before point `t`. -/
theorem before0_1 (c : Dev nD) (t : Fin cfg0.N) (d) : (dats m 0 c).before 1 t d = iblk m c 1 t :=
  before0_1_of m (dats m 0 c) (A_eq m c 1) (after0_1 m c) t d
/-- What the buffer of window 2 holds before point `t`. -/
theorem before0_2 (c : Dev nD) (t : Fin cfg0.N) (d) : (dats m 0 c).before 2 t d = iblk m c 2 t :=
  before0_2_of m (dats m 0 c) (A_eq m c 2) (after0_2 m c) t d
/-- What the buffer of window 3 holds before point `t`. -/
theorem before0_3 (c : Dev nD) (t : Fin cfg0.N) (d) : (dats m 0 c).before 3 t d = iblk m c 3 t :=
  before0_3_of m (dats m 0 c) (A_eq m c 3) (after0_3 m c) t d
/-- What the buffer of window 4 holds before point `t`. -/
theorem before0_4 (c : Dev nD) (t : Fin cfg0.N) (d) : (dats m 0 c).before 4 t d = iblk m c 4 t :=
  before0_4_of m (dats m 0 c) (A_eq m c 4) (after0_4 m c) t d
/-- What the buffer of window 5 holds before point `t`. -/
theorem before0_5 (c : Dev nD) (t : Fin cfg0.N) (d) : (dats m 0 c).before 5 t d = iblk m c 5 t :=
  before0_5_of m (dats m 0 c) (A_eq m c 5) (after0_5 m c) t d
/-- What the buffer of window 6 holds before point `t`. -/
theorem before0_6_B (c : Dev nD) (t : Fin cfg0.N) (h0 : ¬t.val % 11 = 0) (h1 : ¬t.val < 48) (d) :
    (dats m 0 c).before 6 t d = (outsAt0 m c (t.val - 1) (Nat.lt_of_le_of_lt (Nat.sub_le _ _) t.isLt)).1 := by
  have hN : t.val < 77 := lt_of_lt_of_eq t.isLt (show cfg0.N = 77 from N_0)
  rw [Dat.before_out_kept _ 6 rfl t (by omega) (Bool.eq_false_iff.mpr fun h => by have := (flush0_6 _).mp h; dsimp only at this; omega)
    (fun _ => rfl) (fun _ _ => rfl)]
  dsimp only [dats]
/-- What the buffer of window 6 holds before point `t`. -/
theorem before0_6_C (c : Dev nD) (t : Fin cfg0.N) (h0 : ¬t.val % 11 = 0) (h1 : t.val < 48) (d) :
    (dats m 0 c).before 6 t d = (outsAt0 m c (t.val - 1) (Nat.lt_of_le_of_lt (Nat.sub_le _ _) t.isLt)).1 := by
  have hN : t.val < 77 := lt_of_lt_of_eq t.isLt (show cfg0.N = 77 from N_0)
  rw [Dat.before_out_kept _ 6 rfl t (by omega) (Bool.eq_false_iff.mpr fun h => by have := (flush0_6 _).mp h; dsimp only at this; omega)
    (fun _ => rfl) (fun _ _ => rfl)]
  dsimp only [dats]

/-- Whether the buffer of the cast holds nothing yet: up to point 47, where every block is written back at its own point. -/
theorem fresh0_7 : ∀ n, n ≤ cfg0.N → cfg0.fresh 7 n = decide (n ≤ 47 ∨ n = 77) :=
  Pipeline.Cfg.fresh_tab cfg0 7 (fun n => decide (n ≤ 47 ∨ n = 77)) (by decide) (by decide +kernel)

/-- At a point where the cast is at rest its block stays the one of the point before. -/
theorem carry0_7 (c : Dev nD) (t : Fin cfg0.N) (h1 : ¬t.val < 48) :
    (outsAt0 m c t.val t.isLt).2.1 = (outsAt0 m c (t.val - 1) (Nat.lt_of_le_of_lt (Nat.sub_le _ _) t.isLt)).2.1 := by
  by_cases h0 : t.val % 11 = 0
  · rw [outsAt0_A m c t h0 h1]
  · rw [outsAt0_B m c t h0 h1]

/-- Where the cast is at rest, its buffer holds what the point before left. -/
theorem before0_7 (c : Dev nD) (t : Fin cfg0.N) (h1 : ¬t.val < 48) (d) :
    (dats m 0 c).before 7 t d = (outsAt0 m c (t.val - 1) (Nat.lt_of_le_of_lt (Nat.sub_le _ _) t.isLt)).2.1 := by
  have hN : t.val < 77 := lt_of_lt_of_eq t.isLt (show cfg0.N = 77 from N_0)
  have hc : ∀ (t : Fin cfg0.N) (_ : t.val ≠ 0), cfg0.idle 7 (cfg0.grid.coords t) = true → cfg0.fresh 7 t.val = false →
      (dats m 0 c).after 7 t = (dats m 0 c).after 7 ⟨t.val - 1, by omega⟩ := fun t _ _ hf => by
    rw [fresh0_7 t.val (Nat.le_of_lt t.isLt)] at hf
    have hf' := of_decide_eq_false hf
    rw [after0_7, after0_7]
    exact carry0_7 m c t (by omega)
  rw [Dat.before_out_traj (dats m 0 c) 7 rfl (fun _ _ => rfl) hc t.val t rfl d,
    fresh0_7 t.val (Nat.le_of_lt t.isLt), if_neg (by simp only [decide_eq_true_eq]; omega), after0_7]

/-- A block of the cast that the body leaves alone is what the point has to leave. -/
theorem leaves0_7 (c : Dev nD) (t : Fin cfg0.N) (h1 : ¬t.val < 48) (d) :
    (owns (c : Thread nD τ) (ms0_7 t) fullShare ((dats m 0 c).before 7 t d) : sProp 𝕄) ⊢ (dats m 0 c).leavesExact 7 t := by
  have hi := idleAt0_7 t (fun h => h1 ((hcond0_1 t).mp h))
  by_cases hl : t.val = 76
  · rw [show (dats m 0 c).leavesExact 7 t = owns (c : Thread nD τ) (ms0_7 t) fullShare ((dats m 0 c).after 7 t) from by
      unfold Dat.leavesExact; rw [hi, flush0_7_last t hl]]
    rw [before0_7 m c t h1 d, after0_7, carry0_7 m c t h1]
  · rw [Dat.leavesExact_idle (dats m 0 c) 7 t hi (noFlush0_7 t (fun h => h1 ((hcond0_1 t).mp h)) hl)]
    iintro H; iexists _; iexact H

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What the body leaves at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 12800000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 77 := lt_of_lt_of_eq t.isLt (show cfg0.N = 77 from N_0)
  by_cases h0 : t.val % 11 = 0
  · by_cases h1 : t.val < 48
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_D t ((hcond0_0 t).mpr h0) ((hcond0_1 t).mpr h1)], after0_7]
      by_cases hz : t.val = 0
      · rw [PhiS_castSucc m c t, PhiS_zero m c _ _ hz, PhiA0_eq]
        rw [outsAt0_D m c t h0 h1]
        unfold out0_D_6 out0_D_7 sout0_D_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_D c (grid0.coords t) _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, ⟨%e6, H6⟩, ⟨%e7, H7⟩, ⟨%es0, HS0⟩⟩
        isplitl [HS0 Hg]
        · isplitl [HS0]
          · unfold owns; iexists _; isplitr
            swap; · iexact HS0
            ipureintro; exact View.read_writes_of_cover _ _ _ _ _ (scover0_D_0 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_D_6 c _ _ _ _ _ _ _ _ _ _ _ _ _ _ _ _ _ _ _ _ _ _ _ _ _ _ _)
        unfold owns; iexists _; isplitr
        swap; · iexact H7
        ipureintro; exact View.read_writes_of_cover _ _ _ _ _ (cover0_D_7 c _ _ _ _ _ _ _ _ _ _ _ _ _ _ _ _ _ _ _ _ _ _ _ _ _ _ _)
      · rw [PhiS_castSucc m c t, PhiS_pos m c _ _ hz]
        rw [outsAt0_D m c t h0 h1]
        unfold out0_D_6 out0_D_7 sout0_D_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_D c (grid0.coords t) _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexists _; iexact HS0
        iintro ⟨H0, H1, H2, H3, H4, H5, ⟨%e6, H6⟩, ⟨%e7, H7⟩, ⟨%es0, HS0⟩⟩
        isplitl [HS0 Hg]
        · isplitl [HS0]
          · unfold owns; iexists _; isplitr
            swap; · iexact HS0
            ipureintro; exact View.read_writes_of_cover _ _ _ _ _ (scover0_D_0 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_D_6 c _ _ _ _ _ _ _ _ _ _ _ _ _ _ _ _ _ _ _ _ _ _ _ _ _ _ _)
        unfold owns; iexists _; isplitr
        swap; · iexact H7
        ipureintro; exact View.read_writes_of_cover _ _ _ _ _ (cover0_D_7 c _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      by_cases hz : t.val = 0
      · exfalso; omega
      · rw [PhiS_castSucc m c t, PhiS_pos m c _ _ hz]
        rw [outsAt0_A m c t h0 h1]
        unfold out0_A_6 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexists _; iexact HS0
        iintro ⟨H0, H1, H2, H3, H4, H5, ⟨%e6, H6⟩, H7, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _)
        iapply (leaves0_7 m c t h1 _); iexact H7
  · by_cases h1 : t.val < 48
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1)], after0_7]
      by_cases hz : t.val = 0
      · exfalso; have hN : t.val < 77 := lt_of_lt_of_eq t.isLt (show cfg0.N = 77 from N_0); omega
      · rw [PhiS_castSucc m c t, PhiS_pos m c _ _ hz]
        rw [outsAt0_C m c t h0 h1]
        simp only [before0_6_C m c t h0 h1]
        unfold out0_C_6 out0_C_7 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, ⟨%e6, H6⟩, ⟨%e7, H7⟩, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      by_cases hz : t.val = 0
      · exfalso; have hN : t.val < 77 := lt_of_lt_of_eq t.isLt (show cfg0.N = 77 from N_0); omega
      · rw [PhiS_castSucc m c t, PhiS_pos m c _ _ hz]
        rw [outsAt0_B m c t h0 h1]
        simp only [before0_6_B m c t h0 h1]
        unfold out0_B_6 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, ⟨%e6, H6⟩, H7, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _)
        iapply (leaves0_7 m c t h1 _); iexact H7

/-- The body as it is called at point `t`. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The state before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After a point the normalised rows can be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The state after the last point. -/
theorem hout (c : Dev nD) : (dats m 0 c).Φ (Fin.last cfg0.N) ⊢ Pipeline.ΦA spec0 c :=
  Phi_out m c _ (by rw [Fin.val_last]; have : cfg0.N = 77 := N_0; omega)

set_option backward.isDefEq.respectTransparency.types false in
/-- Every execution ends, with each array at what the points make of it, and with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every execution ends, with each array at what the points make of it. -/
theorem run_main : θ_run defs (onTc (τ := τ) (main (F := F))) (s₀ m ρ) (Pipeline.FramePost cfgs (dats m) 0 (V m)) :=
  (θ_run defs _ _).mono (fun _ h => h.1) (run_main_quiescent m ρ)

/-- Every execution ends with the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- Every execution ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.FfnRestIdeal.Gen

end
-- ==== Proof.FfnRestPay.lean ====
module

public import proofs.«01_k».proof.Proof.FfnRestIdealFrame
public import proofs.«01_k».proof.Proof.Gen.FfnRestRefIdeal.Read
public import proofs.«01_k».proof.Proof.LayerMath
public import Idealize.ShloMosaic.Lib.Pipeline.ValueKit

/-! The body of the call `ffn` on the rows from 1024 and its reference, both read as the formulas of `LayerMath`. -/

@[expose] public section

set_option maxRecDepth 16384

noncomputable section

open Idealize.ShloMosaic Idealize.ShloMosaic.TcCoe Idealize.SL.Sem

namespace Cert.FfnRestIdeal.RefValue

open Cert.FfnRestIdeal Cert.FfnRestIdeal.Gen Cert.LayerMath

/-- The row tile as it is first stored into the result's block. -/
theorem pay1_at (x0 : FVec Ideal S1024x2048 .f32) (r : Fin 1024) (n : Fin 2048) :
    k0_pay1 (F := Ideal) x0 (ix2 r n) = x0 (ix2 r n) := by
  pointwise [k0_pay1]

/-- The normalised row tile the body keeps in scratch. -/
theorem pay2_at (x0 : FVec Ideal S1024x2048 .f32) (x1 : FVec Ideal S1x2048 .f32) (r : Fin 1024) (k : Fin 2048) :
    k0_pay2 (F := Ideal) x0 x1 (ix2 r k) = nrm (fun k => x0 (ix2 r k)) (fun k => x1 (ix2 0 k)) k := by
  pointwise [k0_pay1, k0_pay2]
  rfl

/-- The accumulation of one tile of 512 lanes. -/
theorem pay3_at (xn : FVec Ideal S1024x2048 .bf16) (wg wu : FVec Ideal S2048x512 .bf16)
    (acc : FVec Ideal S1024x2048 .f32) (wd : FVec Ideal S512x2048 .bf16) (r : Fin 1024) (n : Fin 2048) :
    k0_pay3 (F := Ideal) xn wg wu acc wd (ix2 r n) = acc (ix2 r n) +
      ∑ f : Fin 512, half * ((∑ k, xn (ix2 r k) * wg (ix2 k f)) * LayerMath.sig (∑ k, xn (ix2 r k) * wg (ix2 k f)))
        * (∑ k, xn (ix2 r k) * wu (ix2 k f)) * wd (ix2 f n) := by
  pointwise [k0_pay3]
  rfl

/-- The cast of 128 columns of the projection's weight. -/
theorem pay4_at (x : FVec Ideal S1x128x2048 .f32) (k : Fin 2048) (f : Fin 128) :
    k0_pay4 (F := Ideal) x (ix2 k f) = x (ix3 0 f k) := by
  pointwise [k0_pay4]

/-- The projection's weight without the columns 3072 to 3079 and the last sixteen. -/
def compact (w : FVec Ideal S1x2048x6168 .f32) (k : Fin 2048) (q : Fin 6144) : EReal :=
  if h : q.val < 3072 then w (ix3 0 k ⟨q, by omega⟩) else w (ix3 0 k ⟨3080 + (q - 3072), by omega⟩)

open Cert.FfnRestRefIdeal.Read in
/-- The reference's first result. -/
theorem ref_at (h : FVec Ideal S2x4096x2048 .f32) (g : FVec Ideal S1x2048 .f32)
    (wg wu : FVec Ideal S2048x5632 .bf16) (wd : FVec Ideal S5632x2048 .bf16) (i : Fin 7168) (n : Fin 2048) :
    val_main_v37 (F := Ideal) h g wg wu wd (ix2 i n)
    = ffn (fun k => h (ix3 ⟨(1024 + i) / 4096, by omega⟩ ⟨(1024 + i) % 4096, by omega⟩ k)) (fun k => g (ix2 0 k))
        (fun k l => wg (ix2 k l)) (fun k l => wu (ix2 k l)) (fun l n => wd (ix2 l n)) n := by
  pointwise [val_main_v0, val_main_v1, val_main_cst, val_main_v2, val_main_v3, val_main_cst_0, val_main_v4,
    val_main_v5, val_main_cst_1, val_main_v6, val_main_v7, val_main_v8, val_main_v9, val_main_v10, val_main_v11,
    val_main_v12, val_main_v13, val_main_v14, val_main_v15, val_main_v16, val_main_v17, val_main_cst_2, val_main_v18,
    val_main_v19, val_main_cst_3, val_main_v20, val_main_v21, val_main_v22, val_main_v23, val_main_v24, val_main_v25,
    val_main_v26, val_main_v27, val_main_cst_4, val_main_v28, val_main_v29, val_main_v30, val_main_v36, val_main_v37]
  exact ffn_eq (fun k => h (ix3 ⟨(1024 + i) / 4096, by omega⟩ ⟨(1024 + i) % 4096, by omega⟩ k)) (fun k => g (ix2 0 k))
    (fun k l => wg (ix2 k l)) (fun k l => wu (ix2 k l)) (fun l n => wd (ix2 l n)) n

open Cert.FfnRestRefIdeal.Read in
/-- The reference's second result. -/
theorem ref1_at (w : FVec Ideal S1x2048x6168 .f32) (k : Fin 2048) (q : Fin 6144) :
    val_main_v38 (F := Ideal) w (ix2 k q) = compact w k q := by
  unfold compact
  pointwise [val_main_v31, val_main_v32, val_main_v33, val_main_v34, val_main_v35, val_main_v38]

end Cert.FfnRestIdeal.RefValue
-- ==== Proof.FfnRestValue.lean ====
module

public import proofs.«01_k».proof.Proof.FfnRestPay
public import Idealize.ShloMosaic.Lib.Pipeline.ValueKit
public import Idealize.ShloMosaic.Lib.Claim
public import Idealize.ShloMosaic.Lib.Pipeline.ReadBack

/-! The value of the call `ffn` on the rows from 1024: its result arrays are the reference's arrays. -/

@[expose] public section

set_option maxRecDepth 16384

noncomputable section

open Idealize.ShloMosaic Idealize.ShloMosaic.TcCoe Idealize.SL.Sem
open Idealize.ShloMosaic.Pipeline (Dat)

namespace Cert.FfnRestIdeal.RefValue

open Cert.FfnRestIdeal Cert.FfnRestIdeal.Gen Cert.LayerMath

variable (m : (ℓ : Loc nD τ sig) → Buf (Elt Ideal) ℓ)

/-- The reference's first result as a function of the arguments. -/
abbrev REF (h : FVec Ideal S2x4096x2048 .f32) (g : FVec Ideal S1x2048 .f32)
    (wg wu : FVec Ideal S2048x5632 .bf16) (wd : FVec Ideal S5632x2048 .bf16) : FVec Ideal S7168x2048 .f32 :=
  Cert.FfnRestRefIdeal.Read.val_main_v37 (F := Ideal) h g wg wu wd

/-- The block of each window at grid point `t`. -/
theorem idx_val : ∀ t : Fin cfg0.N, win0_0.index t = ![t.val / 11 + 1, 0] ∧ win0_1.index t = ![0, 0] ∧
    win0_2.index t = ![0, t.val % 11] ∧ win0_3.index t = ![0, t.val % 11] ∧ win0_4.index t = ![t.val % 11, 0] ∧
    win0_5.index t = ![0, if min t.val 47 < 24 then min t.val 47 * 128 else min t.val 47 * 128 + 8, 0] ∧
    win0_6.index t = ![t.val / 11, 0] ∧ win0_7.index t = ![0, min t.val 47] ∧ t.val < 77 :=
  (by decide +kernel : ∀ t : Fin grid0.N, _)

/-- There are 77 points. -/
theorem lt77 (t : Fin cfg0.N) : t.val < 77 := (idx_val t).2.2.2.2.2.2.2.2

variable (c : Dev nD)

/-- Row `r` of row tile `q` of the rows from 1024. -/
def X (q : ℕ) (r : Fin 1024) (k : Fin 2048) : EReal :=
  (m ((c : Thread nD τ).loc main_arg0) : FVec Ideal S2x4096x2048 .f32)
    (ix3 ⟨(q * 1024 + 1024 + r) / 4096 % 2, by omega⟩ ⟨(q * 1024 + 1024 + r) % 4096, by omega⟩ k)

/-- The norm's weight. -/
def G (k : Fin 2048) : EReal := (m ((c : Thread nD τ).loc main_arg1) : FVec Ideal S1x2048 .f32) (ix2 0 k)

/-- The gate's weight. -/
def WG (k : Fin 2048) (l : Fin 5632) : EReal :=
  (m ((c : Thread nD τ).loc main_arg2) : FVec Ideal S2048x5632 .bf16) (ix2 k l)

/-- The up projection's weight. -/
def WU (k : Fin 2048) (l : Fin 5632) : EReal :=
  (m ((c : Thread nD τ).loc main_arg3) : FVec Ideal S2048x5632 .bf16) (ix2 k l)

/-- The down projection's weight. -/
def WD (l : Fin 5632) (n : Fin 2048) : EReal :=
  (m ((c : Thread nD τ).loc main_arg4) : FVec Ideal S5632x2048 .bf16) (ix2 l n)

section
variable (t : Fin cfg0.N)

/-- The block of the input. -/
theorem blk0 (r : Fin 1024) (k : Fin 2048) : (iblk m c 0 t : FVec Ideal S1024x2048 .f32) (ix2 r k)
    = X m c (t.val / 11) r k := by
  have := lt77 t
  unfold X
  blk_point [iblk, V, idx_val t]

/-- The block of the norm's weight. -/
theorem blk1 (k : Fin 2048) : (iblk m c 1 t : FVec Ideal S1x2048 .f32) (ix2 0 k) = G m c k := by
  unfold G
  blk_point [iblk, V, idx_val t]

/-- The block of the gate's weight. -/
theorem blk2 (k : Fin 2048) (f : Fin 512) : (iblk m c 2 t : FVec Ideal S2048x512 .bf16) (ix2 k f)
    = WG m c k ⟨t.val % 11 * 512 + f, by omega⟩ := by
  unfold WG
  blk_point [iblk, V, idx_val t]

/-- The block of the up projection's weight. -/
theorem blk3 (k : Fin 2048) (f : Fin 512) : (iblk m c 3 t : FVec Ideal S2048x512 .bf16) (ix2 k f)
    = WU m c k ⟨t.val % 11 * 512 + f, by omega⟩ := by
  unfold WU
  blk_point [iblk, V, idx_val t]

/-- The block of the down projection's weight. -/
theorem blk4 (f : Fin 512) (n : Fin 2048) : (iblk m c 4 t : FVec Ideal S512x2048 .bf16) (ix2 f n)
    = WD m c ⟨t.val % 11 * 512 + f, by omega⟩ n := by
  unfold WD
  blk_point [iblk, V, idx_val t]

/-- The block of the projection's weight, transposed. -/
theorem blk5 (k : Fin 2048) (f : Fin 128) : (iblk m c 5 t : FVec Ideal S1x128x2048 .f32) (ix3 0 f k)
    = compact (m ((c : Thread nD τ).loc main_arg5)) k ⟨min t.val 47 * 128 + f, by omega⟩ := by
  have e := (idx_val t).2.2.2.2.2.1
  unfold compact
  by_cases h : min t.val 47 < 24
  · rw [dif_pos (by dsimp only; omega)]
    rw [if_pos h] at e
    blk_point [iblk, V]
    all_goals
      refine (Pipeline.Window.rect_emb_val_off win0_5 t _ _).trans ?_
      rw [e]
    · exact Nat.zero_add _
    · rfl
  · rw [dif_neg (by dsimp only; omega)]
    rw [if_neg h] at e
    blk_point [iblk, V]
    all_goals
      refine (Pipeline.Window.rect_emb_val_off win0_5 t _ _).trans ?_
      rw [e]
    · exact Nat.zero_add _
    · show min t.val 47 * 128 + 8 + f.val = 3080 + (min t.val 47 * 128 + f.val - 3072)
      omega

end

/-- One point's accumulation, given the normalised row tile. -/
theorem step (t : Fin cfg0.N) (r : Fin 1024) (n : Fin 2048) (xn : FVec Ideal S1024x2048 .bf16)
    (acc : FVec Ideal S1024x2048 .f32) (hx : ∀ k, xn (ix2 r k) = nrm (X m c (t.val / 11) r) (G m c) k) :
    k0_pay3 (F := Ideal) xn (iblk m c 2 t) (iblk m c 3 t) acc (iblk m c 4 t) (ix2 r n) = acc (ix2 r n) +
      tile (ffnT (nrm (X m c (t.val / 11) r) (G m c)) (WG m c) (WU m c) (WD m c) n) (t.val % 11) := by
  rw [tile, dif_pos (Nat.mod_lt _ (by norm_num))]
  refine (pay3_at xn _ _ acc _ r n).trans ?_
  simp only [hx, blk2, blk3, blk4]
  rfl

/-- What the scratch and the result's block hold after point `n`: the normalised row tile; the row tile and the tiles of
    lanes added so far. -/
theorem holds_at (n : ℕ) (h : n < cfg0.N) (r : Fin 1024) (k : Fin 2048) :
    ((outsAt0 m c n h).2.2 : FVec Ideal S1024x2048 .bf16) (ix2 r k) = nrm (X m c (n / 11) r) (G m c) k ∧
    ((outsAt0 m c n h).1 : FVec Ideal S1024x2048 .f32) (ix2 r k) = X m c (n / 11) r k +
      ∑ s ∈ Finset.range (n % 11 + 1), tile (ffnT (nrm (X m c (n / 11) r) (G m c)) (WG m c) (WU m c) (WD m c) k) s := by
  induction n using Nat.strong_induction_on generalizing k with
  | _ n ih =>
    by_cases h0 : n % 11 = 0
    · have e2 : ∀ k, k0_pay2 (F := Ideal) (iblk m c 0 ⟨n, h⟩) (iblk m c 1 ⟨n, h⟩) (ix2 r k)
          = nrm (X m c (n / 11) r) (G m c) k := by
        intro k
        refine (pay2_at _ _ r k).trans ?_
        have e0 := blk0 m c ⟨n, h⟩ r
        rw [funext e0, funext (blk1 m c ⟨n, h⟩)]
      by_cases h1 : n < 48
      · have e := outsAt0_D m c ⟨n, h⟩ h0 h1
        dsimp only at e
        rw [e]
        refine ⟨?_, ?_⟩
        · frame_out
          exact e2 k
        · frame_out
          refine (step m c ⟨n, h⟩ r k _ _ e2).trans ?_
          rw [h0, Finset.sum_range_one]
          refine Ideal.add_congr ?_ rfl
          exact (pay1_at _ r k).trans (blk0 m c ⟨n, h⟩ r k)
      · have e := outsAt0_A m c ⟨n, h⟩ h0 h1
        dsimp only at e
        rw [e]
        refine ⟨?_, ?_⟩
        · frame_out
          exact e2 k
        · frame_out
          refine (step m c ⟨n, h⟩ r k _ _ e2).trans ?_
          rw [h0, Finset.sum_range_one]
          refine Ideal.add_congr ?_ rfl
          exact (pay1_at _ r k).trans (blk0 m c ⟨n, h⟩ r k)
    · have hd : (n - 1) / 11 = n / 11 := by omega
      have hm : n % 11 = (n - 1) % 11 + 1 := by omega
      have ih' := fun k => ih (n - 1) (by omega) (by omega) k
      rw [hd] at ih'
      by_cases h1 : n < 48
      · have e := outsAt0_C m c ⟨n, h⟩ h0 h1
        dsimp only at e
        rw [e]
        refine ⟨?_, ?_⟩
        · frame_out
          exact (ih' k).1
        · frame_out
          rw [read_unread_whole]
          refine (step m c ⟨n, h⟩ r k (outsAt0 m c (n - 1) (by omega)).2.2 (outsAt0 m c (n - 1) (by omega)).1
            fun k => (ih' k).1).trans ?_
          refine (Ideal.add_congr (ih' k).2 rfl).trans ?_
          dsimp only
          rw [Finset.sum_range_succ _ (n % 11), ← hm, add_assoc]
      · have e := outsAt0_B m c ⟨n, h⟩ h0 h1
        dsimp only at e
        rw [e]
        refine ⟨?_, ?_⟩
        · frame_out
          exact (ih' k).1
        · frame_out
          rw [read_unread_whole]
          refine (step m c ⟨n, h⟩ r k (outsAt0 m c (n - 1) (by omega)).2.2 (outsAt0 m c (n - 1) (by omega)).1
            fun k => (ih' k).1).trans ?_
          refine (Ideal.add_congr (ih' k).2 rfl).trans ?_
          dsimp only
          rw [Finset.sum_range_succ _ (n % 11), ← hm, add_assoc]

/-- The block of the cast weight after point `n`. -/
theorem cast_at (n : ℕ) (h : n < cfg0.N) (k : Fin 2048) (f : Fin 128) :
    ((outsAt0 m c n h).2.1 : FVec Ideal S2048x128 .bf16) (ix2 k f)
      = compact (m ((c : Thread nD τ).loc main_arg5)) k ⟨min n 47 * 128 + f, by omega⟩ := by
  induction n using Nat.strong_induction_on with
  | _ n ih =>
    by_cases h1 : n < 48
    · by_cases h0 : n % 11 = 0
      · have e := outsAt0_D m c ⟨n, h⟩ h0 h1
        dsimp only at e
        rw [e]
        frame_out
        exact (pay4_at _ k f).trans (blk5 m c ⟨n, h⟩ k f)
      · have e := outsAt0_C m c ⟨n, h⟩ h0 h1
        dsimp only at e
        rw [e]
        frame_out
        exact (pay4_at _ k f).trans (blk5 m c ⟨n, h⟩ k f)
    · have e := carry0_7 m c ⟨n, h⟩ h1
      dsimp only at e
      rw [e]
      refine (ih (n - 1) (by omega) (by omega)).trans ?_
      congr 1
      exact Fin.ext (show min (n - 1) 47 * 128 + f.val = min n 47 * 128 + f.val by omega)

/-- The first result array after the run is the reference's. -/
theorem final : (dats m 0 c).arrAt 6 (cfgs 0).N
    = REF (m ((c : Thread nD τ).loc main_arg0)) (m ((c : Thread nD τ).loc main_arg1))
      (m ((c : Thread nD τ).loc main_arg2)) (m ((c : Thread nD τ).loc main_arg3))
      (m ((c : Thread nD τ).loc main_arg4)) := by
  refine (dats m 0 c).arrAt_eq_of_covers 6 _ (by decide +kernel) fun t hf y => ?_
  have ht := (flush0_6 t).mp hf
  have hlt := lt77 t
  blk_simp
  rw [after0_6]
  obtain ⟨r, k, hy⟩ : ∃ (r : Fin 1024) (k : Fin 2048), y = ix2 r k := ⟨y 0, y 1, eq_ix2 y⟩
  subst hy
  have e := (holds_at m c t.val t.isLt r k).2
  rw [ht, sum_tiles] at e
  refine e.trans ?_
  have er := ref_at (m ((c : Thread nD τ).loc main_arg0)) (m ((c : Thread nD τ).loc main_arg1))
    (m ((c : Thread nD τ).loc main_arg2)) (m ((c : Thread nD τ).loc main_arg3)) (m ((c : Thread nD τ).loc main_arg4))
    ⟨t.val / 11 * 1024 + r, by omega⟩ k
  have ex : X m c (t.val / 11) r = fun k => (m ((c : Thread nD τ).loc main_arg0) : FVec Ideal S2x4096x2048 .f32)
      (ix3 ⟨(1024 + (t.val / 11 * 1024 + r)) / 4096, by omega⟩ ⟨(1024 + (t.val / 11 * 1024 + r)) % 4096, by omega⟩ k) := by
    funext k
    unfold X
    congr 2
    · exact Fin.ext (by dsimp only; omega)
    · exact Fin.ext (by dsimp only; omega)
  rw [ex]
  refine Eq.trans er.symm ?_
  refine congrArg (REF _ _ _ _ _) ?_
  blk_ext [idx_val t]

/-- The second result array after the run is the cast weight. -/
theorem final1 : (dats m 0 c).arrAt 7 (cfgs 0).N
    = Cert.FfnRestRefIdeal.Read.val_main_v38 (F := Ideal) (m ((c : Thread nD τ).loc main_arg5)) := by
  refine (dats m 0 c).arrAt_eq_of_covers 7 _ (by decide +kernel) fun t hf y => ?_
  have hlt := lt77 t
  blk_simp
  rw [after0_7]
  obtain ⟨k, f, hy⟩ : ∃ (k : Fin 2048) (f : Fin 128), y = ix2 k f := ⟨y 0, y 1, eq_ix2 y⟩
  subst hy
  refine (cast_at m c t.val t.isLt k f).trans ?_
  refine Eq.trans (ref1_at (m ((c : Thread nD τ).loc main_arg5)) k ⟨min t.val 47 * 128 + f, by omega⟩).symm ?_
  refine congrArg (Cert.FfnRestRefIdeal.Read.val_main_v38 (F := Ideal) _) ?_
  blk_ext [idx_val t]

end Cert.FfnRestIdeal.RefValue
-- ==== Proof.FfnRestFrame.lean ====
module

public import proofs.«01_k».proof.Proof.FfnRestIdealFrame
public import proofs.«01_k».proof.Proof.Gen.FfnRest.Launch
public import proofs.«01_k».proof.Defs

/-! The frame of the call `ffn` on the rows from 1024. The printed program and its idealization have one text, and the run is proved over
any float values, so the frame is that run taken at the float words. -/

@[expose] public section

set_option maxRecDepth 16384

open Idealize.ShloMosaic Idealize.ShloMosaic.TcCoe Idealize.SL.Sem

namespace Cert.FfnRest.Gen

/-- The kernel's body is the same in both programs. -/
theorem body_eq : Cert.FfnRestIdeal.defs₀ (F := Bits) = Cert.FfnRest.defs₀ (F := Bits) := by
  unfold Cert.FfnRestIdeal.defs₀ Cert.FfnRest.defs₀
  refine congrArg Defs.onTc ?_
  funext l x
  match l, x with
  | 0, (t, s) => rfl

/-- So are the procedures of the two programs. -/
theorem defs_eq : Cert.FfnRestIdeal.defs (F := Bits) = Cert.FfnRest.defs (F := Bits) :=
  congrArg (Pipeline.defs (Cert.FfnRest.pcfgs (F := Bits))) body_eq

/-- The printed program ends with its arguments as they were and every counter at zero. -/
theorem frame_kernel : Cert.quiescent_FfnRest := fun m ρ _ => by
  rw [← defs_eq]
  exact Cert.FfnRestIdeal.Gen.frame (F := Bits) m ρ

end Cert.FfnRest.Gen
-- ==== Proof.FfnRestClaim.lean ====
module

public import proofs.«01_k».proof.Proof.FfnRestValue
public import proofs.«01_k».proof.Proof.FfnRestFrame
public import proofs.«01_k».proof.Defs

/-! The claims about the call `ffn` on the rows from 1024. -/

@[expose] public section

set_option maxRecDepth 16384

open Idealize.ShloMosaic Idealize.ShloMosaic.TcCoe Idealize.SL.Sem

namespace Cert.FfnRestIdeal.RefValue

/-- The reference leaves its arguments unchanged. -/
theorem frame_ref : Cert.quiescent_FfnRestRefIdeal := by
  intro m g _
  exact (θ_run Cert.FfnRestRefIdeal.defs _ _).mono
    (fun r h => ⟨fun c => (h c).2.2, Idealize.ShloMosaic.sem_eq_zero_of_no_sems (by decide) r.2⟩)
    (Cert.FfnRestRefIdeal.Value.run m g)

/-- The kernel and the reference end with equal results. -/
theorem algebraic : Cert.algebraic_FfnRestIdeal_FfnRestRefIdeal := by
  pair_intro
  · run_from Cert.FfnRestIdeal.Gen.run_main m g
  · run_from Cert.FfnRestRefIdeal.Value.run m' g'
    · exact (final m c).symm
    · exact (congrArg (Cert.FfnRestRefIdeal.Read.val_main_v38 (F := Ideal)) (hagree c).2.2.2.2.2).trans (final1 m c).symm

end Cert.FfnRestIdeal.RefValue
-- ==== Proof.ProjPay.lean ====
module

public import proofs.«01_k».proof.Proof.Gen.ProjIdeal.Frame
public import proofs.«01_k».proof.Proof.Gen.ProjRefIdeal.Read
public import proofs.«01_k».proof.Proof.LayerMath
public import Idealize.ShloMosaic.Lib.Pipeline.ValueKit

/-! The body of the call `proj` and its reference, both read as sums over the normalised row. -/

@[expose] public section

set_option maxRecDepth 16384

noncomputable section

open Idealize.ShloMosaic Idealize.ShloMosaic.TcCoe Idealize.SL.Sem

namespace Cert.ProjIdeal.RefValue

open Cert.ProjIdeal Cert.ProjIdeal.Gen Cert.LayerMath

/-- One number of the projection: a normalised row against a column of the weight. -/
def lin (x g w : Fin 2048 → EReal) : EReal := ∑ k, nrm x g k * w k

/-- The factor of the keys. -/
def keyScale : EReal := Ideal.ofBits .f32 0x3DB504F3#32

section body
variable (x0 : FVec Ideal S512x2048 .f32) (x2 : FVec Ideal S1x2048 .f32) (X : Fin 512 → Fin 2048 → EReal)
  (G w : Fin 2048 → EReal) (hX : ∀ r k, x0 (ix2 r k) = X r k) (hG : ∀ k, x2 (ix2 0 k) = G k)

include hX hG in
/-- The normalised row tile. -/
theorem norm_pay (r : Fin 512) (k : Fin 2048) : k0_pay7 (F := Ideal) x0 x2 (ix2 r k) = nrm (X r) G k := by
  rw [← funext (hX r), ← funext hG]
  pointwise [k0_pay7]
  rfl

include hX hG in
/-- A tile of 512 columns that is stored cast. -/
theorem cast_pay (W : FVec Ideal S2048x512 .bf16) (a : Fin 1) (r l : Fin 512) (hW : ∀ k, W (ix2 k l) = w k) :
    k0_pay13 (F := Ideal) (k0_pay7 x0 x2) W (ix3 a r l) = lin (X r) G w := by
  rw [← funext hW]
  pointwise [k0_pay13]
  simp only [norm_pay x0 x2 X G hX hG]
  rfl

include hX hG in
/-- A tile of 512 columns that is stored as it is. -/
theorem plain_pay (W : FVec Ideal S2048x512 .bf16) (a : Fin 1) (r l : Fin 512) (hW : ∀ k, W (ix2 k l) = w k) :
    k0_pay19 (F := Ideal) (k0_pay7 x0 x2) W (ix3 a r l) = lin (X r) G w := by
  rw [← funext hW]
  pointwise [k0_pay19]
  simp only [norm_pay x0 x2 X G hX hG]
  rfl

include hX hG in
/-- The tile of the keys, which is scaled. -/
theorem key_pay (W : FVec Ideal S2048x512 .bf16) (a : Fin 1) (r l : Fin 512) (hW : ∀ k, W (ix2 k l) = w k) :
    k0_pay18 (F := Ideal) (k0_pay7 x0 x2) W (ix3 a r l) = lin (X r) G w * keyScale := by
  rw [← funext hW]
  pointwise [k0_pay18]
  simp only [norm_pay x0 x2 X G hX hG]
  rfl

include hX hG in
/-- The eight columns of the forget gates. -/
theorem forget_pay (W : FVec Ideal S1x8x2048 .f32) (r : Fin 512) (l : Fin 8) (hW : ∀ k, W (ix3 0 l k) = w k) :
    k0_pay9 (F := Ideal) x0 x2 W (ix2 r l) = lin (X r) G w := by
  rw [← funext hW]
  pointwise [k0_pay9]
  simp only [norm_pay x0 x2 X G hX hG]
  rfl

include hX hG in
/-- The sixteen columns of the gate's low rank. -/
theorem gate_pay (W : FVec Ideal S1x16x2048 .f32) (r : Fin 512) (l : Fin 16) (hW : ∀ k, W (ix3 0 l k) = w k) :
    k0_pay10 (F := Ideal) x0 x2 W (ix2 r l) = lin (X r) G w := by
  rw [← funext hW]
  pointwise [k0_pay10]
  simp only [norm_pay x0 x2 X G hX hG]
  rfl

end body

/-- The rows of the two parts of the hidden state, one after the other. -/
def cat (h0 : FVec Ideal S1024x2048 .f32) (h1 : FVec Ideal S7168x2048 .f32) (i : Fin 8192) (k : Fin 2048) : EReal :=
  if hi : i.val < 1024 then h0 (ix2 ⟨i, hi⟩ k) else h1 (ix2 ⟨i - 1024, by omega⟩ k)

section reference
open Cert.ProjRefIdeal.Read
variable (h0 : FVec Ideal S1024x2048 .f32) (h1 : FVec Ideal S7168x2048 .f32) (g : FVec Ideal S1x2048 .f32)
  (w : FVec Ideal S2048x6144 .bf16) (wi : FVec Ideal S1x2048x6168 .f32)

/-- The reference's rows. -/
theorem cat_at (i : Fin 8192) (k : Fin 2048) : val_main_v0 (F := Ideal) h0 h1 (ix2 i k) = cat h0 h1 i k := by
  pointwise [val_main_v0]
  rfl

/-- The reference's normalised rows. -/
theorem norm_at (i : Fin 8192) (k : Fin 2048) :
    val_main_v14 (F := Ideal) h0 h1 g (ix2 i k) = nrm (cat h0 h1 i) (fun k => g (ix2 0 k)) k := by
  pointwise [val_main_v1, val_main_cst, val_main_v2, val_main_v3, val_main_cst_0, val_main_v4,
    val_main_v5, val_main_cst_1, val_main_v6, val_main_v7, val_main_v8, val_main_v9, val_main_v10, val_main_v11,
    val_main_v12, val_main_v13, val_main_v14]
  simp only [cat_at]
  rfl

/-- Column `q` of the projection of row `i`. -/
def LIN (i : Fin 8192) (q : Fin 6144) : EReal := lin (cat h0 h1 i) (fun k => g (ix2 0 k)) fun k => w (ix2 k q)

/-- The reference's first result: six tiles. -/
theorem ref0_at (j : Fin 6) (i : Fin 8192) (l : Fin 512) :
    val_main_v28 (F := Ideal) h0 h1 g w (ix3 j i l) = LIN h0 h1 g w i ⟨j * 512 + l, by omega⟩ := by
  unfold LIN lin
  pointwise [val_main_v15, val_main_v16, val_main_v25, val_main_v26, val_main_v27, val_main_v28]
  simp only [norm_at]

/-- The reference's second result: the keys. -/
theorem ref1_at (j : Fin 1) (i : Fin 8192) (l : Fin 512) :
    val_main_v34 (F := Ideal) h0 h1 g w (ix3 j i l) = LIN h0 h1 g w i ⟨3072 + l, by omega⟩ * keyScale := by
  unfold LIN lin
  pointwise [val_main_v15, val_main_v16, val_main_v29, val_main_v30, val_main_v31, val_main_cst_3, val_main_v32,
    val_main_v33, val_main_v34]
  simp only [norm_at]
  rfl

/-- The reference's third result. -/
theorem ref2_at (j : Fin 1) (i : Fin 8192) (l : Fin 512) :
    val_main_v37 (F := Ideal) h0 h1 g w (ix3 j i l) = LIN h0 h1 g w i ⟨3584 + l, by omega⟩ := by
  unfold LIN lin
  pointwise [val_main_v15, val_main_v16, val_main_v35, val_main_v36, val_main_v37]
  simp only [norm_at]

/-- The reference's fourth result: two tiles. -/
theorem ref3_at (j : Fin 2) (i : Fin 8192) (l : Fin 512) :
    val_main_v41 (F := Ideal) h0 h1 g w (ix3 j i l) = LIN h0 h1 g w i ⟨4096 + (j * 512 + l), by omega⟩ := by
  unfold LIN lin
  pointwise [val_main_v15, val_main_v16, val_main_v38, val_main_v39, val_main_v40, val_main_v41]
  simp only [norm_at]

/-- The reference's fifth result: two tiles. -/
theorem ref4_at (j : Fin 2) (i : Fin 8192) (l : Fin 512) :
    val_main_v44 (F := Ideal) h0 h1 g w (ix3 j i l) = LIN h0 h1 g w i ⟨5120 + (j * 512 + l), by omega⟩ := by
  unfold LIN lin
  pointwise [val_main_v15, val_main_v16, val_main_v42, val_main_v43, val_main_v44]
  simp only [norm_at]

/-- The row of the last result: eight columns, sixteen columns, and zeros. -/
def small (x g : Fin 2048 → EReal) (wi : Fin 2048 → Fin 6168 → EReal) (l : Fin 128) : EReal :=
  if h : l.val < 8 then lin x g fun k => wi k ⟨3072 + l, by omega⟩
  else if h : l.val - 8 < 16 then lin x g fun k => wi k ⟨6152 + (l - 8), by omega⟩ else 0

/-- The reference's last result. -/
theorem ref5_at (i : Fin 8192) (l : Fin 128) : val_main_v24 (F := Ideal) h0 h1 g wi (ix2 i l)
    = small (cat h0 h1 i) (fun k => g (ix2 0 k)) (fun k q => wi (ix3 0 k q)) l := by
  unfold small lin
  pointwise [val_main_v17, val_main_v18, val_main_v19, val_main_v20, val_main_v21, val_main_v22, val_main_cst_2,
    val_main_v23, val_main_v24]
  simp only [norm_at]

end reference

end Cert.ProjIdeal.RefValue
-- ==== Proof.ProjValue.lean ====
module

public import proofs.«01_k».proof.Proof.ProjPay
public import Idealize.ShloMosaic.Lib.Pipeline.ValueKit
public import Idealize.ShloMosaic.Lib.Claim
public import Idealize.ShloMosaic.Lib.Pipeline.ReadBack

/-! The value of the call `proj`: its result arrays are the reference's arrays. -/

@[expose] public section

set_option maxRecDepth 16384

noncomputable section

open Idealize.ShloMosaic Idealize.ShloMosaic.TcCoe Idealize.SL.Sem
open Idealize.ShloMosaic.Pipeline (Dat)

namespace Cert.ProjIdeal.RefValue

open Cert.ProjIdeal Cert.ProjIdeal.Gen Cert.LayerMath

variable (m : (ℓ : Loc nD τ sig) → Buf (Elt Ideal) ℓ)

/-- The block of each window at grid point `t`. -/
theorem idx_val : ∀ t : Fin cfg0.N, win0_0.index t = ![min t.val 1, 0] ∧ win0_1.index t = ![t.val - 2, 0] ∧
    win0_2.index t = ![0, 0] ∧ win0_3.index t = ![0, 0] ∧ win0_4.index t = ![0, 3072, 0] ∧
    win0_5.index t = ![0, 6152, 0] ∧ win0_6.index t = ![0, t.val, 0] ∧ win0_7.index t = ![0, t.val, 0] ∧
    win0_8.index t = ![0, t.val, 0] ∧ win0_9.index t = ![0, t.val, 0] ∧ win0_10.index t = ![0, t.val, 0] ∧
    win0_11.index t = ![t.val, 0] ∧ t.val < 16 :=
  (by decide +kernel : ∀ t : Fin grid0.N, _)

variable (c : Dev nD)

/-- The first rows. -/
abbrev H0 : FVec Ideal S1024x2048 .f32 := m ((c : Thread nD τ).loc main_arg0)

/-- The other rows. -/
abbrev H1 : FVec Ideal S7168x2048 .f32 := m ((c : Thread nD τ).loc main_arg1)

/-- The norm's weight. -/
abbrev GW : FVec Ideal S1x2048 .f32 := m ((c : Thread nD τ).loc main_arg2)

/-- The projection's weight. -/
abbrev PW : FVec Ideal S2048x6144 .bf16 := m ((c : Thread nD τ).loc main_arg3)

/-- The weight the small columns are taken from. -/
abbrev SW : FVec Ideal S1x2048x6168 .f32 := m ((c : Thread nD τ).loc main_arg4)

section
variable (t : Fin cfg0.N)

/-- There are sixteen points. -/
theorem lt16 : t.val < 16 := (idx_val t).2.2.2.2.2.2.2.2.2.2.2.2

/-- Row `r` of point `t`. -/
abbrev rowOf (r : Fin 512) : Fin 8192 := ⟨t.val * 512 + r, by have := lt16 t; omega⟩

/-- The row block at the first two points. -/
theorem blk0 (h : t.val < 2) (r : Fin 512) (k : Fin 2048) : (iblk m c 0 t : FVec Ideal S512x2048 .f32) (ix2 r k)
    = cat (H0 m c) (H1 m c) (rowOf t r) k := by
  unfold cat
  rw [dif_pos (by dsimp only [rowOf]; omega)]
  have : min t.val 1 = t.val := by omega
  blk_point [iblk, V, idx_val t, this]

/-- The row block at the other points. -/
theorem blk1 (h : 2 ≤ t.val) (r : Fin 512) (k : Fin 2048) : (iblk m c 1 t : FVec Ideal S512x2048 .f32) (ix2 r k)
    = cat (H0 m c) (H1 m c) (rowOf t r) k := by
  have := lt16 t
  unfold cat
  rw [dif_neg (by dsimp only [rowOf]; omega)]
  have e : (⟨(rowOf t r).val - 1024, by omega⟩ : Fin 7168) = ⟨(t.val - 2) * 512 + r, by omega⟩ :=
    Fin.ext (by dsimp only [rowOf]; omega)
  rw [e]
  blk_point [iblk, V, idx_val t]

/-- The norm's weight. -/
theorem blk2 (k : Fin 2048) : (iblk m c 2 t : FVec Ideal S1x2048 .f32) (ix2 0 k) = GW m c (ix2 0 k) := by
  blk_point [iblk, V, idx_val t]

/-- The projection's weight. -/
theorem blk3 (k : Fin 2048) (q : Fin 6144) : (iblk m c 3 t : FVec Ideal S2048x6144 .bf16) (ix2 k q)
    = PW m c (ix2 k q) := by
  blk_point [iblk, V, idx_val t]

/-- The forget gates' columns. -/
theorem blk4 (k : Fin 2048) (l : Fin 8) : (iblk m c 4 t : FVec Ideal S1x8x2048 .f32) (ix3 0 l k)
    = SW m c (ix3 0 k ⟨3072 + l, by omega⟩) := by
  blk_point [iblk, V, idx_val t]
  all_goals
    refine (Pipeline.Window.rect_emb_val_off win0_4 t _ _).trans ?_
    rw [(idx_val t).2.2.2.2.1]
  · exact Nat.zero_add _
  · rfl

/-- The gate's columns. -/
theorem blk5 (k : Fin 2048) (l : Fin 16) : (iblk m c 5 t : FVec Ideal S1x16x2048 .f32) (ix3 0 l k)
    = SW m c (ix3 0 k ⟨6152 + l, by omega⟩) := by
  blk_point [iblk, V, idx_val t]
  all_goals
    refine (Pipeline.Window.rect_emb_val_off win0_5 t _ _).trans ?_
    rw [(idx_val t).2.2.2.2.2.1]
  · exact Nat.zero_add _
  · rfl

end

/-- A tile of the projection's weight as the body loads it. -/
theorem wt (t : Fin cfg0.N) (o : ℕ) (inb) (k : Fin 2048) (l : Fin 512) (q : Fin 6144) (hq : q.val = o + l.val) :
    (View.ld (iblk m c 3 t : FVec Ideal S2048x6144 .bf16) (Rect.unit ![0, o] ![2048, 512] inb)
      : FVec Ideal S2048x512 .bf16) (ix2 k l) = PW m c (ix2 k q) := by
  refine (View.ld_unit_apply_of _ _ _ _ _ (ix2 k q) ?_).trans (blk3 m c t k q)
  intro a
  fin_cases a
  · exact (Nat.zero_add _).symm
  · exact hq

/-- Column `q` of the projection of row `r` of point `t`. -/
abbrev L (t : Fin cfg0.N) (r : Fin 512) (q : Fin 6144) : EReal :=
  LIN (H0 m c) (H1 m c) (GW m c) (PW m c) (rowOf t r) q

/-- The first result's block after point `t`. -/
theorem out6 (t : Fin cfg0.N) (j : Fin 6) (r l : Fin 512) :
    ((outsAt0 m c t.val t.isLt).1 : FVec Ideal S6x512x512 .bf16) (ix3 j r l)
      = L m c t r ⟨j * 512 + l, by omega⟩ := by
  by_cases h : t.val < 2
  · rw [outsAt0_A m c t h (by omega)]
    frame_out
    canon_tiles x e
    all_goals
      obtain ⟨a, r', l', hx⟩ : ∃ (a : Fin 1) (r' l' : Fin 512), x = ix3 a r' l' := ⟨x 0, x 1, x 2, eq_ix3 x⟩
      subst hx
      obtain rfl : r = r' := Fin.ext e1
      obtain rfl : l = l' := Fin.ext e2
      refine cast_pay _ _ _ _ _ (blk0 m c t h) (blk2 m c t) _ a r l fun k => wt m c t _ _ k l _ ?_
      have e0' : (j : ℕ) = _ := e0
      have := a.isLt
      dsimp only
      omega
  · replace h : 2 ≤ t.val := by omega
    rw [outsAt0_B m c t (by omega) h]
    frame_out
    canon_tiles x e
    all_goals
      obtain ⟨a, r', l', hx⟩ : ∃ (a : Fin 1) (r' l' : Fin 512), x = ix3 a r' l' := ⟨x 0, x 1, x 2, eq_ix3 x⟩
      subst hx
      obtain rfl : r = r' := Fin.ext e1
      obtain rfl : l = l' := Fin.ext e2
      refine cast_pay _ _ _ _ _ (blk1 m c t h) (blk2 m c t) _ a r l fun k => wt m c t _ _ k l _ ?_
      have e0' : (j : ℕ) = _ := e0
      have := a.isLt
      dsimp only
      omega

/-- The second result's block after point `t`. -/
theorem out7 (t : Fin cfg0.N) (j : Fin 1) (r l : Fin 512) :
    ((outsAt0 m c t.val t.isLt).2.1 : FVec Ideal S1x512x512 .bf16) (ix3 j r l)
      = L m c t r ⟨3072 + l, by omega⟩ * keyScale := by
  by_cases h : t.val < 2
  · rw [outsAt0_A m c t h (by omega)]
    frame_out
    exact key_pay _ _ _ _ _ (blk0 m c t h) (blk2 m c t) _ j r l fun k => wt m c t _ _ k l _ rfl
  · replace h : 2 ≤ t.val := by omega
    rw [outsAt0_B m c t (by omega) h]
    frame_out
    exact key_pay _ _ _ _ _ (blk1 m c t h) (blk2 m c t) _ j r l fun k => wt m c t _ _ k l _ rfl

/-- The third result's block after point `t`. -/
theorem out8 (t : Fin cfg0.N) (j : Fin 1) (r l : Fin 512) :
    ((outsAt0 m c t.val t.isLt).2.2.1 : FVec Ideal S1x512x512 .f32) (ix3 j r l)
      = L m c t r ⟨3584 + l, by omega⟩ := by
  by_cases h : t.val < 2
  · rw [outsAt0_A m c t h (by omega)]
    frame_out
    exact plain_pay _ _ _ _ _ (blk0 m c t h) (blk2 m c t) _ j r l fun k => wt m c t _ _ k l _ rfl
  · replace h : 2 ≤ t.val := by omega
    rw [outsAt0_B m c t (by omega) h]
    frame_out
    exact plain_pay _ _ _ _ _ (blk1 m c t h) (blk2 m c t) _ j r l fun k => wt m c t _ _ k l _ rfl

/-- The fourth result's block after point `t`. -/
theorem out9 (t : Fin cfg0.N) (j : Fin 2) (r l : Fin 512) :
    ((outsAt0 m c t.val t.isLt).2.2.2.1 : FVec Ideal S2x512x512 .bf16) (ix3 j r l)
      = L m c t r ⟨4096 + (j * 512 + l), by omega⟩ := by
  by_cases h : t.val < 2
  · rw [outsAt0_A m c t h (by omega)]
    frame_out
    canon_tiles x e
    all_goals
      obtain ⟨a, r', l', hx⟩ : ∃ (a : Fin 1) (r' l' : Fin 512), x = ix3 a r' l' := ⟨x 0, x 1, x 2, eq_ix3 x⟩
      subst hx
      obtain rfl : r = r' := Fin.ext e1
      obtain rfl : l = l' := Fin.ext e2
      refine cast_pay _ _ _ _ _ (blk0 m c t h) (blk2 m c t) _ a r l fun k => wt m c t _ _ k l _ ?_
      have e0' : (j : ℕ) = _ := e0
      have := a.isLt
      dsimp only
      omega
  · replace h : 2 ≤ t.val := by omega
    rw [outsAt0_B m c t (by omega) h]
    frame_out
    canon_tiles x e
    all_goals
      obtain ⟨a, r', l', hx⟩ : ∃ (a : Fin 1) (r' l' : Fin 512), x = ix3 a r' l' := ⟨x 0, x 1, x 2, eq_ix3 x⟩
      subst hx
      obtain rfl : r = r' := Fin.ext e1
      obtain rfl : l = l' := Fin.ext e2
      refine cast_pay _ _ _ _ _ (blk1 m c t h) (blk2 m c t) _ a r l fun k => wt m c t _ _ k l _ ?_
      have e0' : (j : ℕ) = _ := e0
      have := a.isLt
      dsimp only
      omega

/-- The fifth result's block after point `t`. -/
theorem out10 (t : Fin cfg0.N) (j : Fin 2) (r l : Fin 512) :
    ((outsAt0 m c t.val t.isLt).2.2.2.2.1 : FVec Ideal S2x512x512 .f32) (ix3 j r l)
      = L m c t r ⟨5120 + (j * 512 + l), by omega⟩ := by
  by_cases h : t.val < 2
  · rw [outsAt0_A m c t h (by omega)]
    frame_out
    canon_tiles x e
    all_goals
      obtain ⟨a, r', l', hx⟩ : ∃ (a : Fin 1) (r' l' : Fin 512), x = ix3 a r' l' := ⟨x 0, x 1, x 2, eq_ix3 x⟩
      subst hx
      obtain rfl : r = r' := Fin.ext e1
      obtain rfl : l = l' := Fin.ext e2
      refine plain_pay _ _ _ _ _ (blk0 m c t h) (blk2 m c t) _ a r l fun k => wt m c t _ _ k l _ ?_
      have e0' : (j : ℕ) = _ := e0
      have := a.isLt
      dsimp only
      omega
  · replace h : 2 ≤ t.val := by omega
    rw [outsAt0_B m c t (by omega) h]
    frame_out
    canon_tiles x e
    all_goals
      obtain ⟨a, r', l', hx⟩ : ∃ (a : Fin 1) (r' l' : Fin 512), x = ix3 a r' l' := ⟨x 0, x 1, x 2, eq_ix3 x⟩
      subst hx
      obtain rfl : r = r' := Fin.ext e1
      obtain rfl : l = l' := Fin.ext e2
      refine plain_pay _ _ _ _ _ (blk1 m c t h) (blk2 m c t) _ a r l fun k => wt m c t _ _ k l _ ?_
      have e0' : (j : ℕ) = _ := e0
      have := a.isLt
      dsimp only
      omega

/-- The first result array after the run is the reference's. -/
theorem final6 : (dats m 0 c).arrAt 6 (cfgs 0).N
    = Cert.ProjRefIdeal.Read.val_main_v28 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 6 _ (by decide +kernel) fun t hf y => ?_
  have hlt := lt16 t
  blk_simp
  rw [after0_6]
  obtain ⟨j, r, l, hy⟩ : ∃ (j : Fin 6) (r l : Fin 512), y = ix3 j r l := ⟨y 0, y 1, y 2, eq_ix3 y⟩
  subst hy
  refine (out6 m c t j r l).trans ?_
  refine Eq.trans (ref0_at (H0 m c) (H1 m c) (GW m c) (PW m c) j (rowOf t r) l).symm ?_
  refine congrArg (Cert.ProjRefIdeal.Read.val_main_v28 (F := Ideal) _ _ _ _) ?_
  blk_ext [idx_val t]

/-- The second result array after the run is the reference's. -/
theorem final7 : (dats m 0 c).arrAt 7 (cfgs 0).N
    = Cert.ProjRefIdeal.Read.val_main_v34 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 7 _ (by decide +kernel) fun t hf y => ?_
  have hlt := lt16 t
  blk_simp
  rw [after0_7]
  obtain ⟨j, r, l, hy⟩ : ∃ (j : Fin 1) (r l : Fin 512), y = ix3 j r l := ⟨y 0, y 1, y 2, eq_ix3 y⟩
  subst hy
  refine (out7 m c t j r l).trans ?_
  refine Eq.trans (ref1_at (H0 m c) (H1 m c) (GW m c) (PW m c) j (rowOf t r) l).symm ?_
  refine congrArg (Cert.ProjRefIdeal.Read.val_main_v34 (F := Ideal) _ _ _ _) ?_
  blk_ext [idx_val t]

/-- The third result array after the run is the reference's. -/
theorem final8 : (dats m 0 c).arrAt 8 (cfgs 0).N
    = Cert.ProjRefIdeal.Read.val_main_v37 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 8 _ (by decide +kernel) fun t hf y => ?_
  have hlt := lt16 t
  blk_simp
  rw [after0_8]
  obtain ⟨j, r, l, hy⟩ : ∃ (j : Fin 1) (r l : Fin 512), y = ix3 j r l := ⟨y 0, y 1, y 2, eq_ix3 y⟩
  subst hy
  refine (out8 m c t j r l).trans ?_
  refine Eq.trans (ref2_at (H0 m c) (H1 m c) (GW m c) (PW m c) j (rowOf t r) l).symm ?_
  refine congrArg (Cert.ProjRefIdeal.Read.val_main_v37 (F := Ideal) _ _ _ _) ?_
  blk_ext [idx_val t]

/-- The fourth result array after the run is the reference's. -/
theorem final9 : (dats m 0 c).arrAt 9 (cfgs 0).N
    = Cert.ProjRefIdeal.Read.val_main_v41 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 9 _ (by decide +kernel) fun t hf y => ?_
  have hlt := lt16 t
  blk_simp
  rw [after0_9]
  obtain ⟨j, r, l, hy⟩ : ∃ (j : Fin 2) (r l : Fin 512), y = ix3 j r l := ⟨y 0, y 1, y 2, eq_ix3 y⟩
  subst hy
  refine (out9 m c t j r l).trans ?_
  refine Eq.trans (ref3_at (H0 m c) (H1 m c) (GW m c) (PW m c) j (rowOf t r) l).symm ?_
  refine congrArg (Cert.ProjRefIdeal.Read.val_main_v41 (F := Ideal) _ _ _ _) ?_
  blk_ext [idx_val t]

/-- The fifth result array after the run is the reference's. -/
theorem final10 : (dats m 0 c).arrAt 10 (cfgs 0).N
    = Cert.ProjRefIdeal.Read.val_main_v44 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 10 _ (by decide +kernel) fun t hf y => ?_
  have hlt := lt16 t
  blk_simp
  rw [after0_10]
  obtain ⟨j, r, l, hy⟩ : ∃ (j : Fin 2) (r l : Fin 512), y = ix3 j r l := ⟨y 0, y 1, y 2, eq_ix3 y⟩
  subst hy
  refine (out10 m c t j r l).trans ?_
  refine Eq.trans (ref4_at (H0 m c) (H1 m c) (GW m c) (PW m c) j (rowOf t r) l).symm ?_
  refine congrArg (Cert.ProjRefIdeal.Read.val_main_v44 (F := Ideal) _ _ _ _) ?_
  blk_ext [idx_val t]

/-- The zeros under the small columns. -/
theorem zero_pay (r : Fin 512) (l : Fin 128) : k0_pay8 (F := Ideal) (ix2 r l) = 0 := by
  pointwise [k0_pay8]

/-- A block of zeros, with eight columns and then sixteen columns stored over it. -/
theorem canon_small (w1 : FVec Ideal S512x16 .f32) (w0 : FVec Ideal S512x8 .f32) (z : FVec Ideal S512x128 .f32)
    (i1 i0 iz) (r : Fin 512) (l : Fin 128) :
    View.canon (Val := Elt Ideal) (s := S512x128) (e := .f32) [⟨Rect.unit ![0, 8] ![512, 16] i1, w1⟩,
      ⟨Rect.unit ![0, 0] ![512, 8] i0, w0⟩, ⟨Rect.unit ![0, 0] ![512, 128] iz, z⟩] (ix2 r l)
      = if h : l.val < 8 then w0 (ix2 r ⟨l, h⟩) else if h : l.val - 8 < 16 then w1 (ix2 r ⟨l - 8, h⟩) else z (ix2 r l) := by
  have hz : ∀ (o n : ℕ) (i) (h : (ix2 r l : S512x128.Idx) ∈ (Rect.unit (s := S512x128) ![0, o] ![512, n] i).set),
      o ≤ l.val ∧ l.val < o + n := by
    intro o n i h
    obtain ⟨k, hk, he⟩ := (LoadRect.mem_set _).mp h (1 : Fin 2)
    have hk' : k < n := hk
    have he' : l.val = o + 1 * k := he
    omega
  by_cases h : l.val < 8
  · rw [dif_pos h]
    refine (View.canon_cons_of_not_mem _ _ fun hm => ?_).trans ?_
    · have := hz _ _ i1 hm; omega
    · have he : (Rect.unit (s := S512x128) ![0, 0] ![512, 8] i0).emb (ix2 r ⟨l, h⟩) = (ix2 r l : S512x128.Idx) := by
        funext a
        fin_cases a
        · exact Fin.ext (show 0 + 1 * r.val = r.val by omega)
        · exact Fin.ext (show 0 + 1 * l.val = l.val by omega)
      exact (congrArg (View.canon _) he.symm).trans (View.canon_cons_emb _ _ _ _)
  · rw [dif_neg h]
    by_cases h' : l.val - 8 < 16
    · rw [dif_pos h']
      have he : (Rect.unit (s := S512x128) ![0, 8] ![512, 16] i1).emb (ix2 r ⟨l - 8, h'⟩) = (ix2 r l : S512x128.Idx) := by
        funext a
        fin_cases a
        · exact Fin.ext (show 0 + 1 * r.val = r.val by omega)
        · exact Fin.ext (show 8 + 1 * (l.val - 8) = l.val by omega)
      exact (congrArg (View.canon _) he.symm).trans (View.canon_cons_emb _ _ _ _)
    · rw [dif_neg h']
      refine (View.canon_cons_of_not_mem _ _ fun hm => ?_).trans ?_
      · have := hz _ _ i1 hm; omega
      refine (View.canon_cons_of_not_mem _ _ fun hm => ?_).trans ?_
      · have := hz _ _ i0 hm; omega
      have he : (Rect.unit (s := S512x128) ![0, 0] ![512, 128] iz).emb (ix2 r l) = (ix2 r l : S512x128.Idx) := by
        funext a
        fin_cases a
        · exact Fin.ext (show 0 + 1 * r.val = r.val by omega)
        · exact Fin.ext (show 0 + 1 * l.val = l.val by omega)
      exact (congrArg (View.canon _) he.symm).trans (View.canon_cons_emb _ _ _ _)

/-- The last result's block after point `t`. -/
theorem out11 (t : Fin cfg0.N) (r : Fin 512) (l : Fin 128) :
    ((outsAt0 m c t.val t.isLt).2.2.2.2.2 : FVec Ideal S512x128 .f32) (ix2 r l)
      = small (cat (H0 m c) (H1 m c) (rowOf t r)) (fun k => GW m c (ix2 0 k)) (fun k q => SW m c (ix3 0 k q)) l := by
  by_cases h : t.val < 2
  · rw [outsAt0_A m c t h (by omega)]
    frame_out
    refine (canon_small _ _ _ _ _ _ r l).trans ?_
    unfold small
    split
    · exact forget_pay _ _ _ _ _ (blk0 m c t h) (blk2 m c t) _ r _ fun k => blk4 m c t k _
    · split
      · exact gate_pay _ _ _ _ _ (blk0 m c t h) (blk2 m c t) _ r _ fun k => blk5 m c t k _
      · exact zero_pay r l
  · replace h : 2 ≤ t.val := by omega
    rw [outsAt0_B m c t (by omega) h]
    frame_out
    refine (canon_small _ _ _ _ _ _ r l).trans ?_
    unfold small
    split
    · exact forget_pay _ _ _ _ _ (blk1 m c t h) (blk2 m c t) _ r _ fun k => blk4 m c t k _
    · split
      · exact gate_pay _ _ _ _ _ (blk1 m c t h) (blk2 m c t) _ r _ fun k => blk5 m c t k _
      · exact zero_pay r l

/-- The last result array after the run is the reference's. -/
theorem final11 : (dats m 0 c).arrAt 11 (cfgs 0).N
    = Cert.ProjRefIdeal.Read.val_main_v24 (F := Ideal) (m ((c : Thread nD τ).loc main_arg0))
      (m ((c : Thread nD τ).loc main_arg1)) (m ((c : Thread nD τ).loc main_arg2))
      (m ((c : Thread nD τ).loc main_arg4)) := by
  refine (dats m 0 c).arrAt_eq_of_covers 11 _ (by decide +kernel) fun t hf y => ?_
  have hlt := lt16 t
  blk_simp
  rw [after0_11]
  obtain ⟨r, l, hy⟩ : ∃ (r : Fin 512) (l : Fin 128), y = ix2 r l := ⟨y 0, y 1, eq_ix2 y⟩
  subst hy
  refine (out11 m c t r l).trans ?_
  refine Eq.trans (ref5_at (H0 m c) (H1 m c) (GW m c) (SW m c) (rowOf t r) l).symm ?_
  refine congrArg (Cert.ProjRefIdeal.Read.val_main_v24 (F := Ideal) _ _ _ _) ?_
  blk_ext [idx_val t]

end Cert.ProjIdeal.RefValue
-- ==== Proof.ProjClaim.lean ====
module

public import proofs.«01_k».proof.Proof.ProjValue
public import proofs.«01_k».proof.Defs

/-! The claims about the call `proj`. -/

@[expose] public section

set_option maxRecDepth 16384

open Idealize.ShloMosaic Idealize.ShloMosaic.TcCoe Idealize.SL.Sem

namespace Cert.ProjIdeal.RefValue

/-- The reference leaves its arguments unchanged. -/
theorem frame_ref : Cert.quiescent_ProjRefIdeal := by
  intro m g _
  exact (θ_run Cert.ProjRefIdeal.defs _ _).mono
    (fun r h => ⟨fun c => (h c).2.2.2.2.2.2, Idealize.ShloMosaic.sem_eq_zero_of_no_sems (by decide) r.2⟩)
    (Cert.ProjRefIdeal.Value.run m g)

set_option maxHeartbeats 2000000 in
/-- The kernel and the reference end with equal results. -/
theorem algebraic : Cert.algebraic_ProjIdeal_ProjRefIdeal := by
  pair_intro
  · run_from Cert.ProjIdeal.Gen.run_main m g
  · run_from Cert.ProjRefIdeal.Value.run m' g'
    · exact (final6 m c).symm
    · exact (final7 m c).symm
    · exact (final8 m c).symm
    · exact (final9 m c).symm
    · exact (final10 m c).symm
    · exact (congrArg (Cert.ProjRefIdeal.Read.val_main_v24 (F := Ideal) _ _ _) (hagree c).2.2.2.2).trans (final11 m c).symm

end Cert.ProjIdeal.RefValue
-- ==== Proof.MergePay.lean ====
module

public import proofs.«01_k».proof.Proof.Gen.MergeIdeal.Skeleton
public import proofs.«01_k».proof.Proof.Gen.MergeRefIdeal.Read
public import proofs.«01_k».proof.Proof.LayerMath
public import Idealize.ShloMosaic.Lib.Pipeline.ValueKit

/-! The body of the call `merge` and its reference, both read as a sum over the 2048 merged lanes. -/

@[expose] public section

set_option maxRecDepth 16384

noncomputable section

open Idealize.ShloMosaic Idealize.ShloMosaic.TcCoe Idealize.SL.Sem

namespace Cert.MergeIdeal.RefValue

open Cert.MergeIdeal Cert.MergeIdeal.Gen Cert.LayerMath

/-- A lane of the two mixers' outputs, each through its gate: `x` is the normalised row, `u` and `v` are the gates'
    columns with the biases `p` and `q`, and `y` and `z` are the mixers' rows with their columns `a` and `b`. -/
def lane (x u v : Fin 2048 → EReal) (p q : EReal) (y a z b : Fin 1024 → EReal) : EReal :=
  LayerMath.sig ((∑ k, x k * u k) + p) * (∑ j, y j * a j) + LayerMath.sig ((∑ k, x k * v k) + q) * (∑ j, z j * b j)

/-- The accumulation of one tile of 512 lanes. -/
theorem pay17_at (xn : FVec Ideal S256x2048 .bf16) (y z : FVec Ideal S256x1024 .bf16) (u : FVec Ideal S2048x512 .bf16)
    (p : FVec Ideal S1x512 .f32) (v : FVec Ideal S2048x512 .bf16) (q : FVec Ideal S1x512 .f32)
    (a b : FVec Ideal S1024x512 .bf16) (acc : FVec Ideal S256x2048 .f32) (o : FVec Ideal S512x2048 .bf16)
    (r : Fin 256) (n : Fin 2048) :
    k0_pay17 (F := Ideal) xn y z u p v q a b acc o (ix2 r n) = acc (ix2 r n) +
      ∑ f : Fin 512, lane (fun k => xn (ix2 r k)) (fun k => u (ix2 k f)) (fun k => v (ix2 k f)) (p (ix2 0 f)) (q (ix2 0 f))
        (fun j => y (ix2 r j)) (fun j => a (ix2 j f)) (fun j => z (ix2 r j)) (fun j => b (ix2 j f)) * o (ix2 f n) := by
  pointwise [k0_pay17]
  rfl

/-- The normalised row tile. -/
theorem pay5_at (x : FVec Ideal S256x2048 .f32) (g : FVec Ideal S1x2048 .f32) (r : Fin 256) (k : Fin 2048) :
    k0_pay5 (F := Ideal) x g (ix2 r k) = nrm (fun k => x (ix2 r k)) (fun k => g (ix2 0 k)) k := by
  pointwise [k0_pay5]
  rfl

/-- The first mixer's row tile. -/
theorem pay6_at (y : FVec Ideal S256x1024 .bf16) (r : Fin 256) (j : Fin 1024) :
    k0_pay6 (F := Ideal) y (ix2 r j) = y (ix2 r j) := by
  pointwise [k0_pay6]

/-- The second mixer's row tile. -/
theorem pay7_at (y : FVec Ideal S256x1024 .bf16) (r : Fin 256) (j : Fin 1024) :
    k0_pay7 (F := Ideal) y (ix2 r j) = y (ix2 r j) := by
  pointwise [k0_pay7]

/-- The cast of a block of the first weight. -/
theorem pay1_at (w : FVec Ideal S64x5632 .f32) (k : Fin 64) (f : Fin 5632) :
    k0_pay1 (F := Ideal) w (ix2 k f) = w (ix2 k f) := by
  pointwise [k0_pay1]

/-- The cast of a block of the second weight. -/
theorem pay2_at (w : FVec Ideal S64x5632 .f32) (k : Fin 64) (f : Fin 5632) :
    k0_pay2 (F := Ideal) w (ix2 k f) = w (ix2 k f) := by
  pointwise [k0_pay2]

/-- The cast of a block of the third weight. -/
theorem pay3_at (w : FVec Ideal S64x2048 .f32) (k : Fin 64) (f : Fin 2048) :
    k0_pay3 (F := Ideal) w (ix2 k f) = w (ix2 k f) := by
  pointwise [k0_pay3]

/-- The cast of a block of the fourth weight. -/
theorem pay4_at (w : FVec Ideal S16x2048 .f32) (k : Fin 16) (f : Fin 2048) :
    k0_pay4 (F := Ideal) w (ix2 k f) = w (ix2 k f) := by
  pointwise [k0_pay4]

section tiles
variable (x : FVec Ideal S256x2048 .f32) (g : FVec Ideal S1x2048 .f32) (y z : FVec Ideal S256x1024 .bf16)
  (u : FVec Ideal S2048x512 .bf16) (p : FVec Ideal S1x512 .f32) (v : FVec Ideal S2048x512 .bf16)
  (q : FVec Ideal S1x512 .f32) (a b : FVec Ideal S1024x512 .bf16) (acc : FVec Ideal S256x2048 .f32)
  (o : FVec Ideal S512x2048 .bf16)

/-- The accumulation of a tile, as the body does it for the row tile `x`. -/
abbrev accum : FVec Ideal S256x2048 .f32 :=
  k0_pay17 (F := Ideal) (k0_pay5 x g) (k0_pay6 y) (k0_pay7 z) u p v q a b acc o

/-- The first tile is accumulated in the same way. -/
theorem tile0_eq : k0_pay10 (F := Ideal) (k0_pay6 y) (k0_pay7 z) (k0_pay8 x g u p) (k0_pay9 x g v q) a b acc o
    = accum x g y z u p v q a b acc o := rfl

/-- The second tile is accumulated in the same way. -/
theorem tile1_eq : k0_pay13 (F := Ideal) (k0_pay7 z) (k0_pay11 (k0_pay5 x g) v q)
    (k0_pay12 (k0_pay5 x g) (k0_pay6 y) u p a) b acc o = accum x g y z u p v q a b acc o := rfl

/-- The third tile is accumulated in the same way. -/
theorem tile2_eq : k0_pay16 (F := Ideal) (k0_pay14 (k0_pay5 x g) (k0_pay6 y) (k0_pay7 z) u p v q a b) (k0_pay15 acc) o
    = accum x g y z u p v q a b acc o := rfl

end tiles

/-- A row after both mixers' outputs are added through their gates and the last weight. -/
def merge (x g : Fin 2048 → EReal) (w : Fin 2048 → Fin 4096 → EReal) (bias : Fin 4096 → EReal) (y z : Fin 1024 → EReal)
    (a b : Fin 1024 → Fin 2048 → EReal) (o : Fin 2048 → Fin 2048 → EReal) (n : Fin 2048) : EReal :=
  x n + ∑ l : Fin 2048, lane (nrm x g) (fun k => w k ⟨l, by omega⟩) (fun k => w k ⟨2048 + l, by omega⟩)
    (bias ⟨l, by omega⟩) (bias ⟨2048 + l, by omega⟩) y (fun j => a j l) z (fun j => b j l) * o l n

/-- Four tiles of 512 lanes, added one after the other, make up all lanes. -/
theorem four_tiles (s : EReal) (f : Fin 2048 → EReal) :
    s + (∑ k : Fin 512, f ⟨0 + k, by omega⟩) + (∑ k : Fin 512, f ⟨512 + k, by omega⟩)
      + (∑ k : Fin 512, f ⟨1024 + k, by omega⟩) + (∑ k : Fin 512, f ⟨1536 + k, by omega⟩) = s + ∑ l, f l := by
  rw [Fin.sum_univ_tiles 4 512 rfl f, Fin.sum_univ_four]
  simp only [add_assoc]
  rfl

/-- The rows of the two parts of the hidden state, one after the other. -/
def cat (h0 : FVec Ideal S1024x2048 .f32) (h1 : FVec Ideal S7168x2048 .f32) (i : Fin 8192) (k : Fin 2048) : EReal :=
  if hi : i.val < 1024 then h0 (ix2 ⟨i, hi⟩ k) else h1 (ix2 ⟨i - 1024, by omega⟩ k)

section reference
open Cert.MergeRefIdeal.Read
variable (h0 : FVec Ideal S1024x2048 .f32) (h1 : FVec Ideal S7168x2048 .f32) (g : FVec Ideal S1x2048 .f32)
  (y z : FVec Ideal S2x4096x1024 .bf16) (w : FVec Ideal S2048x4096 .bf16) (bias : FVec Ideal S1x4096 .f32)
  (a b : FVec Ideal S1024x2048 .bf16) (o : FVec Ideal S2048x2048 .bf16)

/-- The reference's rows. -/
theorem cat_at (i : Fin 8192) (k : Fin 2048) : val_main_v0 (F := Ideal) h0 h1 (ix2 i k) = cat h0 h1 i k := by
  pointwise [val_main_v0]
  rfl

/-- The reference's normalised rows. -/
theorem norm_at (i : Fin 8192) (k : Fin 2048) :
    val_main_v14 (F := Ideal) h0 h1 g (ix2 i k) = nrm (cat h0 h1 i) (fun k => g (ix2 0 k)) k := by
  pointwise [val_main_v1, val_main_cst, val_main_v2, val_main_v3, val_main_cst_0, val_main_v4,
    val_main_v5, val_main_cst_1, val_main_v6, val_main_v7, val_main_v8, val_main_v9, val_main_v10, val_main_v11,
    val_main_v12, val_main_v13, val_main_v14]
  simp only [cat_at]
  rfl

/-- The reference's gates. -/
theorem gate_at (i : Fin 8192) (q : Fin 4096) : val_main_v26 (F := Ideal) h0 h1 g w bias (ix2 i q)
    = LayerMath.sig ((∑ k, nrm (cat h0 h1 i) (fun k => g (ix2 0 k)) k * w (ix2 k q)) + bias (ix2 0 q)) := by
  pointwise [val_main_v15, val_main_v16, val_main_v17, val_main_v18, val_main_v19, val_main_v20, val_main_v21,
    val_main_v22, val_main_cst_2, val_main_v23, val_main_v24, val_main_cst_3, val_main_v25, val_main_v26]
  simp only [norm_at]
  rfl

/-- The reference's merged lanes. -/
theorem lane_at (i : Fin 8192) (l : Fin 2048) : val_main_v39 (F := Ideal) h0 h1 g y z w bias a b (ix2 i l)
    = lane (nrm (cat h0 h1 i) fun k => g (ix2 0 k)) (fun k => w (ix2 k ⟨l, by omega⟩))
        (fun k => w (ix2 k ⟨2048 + l, by omega⟩)) (bias (ix2 0 ⟨l, by omega⟩)) (bias (ix2 0 ⟨2048 + l, by omega⟩))
        (fun j => y (ix3 ⟨i / 4096, by omega⟩ ⟨i % 4096, by omega⟩ j)) (fun j => a (ix2 j l))
        (fun j => z (ix3 ⟨i / 4096, by omega⟩ ⟨i % 4096, by omega⟩ j)) (fun j => b (ix2 j l)) := by
  pointwise [val_main_v27, val_main_v28, val_main_v29, val_main_v30, val_main_v31, val_main_v32, val_main_v33,
    val_main_v34, val_main_v35, val_main_v36, val_main_v37, val_main_v38, val_main_v39]
  simp only [gate_at]
  rfl

/-- The reference's first result. -/
theorem ref_at (i : Fin 8192) (n : Fin 2048) : val_main_v42 (F := Ideal) h0 h1 g y z w bias a b o (ix2 i n)
    = merge (cat h0 h1 i) (fun k => g (ix2 0 k)) (fun k q => w (ix2 k q)) (fun q => bias (ix2 0 q))
        (fun j => y (ix3 ⟨i / 4096, by omega⟩ ⟨i % 4096, by omega⟩ j))
        (fun j => z (ix3 ⟨i / 4096, by omega⟩ ⟨i % 4096, by omega⟩ j)) (fun j l => a (ix2 j l)) (fun j l => b (ix2 j l))
        (fun l n => o (ix2 l n)) n := by
  pointwise [val_main_v40, val_main_v41, val_main_v42]
  simp only [cat_at, lane_at]
  rfl

/-- The reference's second result: a weight, cast. -/
theorem ref1_at (w : FVec Ideal S1x2048x5632 .f32) (k : Fin 2048) (l : Fin 5632) :
    val_main_v44 (F := Ideal) w (ix2 k l) = w (ix3 0 k l) := by
  pointwise [val_main_v43, val_main_v44]

/-- The reference's third result: a weight, cast. -/
theorem ref2_at (w : FVec Ideal S1x2048x5632 .f32) (k : Fin 2048) (l : Fin 5632) :
    val_main_v46 (F := Ideal) w (ix2 k l) = w (ix3 0 k l) := by
  pointwise [val_main_v45, val_main_v46]

/-- The reference's fourth result: a weight, cast. -/
theorem ref3_at (w : FVec Ideal S1x2048x2048 .f32) (k : Fin 2048) (l : Fin 2048) :
    val_main_v48 (F := Ideal) w (ix2 k l) = w (ix3 0 k l) := by
  pointwise [val_main_v47, val_main_v48]

/-- The reference's fifth result: a weight, cast. -/
theorem ref4_at (w : FVec Ideal S1x256x2048 .f32) (k : Fin 256) (l : Fin 2048) :
    val_main_v50 (F := Ideal) w (ix2 k l) = w (ix3 0 k l) := by
  pointwise [val_main_v49, val_main_v50]

end reference

end Cert.MergeIdeal.RefValue
-- ==== Proof.MergeBlocks.lean ====
module

public import proofs.«01_k».proof.Proof.MergePay
public import proofs.«01_k».proof.Proof.Gen.MergeIdeal.Frame
public import Idealize.ShloMosaic.Lib.Pipeline.ValueKit

/-! The blocks of the call `merge`, read as entries of its arguments, and the four accumulations of a point. -/

@[expose] public section

set_option maxRecDepth 16384

noncomputable section

open Idealize.ShloMosaic Idealize.ShloMosaic.TcCoe Idealize.SL.Sem

namespace Cert.MergeIdeal.RefValue

open Cert.MergeIdeal Cert.MergeIdeal.Gen Cert.LayerMath

variable (m : (ℓ : Loc nD τ sig) → Buf (Elt Ideal) ℓ)

/-- The block of each window at grid point `t`. -/
theorem idx_val : ∀ t : Fin cfg0.N, win0_0.index t = ![0, 0] ∧ win0_1.index t = ![min t.val 3, 0] ∧
    win0_2.index t = ![t.val - 4, 0] ∧ win0_3.index t = ![t.val, 0] ∧ win0_4.index t = ![t.val, 0] ∧
    win0_5.index t = ![0, 0] ∧ win0_6.index t = ![0, 0] ∧ win0_7.index t = ![0, 0] ∧ win0_8.index t = ![0, 0] ∧
    win0_9.index t = ![0, 0] ∧ win0_10.index t = ![t.val, 0] ∧ win0_11.index t = ![t.val, 0] ∧
    win0_12.index t = ![t.val, 0] ∧ win0_13.index t = ![min t.val 15, 0] ∧ win0_14.index t = ![t.val, 0] ∧
    win0_15.index t = ![t.val, 0] ∧ win0_16.index t = ![t.val, 0] ∧ win0_17.index t = ![t.val, 0] ∧
    win0_18.index t = ![min t.val 15, 0] ∧ t.val < 32 :=
  (by decide +kernel : ∀ t : Fin grid0.N, _)

/-- There are 32 points. -/
theorem lt32 (t : Fin cfg0.N) : t.val < 32 := (idx_val t).2.2.2.2.2.2.2.2.2.2.2.2.2.2.2.2.2.2.2

variable (c : Dev nD)

/-- The first rows. -/
abbrev H0 : FVec Ideal S1024x2048 .f32 := m ((c : Thread nD τ).loc main_arg0)

/-- The other rows. -/
abbrev H1 : FVec Ideal S7168x2048 .f32 := m ((c : Thread nD τ).loc main_arg1)

/-- The norm's weight. -/
abbrev GW : FVec Ideal S1x2048 .f32 := m ((c : Thread nD τ).loc main_arg2)

/-- The first mixer's output. -/
abbrev YF : FVec Ideal S2x4096x1024 .bf16 := m ((c : Thread nD τ).loc main_arg3)

/-- The second mixer's output. -/
abbrev YG : FVec Ideal S2x4096x1024 .bf16 := m ((c : Thread nD τ).loc main_arg4)

/-- The gates' weight. -/
abbrev MW : FVec Ideal S2048x4096 .bf16 := m ((c : Thread nD τ).loc main_arg5)

/-- The gates' bias. -/
abbrev MB : FVec Ideal S1x4096 .f32 := m ((c : Thread nD τ).loc main_arg6)

/-- The first mixer's weight. -/
abbrev AW : FVec Ideal S1024x2048 .bf16 := m ((c : Thread nD τ).loc main_arg7)

/-- The second mixer's weight. -/
abbrev BW : FVec Ideal S1024x2048 .bf16 := m ((c : Thread nD τ).loc main_arg8)

/-- The last weight. -/
abbrev OW : FVec Ideal S2048x2048 .bf16 := m ((c : Thread nD τ).loc main_arg9)

/-- Row `r` of point `t`. -/
abbrev rowOf (t : Fin cfg0.N) (r : Fin 256) : Fin 8192 := ⟨t.val * 256 + r, by have := lt32 t; omega⟩

/-- The first mixer's output at a row. -/
abbrev yf (i : Fin 8192) (j : Fin 1024) : EReal := YF m c (ix3 ⟨i / 4096, by omega⟩ ⟨i % 4096, by omega⟩ j)

/-- The second mixer's output at a row. -/
abbrev yg (i : Fin 8192) (j : Fin 1024) : EReal := YG m c (ix3 ⟨i / 4096, by omega⟩ ⟨i % 4096, by omega⟩ j)

section
variable (t : Fin cfg0.N)

/-- The block of the norm's weight. -/
theorem blk0 (k : Fin 2048) : (iblk m c 0 t : FVec Ideal S1x2048 .f32) (ix2 0 k) = GW m c (ix2 0 k) := by
  blk_point [iblk, V, idx_val t]

/-- The row block at the first four points. -/
theorem blk1 (h : t.val < 4) (r : Fin 256) (k : Fin 2048) : (iblk m c 1 t : FVec Ideal S256x2048 .f32) (ix2 r k)
    = cat (H0 m c) (H1 m c) (rowOf t r) k := by
  unfold cat
  rw [dif_pos (by dsimp only [rowOf]; omega)]
  have : min t.val 3 = t.val := by omega
  blk_point [iblk, V, idx_val t, this]

/-- The row block at the other points. -/
theorem blk2 (h : 4 ≤ t.val) (r : Fin 256) (k : Fin 2048) : (iblk m c 2 t : FVec Ideal S256x2048 .f32) (ix2 r k)
    = cat (H0 m c) (H1 m c) (rowOf t r) k := by
  have := lt32 t
  unfold cat
  rw [dif_neg (by dsimp only [rowOf]; omega)]
  have e : (⟨(rowOf t r).val - 1024, by omega⟩ : Fin 7168) = ⟨(t.val - 4) * 256 + r, by omega⟩ :=
    Fin.ext (by dsimp only [rowOf]; omega)
  rw [e]
  blk_point [iblk, V, idx_val t]

/-- The block of the first mixer's output. -/
theorem blk3 (r : Fin 256) (j : Fin 1024) : (iblk m c 3 t : FVec Ideal S256x1024 .bf16) (ix2 r j)
    = yf m c (rowOf t r) j := by
  have := lt32 t
  blk_point [iblk, V, idx_val t]

/-- The block of the second mixer's output. -/
theorem blk4 (r : Fin 256) (j : Fin 1024) : (iblk m c 4 t : FVec Ideal S256x1024 .bf16) (ix2 r j)
    = yg m c (rowOf t r) j := by
  have := lt32 t
  blk_point [iblk, V, idx_val t]

/-- The gates' weight. -/
theorem blk5 (k : Fin 2048) (q : Fin 4096) : (iblk m c 5 t : FVec Ideal S2048x4096 .bf16) (ix2 k q)
    = MW m c (ix2 k q) := by
  blk_point [iblk, V, idx_val t]

/-- The gates' bias. -/
theorem blk6 (q : Fin 4096) : (iblk m c 6 t : FVec Ideal S1x4096 .f32) (ix2 0 q) = MB m c (ix2 0 q) := by
  blk_point [iblk, V, idx_val t]

/-- The first mixer's weight. -/
theorem blk7 (j : Fin 1024) (l : Fin 2048) : (iblk m c 7 t : FVec Ideal S1024x2048 .bf16) (ix2 j l)
    = AW m c (ix2 j l) := by
  blk_point [iblk, V, idx_val t]

/-- The second mixer's weight. -/
theorem blk8 (j : Fin 1024) (l : Fin 2048) : (iblk m c 8 t : FVec Ideal S1024x2048 .bf16) (ix2 j l)
    = BW m c (ix2 j l) := by
  blk_point [iblk, V, idx_val t]

/-- The last weight. -/
theorem blk9 (l n : Fin 2048) : (iblk m c 9 t : FVec Ideal S2048x2048 .bf16) (ix2 l n) = OW m c (ix2 l n) := by
  blk_point [iblk, V, idx_val t]

/-- The block of the first weight that is cast. -/
theorem blk10 (k : Fin 64) (l : Fin 5632) : (iblk m c 10 t : FVec Ideal S64x5632 .f32) (ix2 k l)
    = (m ((c : Thread nD τ).loc main_arg10) : FVec Ideal S1x2048x5632 .f32)
        (ix3 0 ⟨t.val * 64 + k, by have := lt32 t; omega⟩ l) := by
  have := lt32 t
  blk_point [iblk, V, idx_val t]

/-- The block of the second weight that is cast. -/
theorem blk11 (k : Fin 64) (l : Fin 5632) : (iblk m c 11 t : FVec Ideal S64x5632 .f32) (ix2 k l)
    = (m ((c : Thread nD τ).loc main_arg11) : FVec Ideal S1x2048x5632 .f32)
        (ix3 0 ⟨t.val * 64 + k, by have := lt32 t; omega⟩ l) := by
  have := lt32 t
  blk_point [iblk, V, idx_val t]

/-- The block of the third weight that is cast. -/
theorem blk12 (k : Fin 64) (l : Fin 2048) : (iblk m c 12 t : FVec Ideal S64x2048 .f32) (ix2 k l)
    = (m ((c : Thread nD τ).loc main_arg12) : FVec Ideal S1x2048x2048 .f32)
        (ix3 0 ⟨t.val * 64 + k, by have := lt32 t; omega⟩ l) := by
  have := lt32 t
  blk_point [iblk, V, idx_val t]

/-- The block of the fourth weight that is cast. -/
theorem blk13 (k : Fin 16) (l : Fin 2048) : (iblk m c 13 t : FVec Ideal S16x2048 .f32) (ix2 k l)
    = (m ((c : Thread nD τ).loc main_arg13) : FVec Ideal S1x256x2048 .f32)
        (ix3 0 ⟨min t.val 15 * 16 + k, by omega⟩ l) := by
  blk_point [iblk, V, idx_val t]

end

section
variable (t : Fin cfg0.N) (o : ℕ)

/-- A tile of columns of the gates' weight as the body loads it. -/
theorem tile5 (inb) (k : Fin 2048) (f : Fin 512) (q : Fin 4096) (hq : q.val = o + f.val) :
    (View.ld (iblk m c 5 t : FVec Ideal S2048x4096 .bf16) (Rect.unit ![0, o] ![2048, 512] inb)
      : FVec Ideal S2048x512 .bf16) (ix2 k f) = MW m c (ix2 k q) := by
  refine (View.ld_unit_apply_of _ _ _ _ _ (ix2 k q) ?_).trans (blk5 m c t k q)
  intro a
  fin_cases a
  · exact (Nat.zero_add _).symm
  · exact hq

/-- A tile of the gates' bias as the body loads it. -/
theorem tile6 (inb) (f : Fin 512) (q : Fin 4096) (hq : q.val = o + f.val) :
    (View.ld (iblk m c 6 t : FVec Ideal S1x4096 .f32) (Rect.unit ![0, o] ![1, 512] inb)
      : FVec Ideal S1x512 .f32) (ix2 0 f) = MB m c (ix2 0 q) := by
  refine (View.ld_unit_apply_of _ _ _ _ _ (ix2 0 q) ?_).trans (blk6 m c t q)
  intro a
  fin_cases a
  · exact (Nat.zero_add _).symm
  · exact hq

/-- A tile of columns of the first mixer's weight as the body loads it. -/
theorem tile7 (inb) (j : Fin 1024) (f : Fin 512) (q : Fin 2048) (hq : q.val = o + f.val) :
    (View.ld (iblk m c 7 t : FVec Ideal S1024x2048 .bf16) (Rect.unit ![0, o] ![1024, 512] inb)
      : FVec Ideal S1024x512 .bf16) (ix2 j f) = AW m c (ix2 j q) := by
  refine (View.ld_unit_apply_of _ _ _ _ _ (ix2 j q) ?_).trans (blk7 m c t j q)
  intro a
  fin_cases a
  · exact (Nat.zero_add _).symm
  · exact hq

/-- A tile of columns of the second mixer's weight as the body loads it. -/
theorem tile8 (inb) (j : Fin 1024) (f : Fin 512) (q : Fin 2048) (hq : q.val = o + f.val) :
    (View.ld (iblk m c 8 t : FVec Ideal S1024x2048 .bf16) (Rect.unit ![0, o] ![1024, 512] inb)
      : FVec Ideal S1024x512 .bf16) (ix2 j f) = BW m c (ix2 j q) := by
  refine (View.ld_unit_apply_of _ _ _ _ _ (ix2 j q) ?_).trans (blk8 m c t j q)
  intro a
  fin_cases a
  · exact (Nat.zero_add _).symm
  · exact hq

/-- A tile of rows of the last weight as the body loads it. -/
theorem tile9 (inb) (f : Fin 512) (n : Fin 2048) (q : Fin 2048) (hq : q.val = o + f.val) :
    (View.ld (iblk m c 9 t : FVec Ideal S2048x2048 .bf16) (Rect.unit ![o, 0] ![512, 2048] inb)
      : FVec Ideal S512x2048 .bf16) (ix2 f n) = OW m c (ix2 q n) := by
  refine (View.ld_unit_apply_of _ _ _ _ _ (ix2 q n) ?_).trans (blk9 m c t q n)
  intro a
  fin_cases a
  · exact hq
  · exact (Nat.zero_add _).symm

end

/-- The contribution of lane `l` to column `n` of row `i` of the result. -/
def term (i : Fin 8192) (n l : Fin 2048) : EReal :=
  lane (nrm (cat (H0 m c) (H1 m c) i) fun k => GW m c (ix2 0 k)) (fun k => MW m c (ix2 k ⟨l, by omega⟩))
    (fun k => MW m c (ix2 k ⟨2048 + l, by omega⟩)) (MB m c (ix2 0 ⟨l, by omega⟩)) (MB m c (ix2 0 ⟨2048 + l, by omega⟩))
    (yf m c i) (fun j => AW m c (ix2 j l)) (yg m c i) (fun j => BW m c (ix2 j l)) * OW m c (ix2 l n)

/-- The accumulation of the tile of lanes from `o`. -/
theorem accum_at (t : Fin cfg0.N) (r : Fin 256) (n : Fin 2048) (x acc : FVec Ideal S256x2048 .f32)
    (hx : ∀ k, x (ix2 r k) = cat (H0 m c) (H1 m c) (rowOf t r) k) (o o' : ℕ) (ho : o + 512 ≤ 2048) (ho' : o' = 2048 + o)
    (i1 i2 i3 i4 i5 i6 i7) :
    accum x (iblk m c 0 t) (iblk m c 3 t) (iblk m c 4 t)
      (View.ld (iblk m c 5 t : FVec Ideal S2048x4096 .bf16) (Rect.unit ![0, o] ![2048, 512] i1))
      (View.ld (iblk m c 6 t : FVec Ideal S1x4096 .f32) (Rect.unit ![0, o] ![1, 512] i2))
      (View.ld (iblk m c 5 t : FVec Ideal S2048x4096 .bf16) (Rect.unit ![0, o'] ![2048, 512] i3))
      (View.ld (iblk m c 6 t : FVec Ideal S1x4096 .f32) (Rect.unit ![0, o'] ![1, 512] i4))
      (View.ld (iblk m c 7 t : FVec Ideal S1024x2048 .bf16) (Rect.unit ![0, o] ![1024, 512] i5))
      (View.ld (iblk m c 8 t : FVec Ideal S1024x2048 .bf16) (Rect.unit ![0, o] ![1024, 512] i6)) acc
      (View.ld (iblk m c 9 t : FVec Ideal S2048x2048 .bf16) (Rect.unit ![o, 0] ![512, 2048] i7)) (ix2 r n)
      = acc (ix2 r n) + ∑ f : Fin 512, term m c (rowOf t r) n ⟨o + f, by omega⟩ := by
  subst ho'
  refine (pay17_at _ _ _ _ _ _ _ _ _ acc _ r n).trans ?_
  refine congrArg (acc (ix2 r n) + ·) (Finset.sum_congr rfl fun f _ => ?_)
  unfold term
  have e5 : ∀ k, _ = MW m c (ix2 k ⟨o + f, by omega⟩) := fun k => tile5 m c t o i1 k f ⟨o + f, by omega⟩ rfl
  have e5' : ∀ k, _ = MW m c (ix2 k ⟨2048 + (o + f), by omega⟩) :=
    fun k => tile5 m c t (2048 + o) i3 k f ⟨2048 + (o + f), by omega⟩ (Nat.add_assoc _ _ _).symm
  have e6 := tile6 m c t o i2 f ⟨o + f, by omega⟩ rfl
  have e6' := tile6 m c t (2048 + o) i4 f ⟨2048 + (o + f), by omega⟩ (Nat.add_assoc _ _ _).symm
  have e7 : ∀ j, _ = AW m c (ix2 j ⟨o + f, by omega⟩) := fun j => tile7 m c t o i5 j f ⟨o + f, by omega⟩ rfl
  have e8 : ∀ j, _ = BW m c (ix2 j ⟨o + f, by omega⟩) := fun j => tile8 m c t o i6 j f ⟨o + f, by omega⟩ rfl
  have e9 := tile9 m c t o i7 f n ⟨o + f, by omega⟩ rfl
  have ex : (fun k => k0_pay5 (F := Ideal) x (iblk m c 0 t) (ix2 r k))
      = nrm (cat (H0 m c) (H1 m c) (rowOf t r)) fun k => GW m c (ix2 0 k) := by
    funext k
    rw [pay5_at, funext hx, funext (blk0 m c t)]
  have ey : (fun j => k0_pay6 (F := Ideal) (iblk m c 3 t) (ix2 r j)) = yf m c (rowOf t r) :=
    funext fun j => (pay6_at _ r j).trans (blk3 m c t r j)
  have ez : (fun j => k0_pay7 (F := Ideal) (iblk m c 4 t) (ix2 r j)) = yg m c (rowOf t r) :=
    funext fun j => (pay7_at _ r j).trans (blk4 m c t r j)
  rw [ex, ey, ez, funext e5, funext e5', e6, e6', funext e7, funext e8, e9]

/-- The row tile with the four tiles of lanes added. -/
theorem rows_at (t : Fin cfg0.N) (r : Fin 256) (n : Fin 2048) (x : FVec Ideal S256x2048 .f32)
    (hx : ∀ k, x (ix2 r k) = cat (H0 m c) (H1 m c) (rowOf t r) k) (a0 a1 a2 a3 : FVec Ideal S256x2048 .f32)
    (h0 : a0 (ix2 r n) = x (ix2 r n) + ∑ f : Fin 512, term m c (rowOf t r) n ⟨0 + f, by omega⟩)
    (h1 : a1 (ix2 r n) = a0 (ix2 r n) + ∑ f : Fin 512, term m c (rowOf t r) n ⟨512 + f, by omega⟩)
    (h2 : a2 (ix2 r n) = a1 (ix2 r n) + ∑ f : Fin 512, term m c (rowOf t r) n ⟨1024 + f, by omega⟩)
    (h3 : a3 (ix2 r n) = a2 (ix2 r n) + ∑ f : Fin 512, term m c (rowOf t r) n ⟨1536 + f, by omega⟩) :
    a3 (ix2 r n) = merge (cat (H0 m c) (H1 m c) (rowOf t r)) (fun k => GW m c (ix2 0 k)) (fun k q => MW m c (ix2 k q))
      (fun q => MB m c (ix2 0 q)) (yf m c (rowOf t r)) (yg m c (rowOf t r)) (fun j l => AW m c (ix2 j l))
      (fun j l => BW m c (ix2 j l)) (fun l n => OW m c (ix2 l n)) n := by
  rw [h3, h2, h1, h0, hx]
  exact four_tiles _ (term m c (rowOf t r) n)

end Cert.MergeIdeal.RefValue
-- ==== Proof.MergeIdealPoints.lean ====
module

public import proofs.«01_k».proof.Proof.Gen.MergeIdeal.Frame
public import proofs.«01_k».proof.Proof.Gen.MergeIdeal.Points
public import proofs.«01_k».proof.Proof.Gen.MergeIdeal.Skeleton
public import Idealize.ShloMosaic.Lib.Pipeline.TableIdle

/-! The points of the call `merge`: which part the rows lie in, where each cast is at work, and the buffers of its windows. -/

@[expose] public section

set_option maxRecDepth 16384

noncomputable section

namespace Cert.MergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first cast is at work at the point. -/
abbrev cond0_0 (i : grid0.Coords) : Prop := k0_cond1 i = 1#1
/-- When it is so: The first cast is at work at the point. -/
theorem hcond0_0 : ∀ t : Fin cfg0.N, cond0_0 (grid0.coords t) :=
  (by decide +kernel : ∀ t : Fin grid0.N, cond0_0 (grid0.coords t))

/-- The second cast is at work at the point. -/
abbrev cond0_1 (i : grid0.Coords) : Prop := k0_cond2 i = 1#1
/-- When it is so: The second cast is at work at the point. -/
theorem hcond0_1 : ∀ t : Fin cfg0.N, cond0_1 (grid0.coords t) :=
  (by decide +kernel : ∀ t : Fin grid0.N, cond0_1 (grid0.coords t))

/-- The third cast is at work at the point. -/
abbrev cond0_2 (i : grid0.Coords) : Prop := k0_cond3 i = 1#1
/-- When it is so: The third cast is at work at the point. -/
theorem hcond0_2 : ∀ t : Fin cfg0.N, cond0_2 (grid0.coords t) :=
  (by decide +kernel : ∀ t : Fin grid0.N, cond0_2 (grid0.coords t))

/-- The last cast is at work at the point. -/
abbrev cond0_3 (i : grid0.Coords) : Prop := k0_cond4 i = 1#1
/-- When it is so: The last cast is at work at the point. -/
theorem hcond0_3 : ∀ t : Fin cfg0.N, cond0_3 (grid0.coords t) ↔ t.val < 16 :=
  (by decide +kernel : ∀ t : Fin grid0.N, cond0_3 (grid0.coords t) ↔ t.val < 16)

/-- The rows of the point lie in the first part. -/
abbrev cond0_4 (i : grid0.Coords) : Prop := k0_cond5 i = 1#1
/-- When it is so: The rows of the point lie in the first part. -/
theorem hcond0_4 : ∀ t : Fin cfg0.N, cond0_4 (grid0.coords t) ↔ t.val < 4 :=
  (by decide +kernel : ∀ t : Fin grid0.N, cond0_4 (grid0.coords t) ↔ t.val < 4)

/-- The rows of the point lie in the second part. -/
abbrev cond0_5 (i : grid0.Coords) : Prop := k0_cond6 i = 1#1
/-- When it is so: The rows of the point lie in the second part. -/
theorem hcond0_5 : ∀ t : Fin cfg0.N, cond0_5 (grid0.coords t) ↔ 4 ≤ t.val :=
  (by decide +kernel : ∀ t : Fin grid0.N, cond0_5 (grid0.coords t) ↔ 4 ≤ t.val)

/-- Window 0 is in use here. -/
theorem liveAt0_0 : ∀ t : Fin cfg0.N, cfg0.idle 0 (grid0.coords t) = false := fun _ => rfl
/-- Window 1 is in use here. -/
theorem liveAt0_1 : ∀ t : Fin cfg0.N, cfg0.idle 1 (grid0.coords t) = false := fun _ => rfl
/-- Window 2 is in use here. -/
theorem liveAt0_2 : ∀ t : Fin cfg0.N, cfg0.idle 2 (grid0.coords t) = false := fun _ => rfl
/-- Window 3 is in use here. -/
theorem liveAt0_3 : ∀ t : Fin cfg0.N, cfg0.idle 3 (grid0.coords t) = false := fun _ => rfl
/-- Window 4 is in use here. -/
theorem liveAt0_4 : ∀ t : Fin cfg0.N, cfg0.idle 4 (grid0.coords t) = false := fun _ => rfl
/-- Window 5 is in use here. -/
theorem liveAt0_5 : ∀ t : Fin cfg0.N, cfg0.idle 5 (grid0.coords t) = false := fun _ => rfl
/-- Window 6 is in use here. -/
theorem liveAt0_6 : ∀ t : Fin cfg0.N, cfg0.idle 6 (grid0.coords t) = false := fun _ => rfl
/-- Window 7 is in use here. -/
theorem liveAt0_7 : ∀ t : Fin cfg0.N, cfg0.idle 7 (grid0.coords t) = false := fun _ => rfl
/-- Window 8 is in use here. -/
theorem liveAt0_8 : ∀ t : Fin cfg0.N, cfg0.idle 8 (grid0.coords t) = false := fun _ => rfl
/-- Window 9 is in use here. -/
theorem liveAt0_9 : ∀ t : Fin cfg0.N, cfg0.idle 9 (grid0.coords t) = false := fun _ => rfl
/-- Window 10 is in use here. -/
theorem liveAt0_10 : ∀ t : Fin cfg0.N, cfg0.idle 10 (grid0.coords t) = false := fun _ => rfl
/-- Window 11 is in use here. -/
theorem liveAt0_11 : ∀ t : Fin cfg0.N, cfg0.idle 11 (grid0.coords t) = false := fun _ => rfl
/-- Window 12 is in use here. -/
theorem liveAt0_12 : ∀ t : Fin cfg0.N, cfg0.idle 12 (grid0.coords t) = false := fun _ => rfl
/-- Window 13 is in use here. -/
theorem liveAt0_13 : ∀ t : Fin cfg0.N, cfg0.idle 13 (grid0.coords t) = false := fun _ => rfl

/-- Window 14 is in use here. -/
theorem liveAt0_14 : ∀ t : Fin cfg0.N, cfg0.idle 14 (grid0.coords t) = false := by decide +kernel
/-- Window 15 is in use here. -/
theorem liveAt0_15 : ∀ t : Fin cfg0.N, cfg0.idle 15 (grid0.coords t) = false := by decide +kernel
/-- Window 16 is in use here. -/
theorem liveAt0_16 : ∀ t : Fin cfg0.N, cfg0.idle 16 (grid0.coords t) = false := by decide +kernel
/-- Window 17 is in use here. -/
theorem liveAt0_17 : ∀ t : Fin cfg0.N, cfg0.idle 17 (grid0.coords t) = false := by decide +kernel
/-- Window 18 is in use here. -/
theorem liveAt0_18 : ∀ t : Fin cfg0.N, t.val < 16 → cfg0.idle 18 (grid0.coords t) = false := by decide +kernel
/-- Window 18 is at rest here. -/
theorem idleAt0_18 : ∀ t : Fin cfg0.N, 16 ≤ t.val → cfg0.idle 18 (grid0.coords t) = true := by decide +kernel
/-- The last cast is not written back where it is at rest, but for the last point. -/
theorem noFlush0_18 : ∀ t : Fin cfg0.N, 16 ≤ t.val → t.val ≠ 31 → (cfg0.win 18).flush t = false := by decide +kernel
/-- At the last point it is written back. -/
theorem flush0_18_last : ∀ t : Fin cfg0.N, t.val = 31 → (cfg0.win 18).flush t = true := by decide +kernel

/-- A buffer of window 14. -/
abbrev VO0_14 : View sig .tc .vmem S256x2048 .f32 := (Memref.whole cc0_stg14_0 : Memref sig .tc .vmem S256x2048 .f32).view
/-- A buffer of window 15. -/
abbrev VO0_15 : View sig .tc .vmem S64x5632 .bf16 := (Memref.whole cc0_stg15_0 : Memref sig .tc .vmem S64x5632 .bf16).view
/-- A buffer of window 16. -/
abbrev VO0_16 : View sig .tc .vmem S64x5632 .bf16 := (Memref.whole cc0_stg16_0 : Memref sig .tc .vmem S64x5632 .bf16).view
/-- A buffer of window 17. -/
abbrev VO0_17 : View sig .tc .vmem S64x2048 .bf16 := (Memref.whole cc0_stg17_0 : Memref sig .tc .vmem S64x2048 .bf16).view
/-- A buffer of window 18. -/
abbrev VO0_18 : View sig .tc .vmem S16x2048 .bf16 := (Memref.whole cc0_stg18_0 : Memref sig .tc .vmem S16x2048 .bf16).view
/-- The buffer of window 0 at point `t`. -/
abbrev ms0_0 (t : Fin cfg0.N) : Memref sig .tc .vmem S1x2048 .f32 := win0_0.stage (cfg0.slots t 0)
/-- The buffer of window 0 at point `t` is whole. -/
abbrev hs0_0 (t : Fin cfg0.N) : (ms0_0 t).IsWhole := hstage0_0 ((cfg0.slots t 0).cast nbuf0_0)
/-- The buffer of window 1 at point `t`. -/
abbrev ms0_1 (t : Fin cfg0.N) : Memref sig .tc .vmem S256x2048 .f32 := win0_1.stage (cfg0.slots t 1)
/-- The buffer of window 1 at point `t` is whole. -/
abbrev hs0_1 (t : Fin cfg0.N) : (ms0_1 t).IsWhole := hstage0_1 ((cfg0.slots t 1).cast nbuf0_1)
/-- The buffer of window 2 at point `t`. -/
abbrev ms0_2 (t : Fin cfg0.N) : Memref sig .tc .vmem S256x2048 .f32 := win0_2.stage (cfg0.slots t 2)
/-- The buffer of window 2 at point `t` is whole. -/
abbrev hs0_2 (t : Fin cfg0.N) : (ms0_2 t).IsWhole := hstage0_2 ((cfg0.slots t 2).cast nbuf0_2)
/-- The buffer of window 3 at point `t`. -/
abbrev ms0_3 (t : Fin cfg0.N) : Memref sig .tc .vmem S256x1024 .bf16 := win0_3.stage (cfg0.slots t 3)
/-- The buffer of window 3 at point `t` is whole. -/
abbrev hs0_3 (t : Fin cfg0.N) : (ms0_3 t).IsWhole := hstage0_3 ((cfg0.slots t 3).cast nbuf0_3)
/-- The buffer of window 4 at point `t`. -/
abbrev ms0_4 (t : Fin cfg0.N) : Memref sig .tc .vmem S256x1024 .bf16 := win0_4.stage (cfg0.slots t 4)
/-- The buffer of window 4 at point `t` is whole. -/
abbrev hs0_4 (t : Fin cfg0.N) : (ms0_4 t).IsWhole := hstage0_4 ((cfg0.slots t 4).cast nbuf0_4)
/-- The buffer of window 5 at point `t`. -/
abbrev ms0_5 (t : Fin cfg0.N) : Memref sig .tc .vmem S2048x4096 .bf16 := win0_5.stage (cfg0.slots t 5)
/-- The buffer of window 5 at point `t` is whole. -/
abbrev hs0_5 (t : Fin cfg0.N) : (ms0_5 t).IsWhole := hstage0_5 ((cfg0.slots t 5).cast nbuf0_5)
/-- The buffer of window 6 at point `t`. -/
abbrev ms0_6 (t : Fin cfg0.N) : Memref sig .tc .vmem S1x4096 .f32 := win0_6.stage (cfg0.slots t 6)
/-- The buffer of window 6 at point `t` is whole. -/
abbrev hs0_6 (t : Fin cfg0.N) : (ms0_6 t).IsWhole := hstage0_6 ((cfg0.slots t 6).cast nbuf0_6)
/-- The buffer of window 7 at point `t`. -/
abbrev ms0_7 (t : Fin cfg0.N) : Memref sig .tc .vmem S1024x2048 .bf16 := win0_7.stage (cfg0.slots t 7)
/-- The buffer of window 7 at point `t` is whole. -/
abbrev hs0_7 (t : Fin cfg0.N) : (ms0_7 t).IsWhole := hstage0_7 ((cfg0.slots t 7).cast nbuf0_7)
/-- The buffer of window 8 at point `t`. -/
abbrev ms0_8 (t : Fin cfg0.N) : Memref sig .tc .vmem S1024x2048 .bf16 := win0_8.stage (cfg0.slots t 8)
/-- The buffer of window 8 at point `t` is whole. -/
abbrev hs0_8 (t : Fin cfg0.N) : (ms0_8 t).IsWhole := hstage0_8 ((cfg0.slots t 8).cast nbuf0_8)
/-- The buffer of window 9 at point `t`. -/
abbrev ms0_9 (t : Fin cfg0.N) : Memref sig .tc .vmem S2048x2048 .bf16 := win0_9.stage (cfg0.slots t 9)
/-- The buffer of window 9 at point `t` is whole. -/
abbrev hs0_9 (t : Fin cfg0.N) : (ms0_9 t).IsWhole := hstage0_9 ((cfg0.slots t 9).cast nbuf0_9)
/-- The buffer of window 10 at point `t`. -/
abbrev ms0_10 (t : Fin cfg0.N) : Memref sig .tc .vmem S64x5632 .f32 := win0_10.stage (cfg0.slots t 10)
/-- The buffer of window 10 at point `t` is whole. -/
abbrev hs0_10 (t : Fin cfg0.N) : (ms0_10 t).IsWhole := hstage0_10 ((cfg0.slots t 10).cast nbuf0_10)
/-- The buffer of window 11 at point `t`. -/
abbrev ms0_11 (t : Fin cfg0.N) : Memref sig .tc .vmem S64x5632 .f32 := win0_11.stage (cfg0.slots t 11)
/-- The buffer of window 11 at point `t` is whole. -/
abbrev hs0_11 (t : Fin cfg0.N) : (ms0_11 t).IsWhole := hstage0_11 ((cfg0.slots t 11).cast nbuf0_11)
/-- The buffer of window 12 at point `t`. -/
abbrev ms0_12 (t : Fin cfg0.N) : Memref sig .tc .vmem S64x2048 .f32 := win0_12.stage (cfg0.slots t 12)
/-- The buffer of window 12 at point `t` is whole. -/
abbrev hs0_12 (t : Fin cfg0.N) : (ms0_12 t).IsWhole := hstage0_12 ((cfg0.slots t 12).cast nbuf0_12)
/-- The buffer of window 13 at point `t`. -/
abbrev ms0_13 (t : Fin cfg0.N) : Memref sig .tc .vmem S16x2048 .f32 := win0_13.stage (cfg0.slots t 13)
/-- The buffer of window 13 at point `t` is whole. -/
abbrev hs0_13 (t : Fin cfg0.N) : (ms0_13 t).IsWhole := hstage0_13 ((cfg0.slots t 13).cast nbuf0_13)
/-- The buffer of window 14 at point `t`. -/
abbrev ms0_14 (t : Fin cfg0.N) : Memref sig .tc .vmem S256x2048 .f32 := win0_14.stage (cfg0.slots t 14)
/-- The buffer of window 14 at point `t` is whole. -/
abbrev hs0_14 (t : Fin cfg0.N) : (ms0_14 t).IsWhole := hstage0_14 ((cfg0.slots t 14).cast nbuf0_14)
/-- The buffer of window 15 at point `t`. -/
abbrev ms0_15 (t : Fin cfg0.N) : Memref sig .tc .vmem S64x5632 .bf16 := win0_15.stage (cfg0.slots t 15)
/-- The buffer of window 15 at point `t` is whole. -/
abbrev hs0_15 (t : Fin cfg0.N) : (ms0_15 t).IsWhole := hstage0_15 ((cfg0.slots t 15).cast nbuf0_15)
/-- The buffer of window 16 at point `t`. -/
abbrev ms0_16 (t : Fin cfg0.N) : Memref sig .tc .vmem S64x5632 .bf16 := win0_16.stage (cfg0.slots t 16)
/-- The buffer of window 16 at point `t` is whole. -/
abbrev hs0_16 (t : Fin cfg0.N) : (ms0_16 t).IsWhole := hstage0_16 ((cfg0.slots t 16).cast nbuf0_16)
/-- The buffer of window 17 at point `t`. -/
abbrev ms0_17 (t : Fin cfg0.N) : Memref sig .tc .vmem S64x2048 .bf16 := win0_17.stage (cfg0.slots t 17)
/-- The buffer of window 17 at point `t` is whole. -/
abbrev hs0_17 (t : Fin cfg0.N) : (ms0_17 t).IsWhole := hstage0_17 ((cfg0.slots t 17).cast nbuf0_17)
/-- The buffer of window 18 at point `t`. -/
abbrev ms0_18 (t : Fin cfg0.N) : Memref sig .tc .vmem S16x2048 .bf16 := win0_18.stage (cfg0.slots t 18)
/-- The buffer of window 18 at point `t` is whole. -/
abbrev hs0_18 (t : Fin cfg0.N) : (ms0_18 t).IsWhole := hstage0_18 ((cfg0.slots t 18).cast nbuf0_18)

end Cert.MergeIdeal.Gen

end
-- ==== Proof.MergeIdealRunA.lean ====
module

public import proofs.«01_k».proof.Proof.MergeIdealPoints

/-! One point of the call `merge`: a row tile of the first part, with every cast at work. -/

@[expose] public section

set_option maxRecDepth 16384

noncomputable section

namespace Cert.MergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point that is a row tile of the first part, with every cast at work: it runs to its end from the buffers at any contents, and the lists are what it stores into each. -/
noncomputable def kernelRun0_A (c : Dev nD) (i : grid0.Coords) (arg1 : Memref sig .tc .vmem S1x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S2048x4096 .bf16) (harg6 : arg6.IsWhole) (arg7 : Memref sig .tc .vmem S1x4096 .f32) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2048x2048 .bf16) (harg10 : arg10.IsWhole) (arg11 : Memref sig .tc .vmem S64x5632 .f32) (harg11 : arg11.IsWhole) (arg12 : Memref sig .tc .vmem S64x5632 .f32) (harg12 : arg12.IsWhole) (arg13 : Memref sig .tc .vmem S64x2048 .f32) (harg13 : arg13.IsWhole) (arg14 : Memref sig .tc .vmem S16x2048 .f32) (harg14 : arg14.IsWhole) (arg15 : Memref sig .tc .vmem S256x2048 .f32) (harg15 : arg15.IsWhole) (arg16 : Memref sig .tc .vmem S64x5632 .bf16) (harg16 : arg16.IsWhole) (arg17 : Memref sig .tc .vmem S64x5632 .bf16) (harg17 : arg17.IsWhole) (arg18 : Memref sig .tc .vmem S64x2048 .bf16) (harg18 : arg18.IsWhole) (arg19 : Memref sig .tc .vmem S16x2048 .bf16) (harg19 : arg19.IsWhole) (hc0 : cond0_0 i) (hc1 : cond0_1 i) (hc2 : cond0_2 i) (hc3 : cond0_3 i) (hc4 : cond0_4 i) (hc5 : ¬cond0_5 i)
    (x0 : Vec F S1x2048 .f32) (x1 : Vec F S256x2048 .f32) (x2 : Vec F S256x2048 .f32) (x3 : Vec F S256x1024 .bf16) (x4 : Vec F S256x1024 .bf16) (x5 : Vec F S2048x4096 .bf16) (x6 : Vec F S1x4096 .f32) (x7 : Vec F S1024x2048 .bf16) (x8 : Vec F S1024x2048 .bf16) (x9 : Vec F S2048x2048 .bf16) (x10 : Vec F S64x5632 .f32) (x11 : Vec F S64x5632 .f32) (x12 : Vec F S64x2048 .f32) (x13 : Vec F S16x2048 .f32) :
    Σ' (L14 : List (View.Piece (Elt F) S256x2048 .f32)), Σ' (L15 : List (View.Piece (Elt F) S64x5632 .bf16)), Σ' (L16 : List (View.Piece (Elt F) S64x5632 .bf16)), Σ' (L17 : List (View.Piece (Elt F) S64x2048 .bf16)), { L18 : List (View.Piece (Elt F) S16x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18)) -∗ K ⟨⟩))
          ⊢ wp frame (wpE (defs₀ (F := F)) Variants.none c none) E (cc0_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, fun E K => ?run⟩
  case run =>
    simp only [cc0_merge_eq_skeleton]; unfold cc0_merge_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexists _; iexact H16
    isplitl [H17]; · iexists _; iexact H17
    iexists _; iexact H18

end Cert.MergeIdeal.Gen

end
-- ==== Proof.MergeIdealRunB.lean ====
module

public import proofs.«01_k».proof.Proof.MergeIdealRunA

/-! One point of the call `merge`: a row tile of the second part, with every cast at work. -/

@[expose] public section

set_option maxRecDepth 16384

noncomputable section

namespace Cert.MergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point that is a row tile of the second part, with every cast at work: it runs to its end from the buffers at any contents, and the lists are what it stores into each. -/
noncomputable def kernelRun0_B (c : Dev nD) (i : grid0.Coords) (arg1 : Memref sig .tc .vmem S1x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S2048x4096 .bf16) (harg6 : arg6.IsWhole) (arg7 : Memref sig .tc .vmem S1x4096 .f32) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2048x2048 .bf16) (harg10 : arg10.IsWhole) (arg11 : Memref sig .tc .vmem S64x5632 .f32) (harg11 : arg11.IsWhole) (arg12 : Memref sig .tc .vmem S64x5632 .f32) (harg12 : arg12.IsWhole) (arg13 : Memref sig .tc .vmem S64x2048 .f32) (harg13 : arg13.IsWhole) (arg14 : Memref sig .tc .vmem S16x2048 .f32) (harg14 : arg14.IsWhole) (arg15 : Memref sig .tc .vmem S256x2048 .f32) (harg15 : arg15.IsWhole) (arg16 : Memref sig .tc .vmem S64x5632 .bf16) (harg16 : arg16.IsWhole) (arg17 : Memref sig .tc .vmem S64x5632 .bf16) (harg17 : arg17.IsWhole) (arg18 : Memref sig .tc .vmem S64x2048 .bf16) (harg18 : arg18.IsWhole) (arg19 : Memref sig .tc .vmem S16x2048 .bf16) (harg19 : arg19.IsWhole) (hc0 : cond0_0 i) (hc1 : cond0_1 i) (hc2 : cond0_2 i) (hc3 : cond0_3 i) (hc4 : ¬cond0_4 i) (hc5 : cond0_5 i)
    (x0 : Vec F S1x2048 .f32) (x1 : Vec F S256x2048 .f32) (x2 : Vec F S256x2048 .f32) (x3 : Vec F S256x1024 .bf16) (x4 : Vec F S256x1024 .bf16) (x5 : Vec F S2048x4096 .bf16) (x6 : Vec F S1x4096 .f32) (x7 : Vec F S1024x2048 .bf16) (x8 : Vec F S1024x2048 .bf16) (x9 : Vec F S2048x2048 .bf16) (x10 : Vec F S64x5632 .f32) (x11 : Vec F S64x5632 .f32) (x12 : Vec F S64x2048 .f32) (x13 : Vec F S16x2048 .f32) :
    Σ' (L14 : List (View.Piece (Elt F) S256x2048 .f32)), Σ' (L15 : List (View.Piece (Elt F) S64x5632 .bf16)), Σ' (L16 : List (View.Piece (Elt F) S64x5632 .bf16)), Σ' (L17 : List (View.Piece (Elt F) S64x2048 .bf16)), { L18 : List (View.Piece (Elt F) S16x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18)) -∗ K ⟨⟩))
          ⊢ wp frame (wpE (defs₀ (F := F)) Variants.none c none) E (cc0_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, fun E K => ?run⟩
  case run =>
    simp only [cc0_merge_eq_skeleton]; unfold cc0_merge_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexists _; iexact H16
    isplitl [H17]; · iexists _; iexact H17
    iexists _; iexact H18

end Cert.MergeIdeal.Gen

end
-- ==== Proof.MergeIdealRunC.lean ====
module

public import proofs.«01_k».proof.Proof.MergeIdealRunB

/-! One point of the call `merge`: a row tile of the second part, with the last cast at rest. -/

@[expose] public section

set_option maxRecDepth 16384

noncomputable section

namespace Cert.MergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point that is a row tile of the second part, with the last cast at rest: it runs to its end from the buffers at any contents, and the lists are what it stores into each. -/
noncomputable def kernelRun0_C (c : Dev nD) (i : grid0.Coords) (arg1 : Memref sig .tc .vmem S1x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S2048x4096 .bf16) (harg6 : arg6.IsWhole) (arg7 : Memref sig .tc .vmem S1x4096 .f32) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2048x2048 .bf16) (harg10 : arg10.IsWhole) (arg11 : Memref sig .tc .vmem S64x5632 .f32) (harg11 : arg11.IsWhole) (arg12 : Memref sig .tc .vmem S64x5632 .f32) (harg12 : arg12.IsWhole) (arg13 : Memref sig .tc .vmem S64x2048 .f32) (harg13 : arg13.IsWhole) (arg14 : Memref sig .tc .vmem S16x2048 .f32) (harg14 : arg14.IsWhole) (arg15 : Memref sig .tc .vmem S256x2048 .f32) (harg15 : arg15.IsWhole) (arg16 : Memref sig .tc .vmem S64x5632 .bf16) (harg16 : arg16.IsWhole) (arg17 : Memref sig .tc .vmem S64x5632 .bf16) (harg17 : arg17.IsWhole) (arg18 : Memref sig .tc .vmem S64x2048 .bf16) (harg18 : arg18.IsWhole) (arg19 : Memref sig .tc .vmem S16x2048 .bf16) (harg19 : arg19.IsWhole) (hc0 : cond0_0 i) (hc1 : cond0_1 i) (hc2 : cond0_2 i) (hc3 : ¬cond0_3 i) (hc4 : ¬cond0_4 i) (hc5 : cond0_5 i)
    (x0 : Vec F S1x2048 .f32) (x1 : Vec F S256x2048 .f32) (x2 : Vec F S256x2048 .f32) (x3 : Vec F S256x1024 .bf16) (x4 : Vec F S256x1024 .bf16) (x5 : Vec F S2048x4096 .bf16) (x6 : Vec F S1x4096 .f32) (x7 : Vec F S1024x2048 .bf16) (x8 : Vec F S1024x2048 .bf16) (x9 : Vec F S2048x2048 .bf16) (x10 : Vec F S64x5632 .f32) (x11 : Vec F S64x5632 .f32) (x12 : Vec F S64x2048 .f32) (x13 : Vec F S16x2048 .f32) :
    Σ' (L14 : List (View.Piece (Elt F) S256x2048 .f32)), Σ' (L15 : List (View.Piece (Elt F) S64x5632 .bf16)), Σ' (L16 : List (View.Piece (Elt F) S64x5632 .bf16)), Σ' (L17 : List (View.Piece (Elt F) S64x2048 .bf16)), { L18 : List (View.Piece (Elt F) S16x2048 .bf16) //
      ∀ (xi18 : Vec F S16x2048 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xi18
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ owns (c : Thread nD τ) arg19 fullShare xi18) -∗ K ⟨⟩))
          ⊢ wp frame (wpE (defs₀ (F := F)) Variants.none c none) E (cc0_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, [], fun xi18 E K => ?run⟩
  case run =>
    simp only [cc0_merge_eq_skeleton]; unfold cc0_merge_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%f18, %hf18, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg19.eq_unread hf18
    sl_exec (disch := first | sl_exact hc0 | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexists _; iexact H16
    isplitl [H17]; · iexists _; iexact H17
    iexists _; isplitr; · ipureintro; exact harg19.read_unread _
    iexact H18

end Cert.MergeIdeal.Gen

end
-- ==== Proof.MergeIdealFrame.lean ====
module

public import proofs.«01_k».proof.Proof.MergeIdealRunC
public import Idealize.ShloMosaic.Lib.Claim

/-! The call `merge` runs to its end and leaves its arguments as they were. -/

@[expose] public section

set_option maxRecDepth 16384

noncomputable section

namespace Cert.MergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves -/

/-- The body at a row tile of the first part, on the buffers and the blocks of point `t`. -/
abbrev run0_A (c : Dev nD) (t : Fin cfg0.N) (h4 : t.val < 4) :=
  kernelRun0_A (F := F) c (grid0.coords t)
    (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t)
    (hcond0_0 t) (hcond0_1 t) (hcond0_2 t) ((hcond0_3 t).mpr (by omega)) ((hcond0_4 t).mpr h4) (fun h => absurd ((hcond0_5 t).mp h) (by omega))
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)

/-- At a row tile of the first part, the stores into the buffer of window 14 reach every element. -/
theorem cover0_A_14 (c : Dev nD) (t : Fin cfg0.N) (h4 : t.val < 4) (y : S256x2048.Idx) :
    ∃ pc ∈ (run0_A m c t h4).1, y ∈ pc.1.set :=
  View.cover_of_tiledL (run0_A m c t h4).1 S256x2048.size (by sl_kernel_rfl) y

/-- What a row tile of the first part leaves in the buffer of window 14. -/
def out0_A_14 (c : Dev nD) (t : Fin cfg0.N) (h4 : t.val < 4) : Vec F S256x2048 .f32 :=
  VO0_14.read (Elt F) (VO0_14.writes (Elt F) VO0_14.junk (run0_A m c t h4).1)

/-- At a row tile of the first part, the stores into the buffer of window 15 reach every element. -/
theorem cover0_A_15 (c : Dev nD) (t : Fin cfg0.N) (h4 : t.val < 4) (y : S64x5632.Idx) :
    ∃ pc ∈ (run0_A m c t h4).2.1, y ∈ pc.1.set :=
  View.cover_of_tiledL (run0_A m c t h4).2.1 S64x5632.size (by sl_kernel_rfl) y

/-- What a row tile of the first part leaves in the buffer of window 15. -/
def out0_A_15 (c : Dev nD) (t : Fin cfg0.N) (h4 : t.val < 4) : Vec F S64x5632 .bf16 :=
  VO0_15.read (Elt F) (VO0_15.writes (Elt F) VO0_15.junk (run0_A m c t h4).2.1)

/-- At a row tile of the first part, the stores into the buffer of window 16 reach every element. -/
theorem cover0_A_16 (c : Dev nD) (t : Fin cfg0.N) (h4 : t.val < 4) (y : S64x5632.Idx) :
    ∃ pc ∈ (run0_A m c t h4).2.2.1, y ∈ pc.1.set :=
  View.cover_of_tiledL (run0_A m c t h4).2.2.1 S64x5632.size (by sl_kernel_rfl) y

/-- What a row tile of the first part leaves in the buffer of window 16. -/
def out0_A_16 (c : Dev nD) (t : Fin cfg0.N) (h4 : t.val < 4) : Vec F S64x5632 .bf16 :=
  VO0_16.read (Elt F) (VO0_16.writes (Elt F) VO0_16.junk (run0_A m c t h4).2.2.1)

/-- At a row tile of the first part, the stores into the buffer of window 17 reach every element. -/
theorem cover0_A_17 (c : Dev nD) (t : Fin cfg0.N) (h4 : t.val < 4) (y : S64x2048.Idx) :
    ∃ pc ∈ (run0_A m c t h4).2.2.2.1, y ∈ pc.1.set :=
  View.cover_of_tiledL (run0_A m c t h4).2.2.2.1 S64x2048.size (by sl_kernel_rfl) y

/-- What a row tile of the first part leaves in the buffer of window 17. -/
def out0_A_17 (c : Dev nD) (t : Fin cfg0.N) (h4 : t.val < 4) : Vec F S64x2048 .bf16 :=
  VO0_17.read (Elt F) (VO0_17.writes (Elt F) VO0_17.junk (run0_A m c t h4).2.2.2.1)

/-- At a row tile of the first part, the stores into the buffer of window 18 reach every element. -/
theorem cover0_A_18 (c : Dev nD) (t : Fin cfg0.N) (h4 : t.val < 4) (y : S16x2048.Idx) :
    ∃ pc ∈ (run0_A m c t h4).2.2.2.2.1, y ∈ pc.1.set :=
  View.cover_of_tiledL (run0_A m c t h4).2.2.2.2.1 S16x2048.size (by sl_kernel_rfl) y

/-- What a row tile of the first part leaves in the buffer of window 18. -/
def out0_A_18 (c : Dev nD) (t : Fin cfg0.N) (h4 : t.val < 4) : Vec F S16x2048 .bf16 :=
  VO0_18.read (Elt F) (VO0_18.writes (Elt F) VO0_18.junk (run0_A m c t h4).2.2.2.2.1)

/-- The body at a row tile of the second part, with every cast at work, on the buffers and the blocks of point `t`. -/
abbrev run0_B (c : Dev nD) (t : Fin cfg0.N) (h3 : t.val < 16) (h4 : 4 ≤ t.val) :=
  kernelRun0_B (F := F) c (grid0.coords t)
    (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t)
    (hcond0_0 t) (hcond0_1 t) (hcond0_2 t) ((hcond0_3 t).mpr h3) (fun h => absurd ((hcond0_4 t).mp h) (by omega)) ((hcond0_5 t).mpr h4)
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)

/-- At a row tile of the second part, with every cast at work, the stores into the buffer of window 14 reach every element. -/
theorem cover0_B_14 (c : Dev nD) (t : Fin cfg0.N) (h3 : t.val < 16) (h4 : 4 ≤ t.val) (y : S256x2048.Idx) :
    ∃ pc ∈ (run0_B m c t h3 h4).1, y ∈ pc.1.set :=
  View.cover_of_tiledL (run0_B m c t h3 h4).1 S256x2048.size (by sl_kernel_rfl) y

/-- What a row tile of the second part, with every cast at work leaves in the buffer of window 14. -/
def out0_B_14 (c : Dev nD) (t : Fin cfg0.N) (h3 : t.val < 16) (h4 : 4 ≤ t.val) : Vec F S256x2048 .f32 :=
  VO0_14.read (Elt F) (VO0_14.writes (Elt F) VO0_14.junk (run0_B m c t h3 h4).1)

/-- At a row tile of the second part, with every cast at work, the stores into the buffer of window 15 reach every element. -/
theorem cover0_B_15 (c : Dev nD) (t : Fin cfg0.N) (h3 : t.val < 16) (h4 : 4 ≤ t.val) (y : S64x5632.Idx) :
    ∃ pc ∈ (run0_B m c t h3 h4).2.1, y ∈ pc.1.set :=
  View.cover_of_tiledL (run0_B m c t h3 h4).2.1 S64x5632.size (by sl_kernel_rfl) y

/-- What a row tile of the second part, with every cast at work leaves in the buffer of window 15. -/
def out0_B_15 (c : Dev nD) (t : Fin cfg0.N) (h3 : t.val < 16) (h4 : 4 ≤ t.val) : Vec F S64x5632 .bf16 :=
  VO0_15.read (Elt F) (VO0_15.writes (Elt F) VO0_15.junk (run0_B m c t h3 h4).2.1)

/-- At a row tile of the second part, with every cast at work, the stores into the buffer of window 16 reach every element. -/
theorem cover0_B_16 (c : Dev nD) (t : Fin cfg0.N) (h3 : t.val < 16) (h4 : 4 ≤ t.val) (y : S64x5632.Idx) :
    ∃ pc ∈ (run0_B m c t h3 h4).2.2.1, y ∈ pc.1.set :=
  View.cover_of_tiledL (run0_B m c t h3 h4).2.2.1 S64x5632.size (by sl_kernel_rfl) y

/-- What a row tile of the second part, with every cast at work leaves in the buffer of window 16. -/
def out0_B_16 (c : Dev nD) (t : Fin cfg0.N) (h3 : t.val < 16) (h4 : 4 ≤ t.val) : Vec F S64x5632 .bf16 :=
  VO0_16.read (Elt F) (VO0_16.writes (Elt F) VO0_16.junk (run0_B m c t h3 h4).2.2.1)

/-- At a row tile of the second part, with every cast at work, the stores into the buffer of window 17 reach every element. -/
theorem cover0_B_17 (c : Dev nD) (t : Fin cfg0.N) (h3 : t.val < 16) (h4 : 4 ≤ t.val) (y : S64x2048.Idx) :
    ∃ pc ∈ (run0_B m c t h3 h4).2.2.2.1, y ∈ pc.1.set :=
  View.cover_of_tiledL (run0_B m c t h3 h4).2.2.2.1 S64x2048.size (by sl_kernel_rfl) y

/-- What a row tile of the second part, with every cast at work leaves in the buffer of window 17. -/
def out0_B_17 (c : Dev nD) (t : Fin cfg0.N) (h3 : t.val < 16) (h4 : 4 ≤ t.val) : Vec F S64x2048 .bf16 :=
  VO0_17.read (Elt F) (VO0_17.writes (Elt F) VO0_17.junk (run0_B m c t h3 h4).2.2.2.1)

/-- At a row tile of the second part, with every cast at work, the stores into the buffer of window 18 reach every element. -/
theorem cover0_B_18 (c : Dev nD) (t : Fin cfg0.N) (h3 : t.val < 16) (h4 : 4 ≤ t.val) (y : S16x2048.Idx) :
    ∃ pc ∈ (run0_B m c t h3 h4).2.2.2.2.1, y ∈ pc.1.set :=
  View.cover_of_tiledL (run0_B m c t h3 h4).2.2.2.2.1 S16x2048.size (by sl_kernel_rfl) y

/-- What a row tile of the second part, with every cast at work leaves in the buffer of window 18. -/
def out0_B_18 (c : Dev nD) (t : Fin cfg0.N) (h3 : t.val < 16) (h4 : 4 ≤ t.val) : Vec F S16x2048 .bf16 :=
  VO0_18.read (Elt F) (VO0_18.writes (Elt F) VO0_18.junk (run0_B m c t h3 h4).2.2.2.2.1)

/-- The body at a row tile of the second part, with the last cast at rest, on the buffers and the blocks of point `t`. -/
abbrev run0_C (c : Dev nD) (t : Fin cfg0.N) (h3 : 16 ≤ t.val) :=
  kernelRun0_C (F := F) c (grid0.coords t)
    (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t)
    (hcond0_0 t) (hcond0_1 t) (hcond0_2 t) (fun h => absurd ((hcond0_3 t).mp h) (by omega)) (fun h => absurd ((hcond0_4 t).mp h) (by omega)) ((hcond0_5 t).mpr (by omega))
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)

/-- At a row tile of the second part, with the last cast at rest, the stores into the buffer of window 14 reach every element. -/
theorem cover0_C_14 (c : Dev nD) (t : Fin cfg0.N) (h3 : 16 ≤ t.val) (y : S256x2048.Idx) :
    ∃ pc ∈ (run0_C m c t h3).1, y ∈ pc.1.set :=
  View.cover_of_tiledL (run0_C m c t h3).1 S256x2048.size (by sl_kernel_rfl) y

/-- What a row tile of the second part, with the last cast at rest leaves in the buffer of window 14. -/
def out0_C_14 (c : Dev nD) (t : Fin cfg0.N) (h3 : 16 ≤ t.val) : Vec F S256x2048 .f32 :=
  VO0_14.read (Elt F) (VO0_14.writes (Elt F) VO0_14.junk (run0_C m c t h3).1)

/-- At a row tile of the second part, with the last cast at rest, the stores into the buffer of window 15 reach every element. -/
theorem cover0_C_15 (c : Dev nD) (t : Fin cfg0.N) (h3 : 16 ≤ t.val) (y : S64x5632.Idx) :
    ∃ pc ∈ (run0_C m c t h3).2.1, y ∈ pc.1.set :=
  View.cover_of_tiledL (run0_C m c t h3).2.1 S64x5632.size (by sl_kernel_rfl) y

/-- What a row tile of the second part, with the last cast at rest leaves in the buffer of window 15. -/
def out0_C_15 (c : Dev nD) (t : Fin cfg0.N) (h3 : 16 ≤ t.val) : Vec F S64x5632 .bf16 :=
  VO0_15.read (Elt F) (VO0_15.writes (Elt F) VO0_15.junk (run0_C m c t h3).2.1)

/-- At a row tile of the second part, with the last cast at rest, the stores into the buffer of window 16 reach every element. -/
theorem cover0_C_16 (c : Dev nD) (t : Fin cfg0.N) (h3 : 16 ≤ t.val) (y : S64x5632.Idx) :
    ∃ pc ∈ (run0_C m c t h3).2.2.1, y ∈ pc.1.set :=
  View.cover_of_tiledL (run0_C m c t h3).2.2.1 S64x5632.size (by sl_kernel_rfl) y

/-- What a row tile of the second part, with the last cast at rest leaves in the buffer of window 16. -/
def out0_C_16 (c : Dev nD) (t : Fin cfg0.N) (h3 : 16 ≤ t.val) : Vec F S64x5632 .bf16 :=
  VO0_16.read (Elt F) (VO0_16.writes (Elt F) VO0_16.junk (run0_C m c t h3).2.2.1)

/-- At a row tile of the second part, with the last cast at rest, the stores into the buffer of window 17 reach every element. -/
theorem cover0_C_17 (c : Dev nD) (t : Fin cfg0.N) (h3 : 16 ≤ t.val) (y : S64x2048.Idx) :
    ∃ pc ∈ (run0_C m c t h3).2.2.2.1, y ∈ pc.1.set :=
  View.cover_of_tiledL (run0_C m c t h3).2.2.2.1 S64x2048.size (by sl_kernel_rfl) y

/-- What a row tile of the second part, with the last cast at rest leaves in the buffer of window 17. -/
def out0_C_17 (c : Dev nD) (t : Fin cfg0.N) (h3 : 16 ≤ t.val) : Vec F S64x2048 .bf16 :=
  VO0_17.read (Elt F) (VO0_17.writes (Elt F) VO0_17.junk (run0_C m c t h3).2.2.2.1)

/-- What the five result buffers hold after point `n`: where the last cast is at rest its block is the one of the
    point before. -/
def outsAt0 (c : Dev nD) : (n : ℕ) → n < cfg0.N →
    Vec F S256x2048 .f32 × Vec F S64x5632 .bf16 × Vec F S64x5632 .bf16 × Vec F S64x2048 .bf16 × Vec F S16x2048 .bf16
  | 0, hn => (out0_A_14 m c ⟨0, hn⟩ (Nat.zero_lt_succ 3), out0_A_15 m c ⟨0, hn⟩ (Nat.zero_lt_succ 3), out0_A_16 m c ⟨0, hn⟩ (Nat.zero_lt_succ 3), out0_A_17 m c ⟨0, hn⟩ (Nat.zero_lt_succ 3), out0_A_18 m c ⟨0, hn⟩ (Nat.zero_lt_succ 3))
  | n + 1, hn =>
    if h4 : n + 1 < 4 then
      (out0_A_14 m c ⟨n + 1, hn⟩ h4, out0_A_15 m c ⟨n + 1, hn⟩ h4, out0_A_16 m c ⟨n + 1, hn⟩ h4, out0_A_17 m c ⟨n + 1, hn⟩ h4, out0_A_18 m c ⟨n + 1, hn⟩ h4)
    else if h3 : n + 1 < 16 then
      (out0_B_14 m c ⟨n + 1, hn⟩ h3 (Nat.le_of_not_lt h4), out0_B_15 m c ⟨n + 1, hn⟩ h3 (Nat.le_of_not_lt h4), out0_B_16 m c ⟨n + 1, hn⟩ h3 (Nat.le_of_not_lt h4), out0_B_17 m c ⟨n + 1, hn⟩ h3 (Nat.le_of_not_lt h4), out0_B_18 m c ⟨n + 1, hn⟩ h3 (Nat.le_of_not_lt h4))
    else
      (out0_C_14 m c ⟨n + 1, hn⟩ (Nat.le_of_not_lt h3), out0_C_15 m c ⟨n + 1, hn⟩ (Nat.le_of_not_lt h3), out0_C_16 m c ⟨n + 1, hn⟩ (Nat.le_of_not_lt h3), out0_C_17 m c ⟨n + 1, hn⟩ (Nat.le_of_not_lt h3),
        (outsAt0 c n (Nat.lt_of_succ_lt hn)).2.2.2.2)

/-- The contents after a row tile of the first part. -/
theorem outsAt0_A (c : Dev nD) (t : Fin cfg0.N) (h4 : t.val < 4) :
    outsAt0 m c t.val t.isLt = (out0_A_14 m c t h4, out0_A_15 m c t h4, out0_A_16 m c t h4, out0_A_17 m c t h4, out0_A_18 m c t h4) := by
  obtain ⟨n, hn⟩ := t
  cases n with
  | zero => rfl
  | succ n =>
    dsimp only at h4 ⊢
    rw [outsAt0, dif_pos h4]

/-- The contents after a row tile of the second part, with every cast at work. -/
theorem outsAt0_B (c : Dev nD) (t : Fin cfg0.N) (h3 : t.val < 16) (h4 : 4 ≤ t.val) :
    outsAt0 m c t.val t.isLt = (out0_B_14 m c t h3 h4, out0_B_15 m c t h3 h4, out0_B_16 m c t h3 h4, out0_B_17 m c t h3 h4, out0_B_18 m c t h3 h4) := by
  obtain ⟨n, hn⟩ := t
  cases n with
  | zero => exact absurd (show 4 ≤ 0 from h4) (by decide)
  | succ n =>
    dsimp only at h3 h4 ⊢
    rw [outsAt0, dif_neg (Nat.not_lt.mpr h4), dif_pos h3]

/-- The contents after a row tile of the second part, with the last cast at rest. -/
theorem outsAt0_C (c : Dev nD) (t : Fin cfg0.N) (h3 : 16 ≤ t.val) :
    outsAt0 m c t.val t.isLt = (out0_C_14 m c t h3, out0_C_15 m c t h3, out0_C_16 m c t h3, out0_C_17 m c t h3,
        (outsAt0 m c (t.val - 1) (Nat.lt_of_le_of_lt (Nat.sub_le _ _) t.isLt)).2.2.2.2) := by
  obtain ⟨n, hn⟩ := t
  cases n with
  | zero => exact absurd (show 16 ≤ 0 from h3) (by decide)
  | succ n =>
    dsimp only at h3 ⊢
    rw [outsAt0, dif_neg (by omega), dif_neg (Nat.not_lt.mpr h3)]
    rfl

/-- The contents of every window before and after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t.val t.isLt).1
    | ⟨15, _⟩ => (outsAt0 m c t.val t.isLt).2.1
    | ⟨16, _⟩ => (outsAt0 m c t.val t.isLt).2.2.1
    | ⟨17, _⟩ => (outsAt0 m c t.val t.isLt).2.2.2.1
    | ⟨18, _⟩ => (outsAt0 m c t.val t.isLt).2.2.2.2
    | ⟨_ + 19, h⟩ => absurd h (Nat.not_lt.2 (Nat.le_add_left _ _))
  Φ _ := Pipeline.ΦA spec0 c
  q _ := fullShare
  owed _ := 0

/-- The arrays are those the region finds. -/
theorem A_eq (c : Dev nD) (w : Fin cfg0.W) : (dats m 0 c).A w = V m c (Pipeline.arrRef spec0 w) := by
  dsimp only [dats]

/-- What the buffer of window 0 holds after point `t`. -/
theorem after0_0 (c : Dev nD) (t : Fin cfg0.N) : (dats m 0 c).after 0 t = iblk m c 0 t := by dsimp only [dats]
/-- What the buffer of window 1 holds after point `t`. -/
theorem after0_1 (c : Dev nD) (t : Fin cfg0.N) : (dats m 0 c).after 1 t = iblk m c 1 t := by dsimp only [dats]
/-- What the buffer of window 2 holds after point `t`. -/
theorem after0_2 (c : Dev nD) (t : Fin cfg0.N) : (dats m 0 c).after 2 t = iblk m c 2 t := by dsimp only [dats]
/-- What the buffer of window 3 holds after point `t`. -/
theorem after0_3 (c : Dev nD) (t : Fin cfg0.N) : (dats m 0 c).after 3 t = iblk m c 3 t := by dsimp only [dats]
/-- What the buffer of window 4 holds after point `t`. -/
theorem after0_4 (c : Dev nD) (t : Fin cfg0.N) : (dats m 0 c).after 4 t = iblk m c 4 t := by dsimp only [dats]
/-- What the buffer of window 5 holds after point `t`. -/
theorem after0_5 (c : Dev nD) (t : Fin cfg0.N) : (dats m 0 c).after 5 t = iblk m c 5 t := by dsimp only [dats]
/-- What the buffer of window 6 holds after point `t`. -/
theorem after0_6 (c : Dev nD) (t : Fin cfg0.N) : (dats m 0 c).after 6 t = iblk m c 6 t := by dsimp only [dats]
/-- What the buffer of window 7 holds after point `t`. -/
theorem after0_7 (c : Dev nD) (t : Fin cfg0.N) : (dats m 0 c).after 7 t = iblk m c 7 t := by dsimp only [dats]
/-- What the buffer of window 8 holds after point `t`. -/
theorem after0_8 (c : Dev nD) (t : Fin cfg0.N) : (dats m 0 c).after 8 t = iblk m c 8 t := by dsimp only [dats]
/-- What the buffer of window 9 holds after point `t`. -/
theorem after0_9 (c : Dev nD) (t : Fin cfg0.N) : (dats m 0 c).after 9 t = iblk m c 9 t := by dsimp only [dats]
/-- What the buffer of window 10 holds after point `t`. -/
theorem after0_10 (c : Dev nD) (t : Fin cfg0.N) : (dats m 0 c).after 10 t = iblk m c 10 t := by dsimp only [dats]
/-- What the buffer of window 11 holds after point `t`. -/
theorem after0_11 (c : Dev nD) (t : Fin cfg0.N) : (dats m 0 c).after 11 t = iblk m c 11 t := by dsimp only [dats]
/-- What the buffer of window 12 holds after point `t`. -/
theorem after0_12 (c : Dev nD) (t : Fin cfg0.N) : (dats m 0 c).after 12 t = iblk m c 12 t := by dsimp only [dats]
/-- What the buffer of window 13 holds after point `t`. -/
theorem after0_13 (c : Dev nD) (t : Fin cfg0.N) : (dats m 0 c).after 13 t = iblk m c 13 t := by dsimp only [dats]
/-- What the buffer of window 14 holds after point `t`. -/
theorem after0_14 (c : Dev nD) (t : Fin cfg0.N) : (dats m 0 c).after 14 t = (outsAt0 m c t.val t.isLt).1 := by dsimp only [dats]
/-- What the buffer of window 15 holds after point `t`. -/
theorem after0_15 (c : Dev nD) (t : Fin cfg0.N) : (dats m 0 c).after 15 t = (outsAt0 m c t.val t.isLt).2.1 := by dsimp only [dats]
/-- What the buffer of window 16 holds after point `t`. -/
theorem after0_16 (c : Dev nD) (t : Fin cfg0.N) : (dats m 0 c).after 16 t = (outsAt0 m c t.val t.isLt).2.2.1 := by dsimp only [dats]
/-- What the buffer of window 17 holds after point `t`. -/
theorem after0_17 (c : Dev nD) (t : Fin cfg0.N) : (dats m 0 c).after 17 t = (outsAt0 m c t.val t.isLt).2.2.2.1 := by dsimp only [dats]
/-- What the buffer of window 18 holds after point `t`. -/
theorem after0_18 (c : Dev nD) (t : Fin cfg0.N) : (dats m 0 c).after 18 t = (outsAt0 m c t.val t.isLt).2.2.2.2 := by dsimp only [dats]

/-- What the buffer of window 0 holds before point `t`. -/
theorem before0_0 (c : Dev nD) (t : Fin cfg0.N) (d) : (dats m 0 c).before 0 t d = iblk m c 0 t :=
  before0_0_of m (dats m 0 c) (A_eq m c 0) (after0_0 m c) t d
/-- What the buffer of window 1 holds before point `t`. -/
theorem before0_1 (c : Dev nD) (t : Fin cfg0.N) (d) : (dats m 0 c).before 1 t d = iblk m c 1 t :=
  before0_1_of m (dats m 0 c) (A_eq m c 1) (after0_1 m c) t d
/-- What the buffer of window 2 holds before point `t`. -/
theorem before0_2 (c : Dev nD) (t : Fin cfg0.N) (d) : (dats m 0 c).before 2 t d = iblk m c 2 t :=
  before0_2_of m (dats m 0 c) (A_eq m c 2) (after0_2 m c) t d
/-- What the buffer of window 3 holds before point `t`. -/
theorem before0_3 (c : Dev nD) (t : Fin cfg0.N) (d) : (dats m 0 c).before 3 t d = iblk m c 3 t :=
  before0_3_of m (dats m 0 c) (A_eq m c 3) (after0_3 m c) t d
/-- What the buffer of window 4 holds before point `t`. -/
theorem before0_4 (c : Dev nD) (t : Fin cfg0.N) (d) : (dats m 0 c).before 4 t d = iblk m c 4 t :=
  before0_4_of m (dats m 0 c) (A_eq m c 4) (after0_4 m c) t d
/-- What the buffer of window 5 holds before point `t`. -/
theorem before0_5 (c : Dev nD) (t : Fin cfg0.N) (d) : (dats m 0 c).before 5 t d = iblk m c 5 t :=
  before0_5_of m (dats m 0 c) (A_eq m c 5) (after0_5 m c) t d
/-- What the buffer of window 6 holds before point `t`. -/
theorem before0_6 (c : Dev nD) (t : Fin cfg0.N) (d) : (dats m 0 c).before 6 t d = iblk m c 6 t :=
  before0_6_of m (dats m 0 c) (A_eq m c 6) (after0_6 m c) t d
/-- What the buffer of window 7 holds before point `t`. -/
theorem before0_7 (c : Dev nD) (t : Fin cfg0.N) (d) : (dats m 0 c).before 7 t d = iblk m c 7 t :=
  before0_7_of m (dats m 0 c) (A_eq m c 7) (after0_7 m c) t d
/-- What the buffer of window 8 holds before point `t`. -/
theorem before0_8 (c : Dev nD) (t : Fin cfg0.N) (d) : (dats m 0 c).before 8 t d = iblk m c 8 t :=
  before0_8_of m (dats m 0 c) (A_eq m c 8) (after0_8 m c) t d
/-- What the buffer of window 9 holds before point `t`. -/
theorem before0_9 (c : Dev nD) (t : Fin cfg0.N) (d) : (dats m 0 c).before 9 t d = iblk m c 9 t :=
  before0_9_of m (dats m 0 c) (A_eq m c 9) (after0_9 m c) t d
/-- What the buffer of window 10 holds before point `t`. -/
theorem before0_10 (c : Dev nD) (t : Fin cfg0.N) (d) : (dats m 0 c).before 10 t d = iblk m c 10 t :=
  before0_10_of m (dats m 0 c) (A_eq m c 10) (after0_10 m c) t d
/-- What the buffer of window 11 holds before point `t`. -/
theorem before0_11 (c : Dev nD) (t : Fin cfg0.N) (d) : (dats m 0 c).before 11 t d = iblk m c 11 t :=
  before0_11_of m (dats m 0 c) (A_eq m c 11) (after0_11 m c) t d
/-- What the buffer of window 12 holds before point `t`. -/
theorem before0_12 (c : Dev nD) (t : Fin cfg0.N) (d) : (dats m 0 c).before 12 t d = iblk m c 12 t :=
  before0_12_of m (dats m 0 c) (A_eq m c 12) (after0_12 m c) t d
/-- What the buffer of window 13 holds before point `t`. -/
theorem before0_13 (c : Dev nD) (t : Fin cfg0.N) (d) : (dats m 0 c).before 13 t d = iblk m c 13 t :=
  before0_13_of m (dats m 0 c) (A_eq m c 13) (after0_13 m c) t d
/-- An argument's block stays in its buffer. -/
theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
/-- An argument's block stays in its buffer. -/
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
/-- An argument's block stays in its buffer. -/
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
/-- An argument's block stays in its buffer. -/
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]
/-- An argument's block stays in its buffer. -/
theorem leaves0_4 (c : Dev nD) (t : Fin cfg0.N) :
    (dats m 0 c).leavesExact 4 t = owns (c : Thread nD τ) (ms0_4 t) fullShare (iblk m c 4 t) := by
  unfold Dat.leavesExact; rw [liveAt0_4 t, after0_4]
/-- An argument's block stays in its buffer. -/
theorem leaves0_5 (c : Dev nD) (t : Fin cfg0.N) :
    (dats m 0 c).leavesExact 5 t = owns (c : Thread nD τ) (ms0_5 t) fullShare (iblk m c 5 t) := by
  unfold Dat.leavesExact; rw [liveAt0_5 t, after0_5]
/-- An argument's block stays in its buffer. -/
theorem leaves0_6 (c : Dev nD) (t : Fin cfg0.N) :
    (dats m 0 c).leavesExact 6 t = owns (c : Thread nD τ) (ms0_6 t) fullShare (iblk m c 6 t) := by
  unfold Dat.leavesExact; rw [liveAt0_6 t, after0_6]
/-- An argument's block stays in its buffer. -/
theorem leaves0_7 (c : Dev nD) (t : Fin cfg0.N) :
    (dats m 0 c).leavesExact 7 t = owns (c : Thread nD τ) (ms0_7 t) fullShare (iblk m c 7 t) := by
  unfold Dat.leavesExact; rw [liveAt0_7 t, after0_7]
/-- An argument's block stays in its buffer. -/
theorem leaves0_8 (c : Dev nD) (t : Fin cfg0.N) :
    (dats m 0 c).leavesExact 8 t = owns (c : Thread nD τ) (ms0_8 t) fullShare (iblk m c 8 t) := by
  unfold Dat.leavesExact; rw [liveAt0_8 t, after0_8]
/-- An argument's block stays in its buffer. -/
theorem leaves0_9 (c : Dev nD) (t : Fin cfg0.N) :
    (dats m 0 c).leavesExact 9 t = owns (c : Thread nD τ) (ms0_9 t) fullShare (iblk m c 9 t) := by
  unfold Dat.leavesExact; rw [liveAt0_9 t, after0_9]
/-- An argument's block stays in its buffer. -/
theorem leaves0_10 (c : Dev nD) (t : Fin cfg0.N) :
    (dats m 0 c).leavesExact 10 t = owns (c : Thread nD τ) (ms0_10 t) fullShare (iblk m c 10 t) := by
  unfold Dat.leavesExact; rw [liveAt0_10 t, after0_10]
/-- An argument's block stays in its buffer. -/
theorem leaves0_11 (c : Dev nD) (t : Fin cfg0.N) :
    (dats m 0 c).leavesExact 11 t = owns (c : Thread nD τ) (ms0_11 t) fullShare (iblk m c 11 t) := by
  unfold Dat.leavesExact; rw [liveAt0_11 t, after0_11]
/-- An argument's block stays in its buffer. -/
theorem leaves0_12 (c : Dev nD) (t : Fin cfg0.N) :
    (dats m 0 c).leavesExact 12 t = owns (c : Thread nD τ) (ms0_12 t) fullShare (iblk m c 12 t) := by
  unfold Dat.leavesExact; rw [liveAt0_12 t, after0_12]
/-- An argument's block stays in its buffer. -/
theorem leaves0_13 (c : Dev nD) (t : Fin cfg0.N) :
    (dats m 0 c).leavesExact 13 t = owns (c : Thread nD τ) (ms0_13 t) fullShare (iblk m c 13 t) := by
  unfold Dat.leavesExact; rw [liveAt0_13 t, after0_13]
/-- What the point has to leave in the buffer of window 14. -/
theorem leaves0_14 (c : Dev nD) (t : Fin cfg0.N) :
    (dats m 0 c).leavesExact 14 t = owns (c : Thread nD τ) (ms0_14 t) fullShare ((outsAt0 m c t.val t.isLt).1) := by
  unfold Dat.leavesExact; rw [liveAt0_14 t, after0_14]
/-- What the point has to leave in the buffer of window 15. -/
theorem leaves0_15 (c : Dev nD) (t : Fin cfg0.N) :
    (dats m 0 c).leavesExact 15 t = owns (c : Thread nD τ) (ms0_15 t) fullShare ((outsAt0 m c t.val t.isLt).2.1) := by
  unfold Dat.leavesExact; rw [liveAt0_15 t, after0_15]
/-- What the point has to leave in the buffer of window 16. -/
theorem leaves0_16 (c : Dev nD) (t : Fin cfg0.N) :
    (dats m 0 c).leavesExact 16 t = owns (c : Thread nD τ) (ms0_16 t) fullShare ((outsAt0 m c t.val t.isLt).2.2.1) := by
  unfold Dat.leavesExact; rw [liveAt0_16 t, after0_16]
/-- What the point has to leave in the buffer of window 17. -/
theorem leaves0_17 (c : Dev nD) (t : Fin cfg0.N) :
    (dats m 0 c).leavesExact 17 t = owns (c : Thread nD τ) (ms0_17 t) fullShare ((outsAt0 m c t.val t.isLt).2.2.2.1) := by
  unfold Dat.leavesExact; rw [liveAt0_17 t, after0_17]
/-- What the point has to leave in the buffer of the last cast, where that is at work. -/
theorem leaves0_18 (c : Dev nD) (t : Fin cfg0.N) (h3 : t.val < 16) :
    (dats m 0 c).leavesExact 18 t = owns (c : Thread nD τ) (ms0_18 t) fullShare ((outsAt0 m c t.val t.isLt).2.2.2.2) := by
  unfold Dat.leavesExact; rw [liveAt0_18 t h3, after0_18]

/-- Whether the buffer of the last cast holds nothing yet: up to point 15, where every block is written back at its
    own point. -/
theorem fresh0_18 : ∀ n, n ≤ cfg0.N → cfg0.fresh 18 n = decide (n ≤ 15 ∨ n = 32) :=
  Pipeline.Cfg.fresh_tab cfg0 18 (fun n => decide (n ≤ 15 ∨ n = 32)) (by decide) (by decide +kernel)

/-- At a point where the last cast is at rest its block stays the one of the point before. -/
theorem carry0_18 (c : Dev nD) (t : Fin cfg0.N) (h3 : 16 ≤ t.val) :
    (outsAt0 m c t.val t.isLt).2.2.2.2
      = (outsAt0 m c (t.val - 1) (Nat.lt_of_le_of_lt (Nat.sub_le _ _) t.isLt)).2.2.2.2 := by
  rw [outsAt0_C m c t h3]

/-- Where the last cast is at rest, its buffer holds what the point before left. -/
theorem before0_18 (c : Dev nD) (t : Fin cfg0.N) (h3 : 16 ≤ t.val) (d) :
    (dats m 0 c).before 18 t d = (outsAt0 m c (t.val - 1) (Nat.lt_of_le_of_lt (Nat.sub_le _ _) t.isLt)).2.2.2.2 := by
  have hN : t.val < 32 := lt_of_lt_of_eq t.isLt (show cfg0.N = 32 from N_0)
  have hc : ∀ (t : Fin cfg0.N) (_ : t.val ≠ 0), cfg0.idle 18 (cfg0.grid.coords t) = true → cfg0.fresh 18 t.val = false →
      (dats m 0 c).after 18 t = (dats m 0 c).after 18 ⟨t.val - 1, by omega⟩ := fun t _ _ hf => by
    rw [fresh0_18 t.val (Nat.le_of_lt t.isLt)] at hf
    have hf' := of_decide_eq_false hf
    rw [after0_18, after0_18]
    exact carry0_18 m c t (by omega)
  rw [Dat.before_out_traj (dats m 0 c) 18 rfl (fun _ _ => rfl) hc t.val t rfl d,
    fresh0_18 t.val (Nat.le_of_lt t.isLt), if_neg (by simp only [decide_eq_true_eq]; omega), after0_18]

/-- A block of the last cast that the body leaves alone is what the point has to leave. -/
theorem rest0_18 (c : Dev nD) (t : Fin cfg0.N) (h3 : 16 ≤ t.val) (d) :
    (owns (c : Thread nD τ) (ms0_18 t) fullShare ((dats m 0 c).before 18 t d) : sProp 𝕄) ⊢ (dats m 0 c).leavesExact 18 t := by
  have hi := idleAt0_18 t h3
  by_cases hl : t.val = 31
  · rw [show (dats m 0 c).leavesExact 18 t = owns (c : Thread nD τ) (ms0_18 t) fullShare ((dats m 0 c).after 18 t) from by
      unfold Dat.leavesExact; rw [hi, flush0_18_last t hl]]
    rw [before0_18 m c t h3 d, after0_18, carry0_18 m c t h3]
  · rw [Dat.leavesExact_idle (dats m 0 c) 18 t hi (noFlush0_18 t h3 hl)]
    iintro H; iexists _; iexact H

/-! ## The body at a point -/

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- What the body leaves at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

/-- The body at point `t` ends from the blocks of the arguments and any contents of the first four results, having
    stored the lists into those; of the last result's buffer it takes `P` to `Q`. -/
def Ends (c : Dev nD) (t : Fin cfg0.N) (L14 : List (View.Piece (Elt F) S256x2048 .f32))
    (L15 L16 : List (View.Piece (Elt F) S64x5632 .bf16)) (L17 : List (View.Piece (Elt F) S64x2048 .bf16))
    (P Q : sProp 𝕄) : Prop :=
  ∀ K : Unit → sProp 𝕄,
    iprop(owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ owns (c : Thread nD τ) (ms0_5 t) fullShare (iblk m c 5 t)
      ∗ owns (c : Thread nD τ) (ms0_6 t) fullShare (iblk m c 6 t)
      ∗ owns (c : Thread nD τ) (ms0_7 t) fullShare (iblk m c 7 t)
      ∗ owns (c : Thread nD τ) (ms0_8 t) fullShare (iblk m c 8 t)
      ∗ owns (c : Thread nD τ) (ms0_9 t) fullShare (iblk m c 9 t)
      ∗ owns (c : Thread nD τ) (ms0_10 t) fullShare (iblk m c 10 t)
      ∗ owns (c : Thread nD τ) (ms0_11 t) fullShare (iblk m c 11 t)
      ∗ owns (c : Thread nD τ) (ms0_12 t) fullShare (iblk m c 12 t)
      ∗ owns (c : Thread nD τ) (ms0_13 t) fullShare (iblk m c 13 t)
      ∗ (∃ d, owns (c : Thread nD τ) (ms0_14 t) fullShare d) ∗ (∃ d, owns (c : Thread nD τ) (ms0_15 t) fullShare d)
      ∗ (∃ d, owns (c : Thread nD τ) (ms0_16 t) fullShare d) ∗ (∃ d, owns (c : Thread nD τ) (ms0_17 t) fullShare d) ∗ P
      ∗ (iprop(owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ owns (c : Thread nD τ) (ms0_5 t) fullShare (iblk m c 5 t)
      ∗ owns (c : Thread nD τ) (ms0_6 t) fullShare (iblk m c 6 t)
      ∗ owns (c : Thread nD τ) (ms0_7 t) fullShare (iblk m c 7 t)
      ∗ owns (c : Thread nD τ) (ms0_8 t) fullShare (iblk m c 8 t)
      ∗ owns (c : Thread nD τ) (ms0_9 t) fullShare (iblk m c 9 t)
      ∗ owns (c : Thread nD τ) (ms0_10 t) fullShare (iblk m c 10 t)
      ∗ owns (c : Thread nD τ) (ms0_11 t) fullShare (iblk m c 11 t)
      ∗ owns (c : Thread nD τ) (ms0_12 t) fullShare (iblk m c 12 t)
      ∗ owns (c : Thread nD τ) (ms0_13 t) fullShare (iblk m c 13 t)
      ∗ (∃ f, (ms0_14 t).view.loc (c : Thread nD τ) ↦[(ms0_14 t).view.set]{fullShare} (ms0_14 t).view.writes (Elt F) f L14)
      ∗ (∃ f, (ms0_15 t).view.loc (c : Thread nD τ) ↦[(ms0_15 t).view.set]{fullShare} (ms0_15 t).view.writes (Elt F) f L15)
      ∗ (∃ f, (ms0_16 t).view.loc (c : Thread nD τ) ↦[(ms0_16 t).view.set]{fullShare} (ms0_16 t).view.writes (Elt F) f L16)
      ∗ (∃ f, (ms0_17 t).view.loc (c : Thread nD τ) ↦[(ms0_17 t).view.set]{fullShare} (ms0_17 t).view.writes (Elt F) f L17)
      ∗ Q) -∗ K ⟨⟩))
    ⊢ wp frame (wpE (defs₀ (F := F)) Variants.none c none) Set.univ (bodyAt0 t) K

set_option maxHeartbeats 6400000 in
/-- A point whose body ends so meets its obligation, once the stores reach every element. -/
theorem point_of_ends (c : Dev nD) (t : Fin cfg0.N) (L14 : List (View.Piece (Elt F) S256x2048 .f32))
    (L15 L16 : List (View.Piece (Elt F) S64x5632 .bf16)) (L17 : List (View.Piece (Elt F) S64x2048 .bf16))
    (P : Vec F S16x2048 .bf16 → sProp 𝕄) (Q : Vec F S16x2048 .bf16 → sProp 𝕄)
    (hrun : ∀ d, Ends m c t L14 L15 L16 L17 (P d) (Q d))
    (h14 : ∀ y, ∃ pc ∈ L14, y ∈ pc.1.set)
    (e14 : (outsAt0 m c t.val t.isLt).1 = VO0_14.read (Elt F) (VO0_14.writes (Elt F) VO0_14.junk L14))
    (h15 : ∀ y, ∃ pc ∈ L15, y ∈ pc.1.set)
    (e15 : (outsAt0 m c t.val t.isLt).2.1 = VO0_15.read (Elt F) (VO0_15.writes (Elt F) VO0_15.junk L15))
    (h16 : ∀ y, ∃ pc ∈ L16, y ∈ pc.1.set)
    (e16 : (outsAt0 m c t.val t.isLt).2.2.1 = VO0_16.read (Elt F) (VO0_16.writes (Elt F) VO0_16.junk L16))
    (h17 : ∀ y, ∃ pc ∈ L17, y ∈ pc.1.set)
    (e17 : (outsAt0 m c t.val t.isLt).2.2.2.1 = VO0_17.read (Elt F) (VO0_17.writes (Elt F) VO0_17.junk L17))
    (hP : ∀ d, (owns (c : Thread nD τ) (ms0_18 t) fullShare ((dats m 0 c).before 18 t d) : sProp 𝕄)
      ⊢ P ((dats m 0 c).before 18 t d))
    (hQ : ∀ d, Q ((dats m 0 c).before 18 t d) ⊢ (dats m 0 c).leavesExact 18 t) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    leaves0_0, leaves0_1, leaves0_2, leaves0_3, leaves0_4, leaves0_5, leaves0_6, leaves0_7, leaves0_8, leaves0_9,
    leaves0_10, leaves0_11, leaves0_12, leaves0_13, leaves0_14, leaves0_15, leaves0_16, leaves0_17,
    e14, e15, e16, e17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (hrun ((dats m 0 c).before 18 t d18) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iapply (hP d18); iexact H18
  iintro ⟨H0, H1, H2, H3, H4, H5, H6, H7, H8, H9, H10, H11, H12, H13, ⟨%e14, H14⟩, ⟨%e15, H15⟩, ⟨%e16, H16⟩, ⟨%e17, H17⟩, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact View.read_writes_of_cover _ _ _ _ _ h14
  isplitl [H15]
  · unfold owns; iexists _; isplitr
    swap; · iexact H15
    ipureintro; exact View.read_writes_of_cover _ _ _ _ _ h15
  isplitl [H16]
  · unfold owns; iexists _; isplitr
    swap; · iexact H16
    ipureintro; exact View.read_writes_of_cover _ _ _ _ _ h16
  isplitl [H17]
  · unfold owns; iexists _; isplitr
    swap; · iexact H17
    ipureintro; exact View.read_writes_of_cover _ _ _ _ _ h17
  iapply (hQ d18); iexact H18

/-- The run of the body at a row tile of the first part ends as `Ends` says. -/
theorem ends0_A (c : Dev nD) (t : Fin cfg0.N) (h4 : t.val < 4) :
    Ends m c t (run0_A m c t h4).1 (run0_A m c t h4).2.1 (run0_A m c t h4).2.2.1 (run0_A m c t h4).2.2.2.1
      (iprop(∃ d, owns (c : Thread nD τ) (ms0_18 t) fullShare d))
      (iprop(∃ f, (ms0_18 t).view.loc (c : Thread nD τ) ↦[(ms0_18 t).view.set]{fullShare}
        (ms0_18 t).view.writes (Elt F) f (run0_A m c t h4).2.2.2.2.1)) := by
  intro K
  have h := (run0_A m c t h4).2.2.2.2.2 Set.univ K
  refine h

/-- The run of the body at a row tile of the second part with every cast at work ends as `Ends` says. -/
theorem ends0_B (c : Dev nD) (t : Fin cfg0.N) (h3 : t.val < 16) (h4 : 4 ≤ t.val) :
    Ends m c t (run0_B m c t h3 h4).1 (run0_B m c t h3 h4).2.1 (run0_B m c t h3 h4).2.2.1 (run0_B m c t h3 h4).2.2.2.1
      (iprop(∃ d, owns (c : Thread nD τ) (ms0_18 t) fullShare d))
      (iprop(∃ f, (ms0_18 t).view.loc (c : Thread nD τ) ↦[(ms0_18 t).view.set]{fullShare}
        (ms0_18 t).view.writes (Elt F) f (run0_B m c t h3 h4).2.2.2.2.1)) := by
  intro K
  have h := (run0_B m c t h3 h4).2.2.2.2.2 Set.univ K
  refine h

/-- The run of the body at a row tile with the last cast at rest ends as `Ends` says. -/
theorem ends0_C (c : Dev nD) (t : Fin cfg0.N) (h3 : 16 ≤ t.val) (d : Vec F S16x2048 .bf16) :
    Ends m c t (run0_C m c t h3).1 (run0_C m c t h3).2.1 (run0_C m c t h3).2.2.1 (run0_C m c t h3).2.2.2.1
      (owns (c : Thread nD τ) (ms0_18 t) fullShare d)
      (owns (c : Thread nD τ) (ms0_18 t) fullShare d) := by
  intro K
  have h := (run0_C m c t h3).2.2.2.2.2 d Set.univ K
  refine h

/-- The blocks a row tile of the first part leaves. -/
theorem left0_A (c : Dev nD) (t : Fin cfg0.N) (h4 : t.val < 4) :
    (outsAt0 m c t.val t.isLt).1 = out0_A_14 m c t h4 ∧ (outsAt0 m c t.val t.isLt).2.1 = out0_A_15 m c t h4
      ∧ (outsAt0 m c t.val t.isLt).2.2.1 = out0_A_16 m c t h4 ∧ (outsAt0 m c t.val t.isLt).2.2.2.1 = out0_A_17 m c t h4 := by
  refine ⟨?_, ?_, ?_, ?_⟩ <;> rw [outsAt0_A m c t h4]

/-- The blocks a row tile of the second part with every cast at work leaves. -/
theorem left0_B (c : Dev nD) (t : Fin cfg0.N) (h3 : t.val < 16) (h4 : 4 ≤ t.val) :
    (outsAt0 m c t.val t.isLt).1 = out0_B_14 m c t h3 h4 ∧ (outsAt0 m c t.val t.isLt).2.1 = out0_B_15 m c t h3 h4
      ∧ (outsAt0 m c t.val t.isLt).2.2.1 = out0_B_16 m c t h3 h4 ∧ (outsAt0 m c t.val t.isLt).2.2.2.1 = out0_B_17 m c t h3 h4 := by
  refine ⟨?_, ?_, ?_, ?_⟩ <;> rw [outsAt0_B m c t h3 h4]

/-- The blocks a row tile with the last cast at rest leaves. -/
theorem left0_C (c : Dev nD) (t : Fin cfg0.N) (h3 : 16 ≤ t.val) :
    (outsAt0 m c t.val t.isLt).1 = out0_C_14 m c t h3 ∧ (outsAt0 m c t.val t.isLt).2.1 = out0_C_15 m c t h3
      ∧ (outsAt0 m c t.val t.isLt).2.2.1 = out0_C_16 m c t h3 ∧ (outsAt0 m c t.val t.isLt).2.2.2.1 = out0_C_17 m c t h3 := by
  refine ⟨?_, ?_, ?_, ?_⟩ <;> rw [outsAt0_C m c t h3]

/-- The block of the last cast a row tile of the first part leaves. -/
theorem left0_A_18 (c : Dev nD) (t : Fin cfg0.N) (h4 : t.val < 4) :
    (outsAt0 m c t.val t.isLt).2.2.2.2 = out0_A_18 m c t h4 := by
  rw [outsAt0_A m c t h4]

/-- The block of the last cast a row tile of the second part with every cast at work leaves. -/
theorem left0_B_18 (c : Dev nD) (t : Fin cfg0.N) (h3 : t.val < 16) (h4 : 4 ≤ t.val) :
    (outsAt0 m c t.val t.isLt).2.2.2.2 = out0_B_18 m c t h3 h4 := by
  rw [outsAt0_B m c t h3 h4]

/-- Stores that reach every element of the last cast's buffer are what the point has to leave there. -/
theorem stored0_18 (c : Dev nD) (t : Fin cfg0.N) (h3 : t.val < 16) (L : List (View.Piece (Elt F) S16x2048 .bf16))
    (h : ∀ y, ∃ pc ∈ L, y ∈ pc.1.set)
    (e : (outsAt0 m c t.val t.isLt).2.2.2.2 = VO0_18.read (Elt F) (VO0_18.writes (Elt F) VO0_18.junk L)) :
    iprop(∃ f, (ms0_18 t).view.loc (c : Thread nD τ) ↦[(ms0_18 t).view.set]{fullShare}
      (ms0_18 t).view.writes (Elt F) f L) ⊢ (dats m 0 c).leavesExact 18 t := by
  rw [leaves0_18 m c t h3, e]
  iintro ⟨%f, H⟩
  unfold owns; iexists _; isplitr
  swap; · iexact H
  ipureintro; exact View.read_writes_of_cover _ _ _ _ _ h

/-- The body at any point meets its obligation. -/
theorem sound_body (c : Dev nD) (t : Fin cfg0.N) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  by_cases h4 : t.val < 4
  · refine point_of_ends m c t (run0_A m c t h4).1 (run0_A m c t h4).2.1 (run0_A m c t h4).2.2.1 (run0_A m c t h4).2.2.2.1
      (fun _ => iprop(∃ d, owns (c : Thread nD τ) (ms0_18 t) fullShare d))
      (fun _ => iprop(∃ f, (ms0_18 t).view.loc (c : Thread nD τ) ↦[(ms0_18 t).view.set]{fullShare}
        (ms0_18 t).view.writes (Elt F) f (run0_A m c t h4).2.2.2.2.1))
      (fun _ => ends0_A m c t h4)
      (cover0_A_14 m c t h4) (left0_A m c t h4).1
      (cover0_A_15 m c t h4) (left0_A m c t h4).2.1
      (cover0_A_16 m c t h4) (left0_A m c t h4).2.2.1
      (cover0_A_17 m c t h4) (left0_A m c t h4).2.2.2
      (fun d => by iintro H; iexists _; iexact H)
      (fun d => stored0_18 m c t (by omega) _ (cover0_A_18 m c t h4) (left0_A_18 m c t h4))
  · replace h4 : 4 ≤ t.val := Nat.le_of_not_lt h4
    by_cases h3 : t.val < 16
    · refine point_of_ends m c t (run0_B m c t h3 h4).1 (run0_B m c t h3 h4).2.1 (run0_B m c t h3 h4).2.2.1 (run0_B m c t h3 h4).2.2.2.1
        (fun _ => iprop(∃ d, owns (c : Thread nD τ) (ms0_18 t) fullShare d))
        (fun _ => iprop(∃ f, (ms0_18 t).view.loc (c : Thread nD τ) ↦[(ms0_18 t).view.set]{fullShare}
          (ms0_18 t).view.writes (Elt F) f (run0_B m c t h3 h4).2.2.2.2.1))
        (fun _ => ends0_B m c t h3 h4)
        (cover0_B_14 m c t h3 h4) (left0_B m c t h3 h4).1
        (cover0_B_15 m c t h3 h4) (left0_B m c t h3 h4).2.1
        (cover0_B_16 m c t h3 h4) (left0_B m c t h3 h4).2.2.1
        (cover0_B_17 m c t h3 h4) (left0_B m c t h3 h4).2.2.2
        (fun d => by iintro H; iexists _; iexact H)
        (fun d => stored0_18 m c t (by omega) _ (cover0_B_18 m c t h3 h4) (left0_B_18 m c t h3 h4))
    · replace h3 : 16 ≤ t.val := Nat.le_of_not_lt h3
      refine point_of_ends m c t (run0_C m c t h3).1 (run0_C m c t h3).2.1 (run0_C m c t h3).2.2.1 (run0_C m c t h3).2.2.2.1
        (fun d => owns (c : Thread nD τ) (ms0_18 t) fullShare d)
        (fun d => owns (c : Thread nD τ) (ms0_18 t) fullShare d)
        (fun d => ends0_C m c t h3 d)
        (cover0_C_14 m c t h3) (left0_C m c t h3).1
        (cover0_C_15 m c t h3) (left0_C m c t h3).2.1
        (cover0_C_16 m c t h3) (left0_C m c t h3).2.2.1
        (cover0_C_17 m c t h3) (left0_C m c t h3).2.2.2
        (fun d => by iintro H; iexact H) (fun d => rest0_18 m c t h3 d)

/-- The body as it is called at point `t`. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution ends, with each array at what the points make of it, and with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution ends, with each array at what the points make of it. -/
theorem run_main : θ_run defs (onTc (τ := τ) (main (F := F))) (s₀ m ρ) (Pipeline.FramePost cfgs (dats m) 0 (V m)) :=
  (θ_run defs _ _).mono (fun _ h => h.1) (run_main_quiescent m ρ)

/-- Every execution ends with the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- Every execution ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.MergeIdeal.Gen

end
-- ==== Proof.MergeValue.lean ====
module

public import proofs.«01_k».proof.Proof.MergeBlocks
public import proofs.«01_k».proof.Proof.MergeIdealFrame
public import Idealize.ShloMosaic.Lib.Pipeline.ValueKit
public import Idealize.ShloMosaic.Lib.Claim
public import Idealize.ShloMosaic.Lib.Pipeline.ReadBack

/-! The value of the call `merge`: its result arrays are the reference's arrays. -/

@[expose] public section

set_option maxRecDepth 16384

noncomputable section

open Idealize.ShloMosaic Idealize.ShloMosaic.TcCoe Idealize.SL.Sem
open Idealize.ShloMosaic.Pipeline (Dat)

namespace Cert.MergeIdeal.RefValue

open Cert.MergeIdeal Cert.MergeIdeal.Gen Cert.LayerMath

variable (m : (ℓ : Loc nD τ sig) → Buf (Elt Ideal) ℓ) (c : Dev nD)

/-- The first result's block after point `t`. -/
theorem out14 (t : Fin cfg0.N) (r : Fin 256) (n : Fin 2048) :
    ((outsAt0 m c t.val t.isLt).1 : FVec Ideal S256x2048 .f32) (ix2 r n)
      = merge (cat (H0 m c) (H1 m c) (rowOf t r)) (fun k => GW m c (ix2 0 k)) (fun k q => MW m c (ix2 k q))
          (fun q => MB m c (ix2 0 q)) (yf m c (rowOf t r)) (yg m c (rowOf t r)) (fun j l => AW m c (ix2 j l))
          (fun j l => BW m c (ix2 j l)) (fun l n => OW m c (ix2 l n)) n := by
  by_cases h4 : t.val < 4
  · have hx := blk1 m c t h4 r
    rw [outsAt0_A m c t h4]
    frame_out; delta run0_A; frame_out
    exact rows_at m c t r n _ hx _ _ _ _
      (accum_at m c t r n _ _ hx 0 2048 (by decide) rfl _ _ _ _ _ _ _)
      (accum_at m c t r n _ _ hx 512 2560 (by decide) rfl _ _ _ _ _ _ _)
      (accum_at m c t r n _ _ hx 1024 3072 (by decide) rfl _ _ _ _ _ _ _)
      (accum_at m c t r n _ _ hx 1536 3584 (by decide) rfl _ _ _ _ _ _ _)
  · replace h4 : 4 ≤ t.val := by omega
    have hx := blk2 m c t h4 r
    by_cases h3 : t.val < 16
    · rw [outsAt0_B m c t h3 h4]
      frame_out; delta run0_B; frame_out
      exact rows_at m c t r n _ hx _ _ _ _
        (accum_at m c t r n _ _ hx 0 2048 (by decide) rfl _ _ _ _ _ _ _)
        (accum_at m c t r n _ _ hx 512 2560 (by decide) rfl _ _ _ _ _ _ _)
        (accum_at m c t r n _ _ hx 1024 3072 (by decide) rfl _ _ _ _ _ _ _)
        (accum_at m c t r n _ _ hx 1536 3584 (by decide) rfl _ _ _ _ _ _ _)
    · rw [outsAt0_C m c t (by omega)]
      frame_out; delta run0_C; frame_out
      exact rows_at m c t r n _ hx _ _ _ _
        (accum_at m c t r n _ _ hx 0 2048 (by decide) rfl _ _ _ _ _ _ _)
        (accum_at m c t r n _ _ hx 512 2560 (by decide) rfl _ _ _ _ _ _ _)
        (accum_at m c t r n _ _ hx 1024 3072 (by decide) rfl _ _ _ _ _ _ _)
        (accum_at m c t r n _ _ hx 1536 3584 (by decide) rfl _ _ _ _ _ _ _)

/-- The first result array after the run is the reference's. -/
theorem final14 : (dats m 0 c).arrAt 14 (cfgs 0).N
    = Cert.MergeRefIdeal.Read.val_main_v42 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) := by
  refine (dats m 0 c).arrAt_eq_of_covers 14 _ (by decide +kernel) fun t hf y => ?_
  have hlt := lt32 t
  blk_simp
  rw [after0_14]
  obtain ⟨r, n, hy⟩ : ∃ (r : Fin 256) (n : Fin 2048), y = ix2 r n := ⟨y 0, y 1, eq_ix2 y⟩
  subst hy
  refine (out14 m c t r n).trans ?_
  refine Eq.trans (ref_at (H0 m c) (H1 m c) (GW m c) (YF m c) (YG m c) (MW m c) (MB m c) (AW m c) (BW m c) (OW m c)
    (rowOf t r) n).symm ?_
  refine congrArg (Cert.MergeRefIdeal.Read.val_main_v42 (F := Ideal) _ _ _ _ _ _ _ _ _ _) ?_
  blk_ext [idx_val t]

/-- The second result's block after point `t`. -/
theorem out15 (t : Fin cfg0.N) (k : Fin 64) (l : Fin 5632) :
    ((outsAt0 m c t.val t.isLt).2.1 : FVec Ideal S64x5632 .bf16) (ix2 k l)
      = (iblk m c 10 t : FVec Ideal S64x5632 .f32) (ix2 k l) := by
  by_cases h3 : t.val < 16
  · by_cases h4 : t.val < 4
    · rw [outsAt0_A m c t h4]
      frame_out; delta run0_A; frame_out
      exact pay1_at _ k l
    · rw [outsAt0_B m c t h3 (by omega)]
      frame_out; delta run0_B; frame_out
      exact pay1_at _ k l
  · rw [outsAt0_C m c t (by omega)]
    frame_out; delta run0_C; frame_out
    exact pay1_at _ k l

/-- The second result array after the run is the reference's. -/
theorem final15 : (dats m 0 c).arrAt 15 (cfgs 0).N
    = Cert.MergeRefIdeal.Read.val_main_v44 (F := Ideal) (m ((c : Thread nD τ).loc main_arg10)) := by
  refine (dats m 0 c).arrAt_eq_of_covers 15 _ (by decide +kernel) fun t hf y => ?_
  have hlt := lt32 t
  blk_simp
  rw [after0_15]
  obtain ⟨k, l, hy⟩ : ∃ (k : Fin 64) (l : Fin 5632), y = ix2 k l := ⟨y 0, y 1, eq_ix2 y⟩
  subst hy
  refine ((out15 m c t k l).trans (blk10 m c t k l)).trans ?_
  refine Eq.trans (ref1_at (m ((c : Thread nD τ).loc main_arg10)) ⟨t.val * 64 + k, by omega⟩ l).symm ?_
  refine congrArg (Cert.MergeRefIdeal.Read.val_main_v44 (F := Ideal) _) ?_
  blk_ext [idx_val t]

/-- The third result's block after point `t`. -/
theorem out16 (t : Fin cfg0.N) (k : Fin 64) (l : Fin 5632) :
    ((outsAt0 m c t.val t.isLt).2.2.1 : FVec Ideal S64x5632 .bf16) (ix2 k l)
      = (iblk m c 11 t : FVec Ideal S64x5632 .f32) (ix2 k l) := by
  by_cases h3 : t.val < 16
  · by_cases h4 : t.val < 4
    · rw [outsAt0_A m c t h4]
      frame_out; delta run0_A; frame_out
      exact pay2_at _ k l
    · rw [outsAt0_B m c t h3 (by omega)]
      frame_out; delta run0_B; frame_out
      exact pay2_at _ k l
  · rw [outsAt0_C m c t (by omega)]
    frame_out; delta run0_C; frame_out
    exact pay2_at _ k l

/-- The third result array after the run is the reference's. -/
theorem final16 : (dats m 0 c).arrAt 16 (cfgs 0).N
    = Cert.MergeRefIdeal.Read.val_main_v46 (F := Ideal) (m ((c : Thread nD τ).loc main_arg11)) := by
  refine (dats m 0 c).arrAt_eq_of_covers 16 _ (by decide +kernel) fun t hf y => ?_
  have hlt := lt32 t
  blk_simp
  rw [after0_16]
  obtain ⟨k, l, hy⟩ : ∃ (k : Fin 64) (l : Fin 5632), y = ix2 k l := ⟨y 0, y 1, eq_ix2 y⟩
  subst hy
  refine ((out16 m c t k l).trans (blk11 m c t k l)).trans ?_
  refine Eq.trans (ref2_at (m ((c : Thread nD τ).loc main_arg11)) ⟨t.val * 64 + k, by omega⟩ l).symm ?_
  refine congrArg (Cert.MergeRefIdeal.Read.val_main_v46 (F := Ideal) _) ?_
  blk_ext [idx_val t]

/-- The fourth result's block after point `t`. -/
theorem out17 (t : Fin cfg0.N) (k : Fin 64) (l : Fin 2048) :
    ((outsAt0 m c t.val t.isLt).2.2.2.1 : FVec Ideal S64x2048 .bf16) (ix2 k l)
      = (iblk m c 12 t : FVec Ideal S64x2048 .f32) (ix2 k l) := by
  by_cases h3 : t.val < 16
  · by_cases h4 : t.val < 4
    · rw [outsAt0_A m c t h4]
      frame_out; delta run0_A; frame_out
      exact pay3_at _ k l
    · rw [outsAt0_B m c t h3 (by omega)]
      frame_out; delta run0_B; frame_out
      exact pay3_at _ k l
  · rw [outsAt0_C m c t (by omega)]
    frame_out; delta run0_C; frame_out
    exact pay3_at _ k l

/-- The fourth result array after the run is the reference's. -/
theorem final17 : (dats m 0 c).arrAt 17 (cfgs 0).N
    = Cert.MergeRefIdeal.Read.val_main_v48 (F := Ideal) (m ((c : Thread nD τ).loc main_arg12)) := by
  refine (dats m 0 c).arrAt_eq_of_covers 17 _ (by decide +kernel) fun t hf y => ?_
  have hlt := lt32 t
  blk_simp
  rw [after0_17]
  obtain ⟨k, l, hy⟩ : ∃ (k : Fin 64) (l : Fin 2048), y = ix2 k l := ⟨y 0, y 1, eq_ix2 y⟩
  subst hy
  refine ((out17 m c t k l).trans (blk12 m c t k l)).trans ?_
  refine Eq.trans (ref3_at (m ((c : Thread nD τ).loc main_arg12)) ⟨t.val * 64 + k, by omega⟩ l).symm ?_
  refine congrArg (Cert.MergeRefIdeal.Read.val_main_v48 (F := Ideal) _) ?_
  blk_ext [idx_val t]

/-- The last result's block after point `n`: the last sixteen points leave it alone. -/
theorem out18 (n : ℕ) (h : n < cfg0.N) (k : Fin 16) (l : Fin 2048) :
    ((outsAt0 m c n h).2.2.2.2 : FVec Ideal S16x2048 .bf16) (ix2 k l)
      = (m ((c : Thread nD τ).loc main_arg13) : FVec Ideal S1x256x2048 .f32) (ix3 0 ⟨min n 15 * 16 + k, by omega⟩ l) := by
  induction n using Nat.strong_induction_on with
  | _ n ih =>
    by_cases h3 : n < 16
    · by_cases h4 : n < 4
      · have e := outsAt0_A m c ⟨n, h⟩ h4
        dsimp only at e
        rw [e]
        frame_out; delta run0_A; frame_out
        exact (pay4_at _ k l).trans (blk13 m c ⟨n, h⟩ k l)
      · have e := outsAt0_B m c ⟨n, h⟩ h3 (Nat.le_of_not_lt h4)
        dsimp only at e
        rw [e]
        frame_out; delta run0_B; frame_out
        exact (pay4_at _ k l).trans (blk13 m c ⟨n, h⟩ k l)
    · have e := carry0_18 m c ⟨n, h⟩ (Nat.le_of_not_lt h3)
      dsimp only at e
      rw [e]
      refine (ih (n - 1) (by omega) (by omega)).trans ?_
      congr 2
      exact Fin.ext (show min (n - 1) 15 * 16 + k.val = min n 15 * 16 + k.val by omega)

/-- The last result array after the run is the reference's. -/
theorem final18 : (dats m 0 c).arrAt 18 (cfgs 0).N
    = Cert.MergeRefIdeal.Read.val_main_v50 (F := Ideal) (m ((c : Thread nD τ).loc main_arg13)) := by
  refine (dats m 0 c).arrAt_eq_of_covers 18 _ (by decide +kernel) fun t hf y => ?_
  have hlt := lt32 t
  blk_simp
  rw [after0_18]
  obtain ⟨k, l, hy⟩ : ∃ (k : Fin 16) (l : Fin 2048), y = ix2 k l := ⟨y 0, y 1, eq_ix2 y⟩
  subst hy
  refine (out18 m c t.val t.isLt k l).trans ?_
  refine Eq.trans (ref4_at (m ((c : Thread nD τ).loc main_arg13)) ⟨min t.val 15 * 16 + k, by omega⟩ l).symm ?_
  refine congrArg (Cert.MergeRefIdeal.Read.val_main_v50 (F := Ideal) _) ?_
  blk_ext [idx_val t]

end Cert.MergeIdeal.RefValue
-- ==== Proof.MergeFrame.lean ====
module

public import proofs.«01_k».proof.Proof.MergeIdealFrame
public import proofs.«01_k».proof.Proof.Gen.Merge.Launch
public import proofs.«01_k».proof.Defs

/-! The frame of the call `merge`. The printed program and its idealization have one text, and the run is proved over
any float values, so the frame is that run taken at the float words. -/

@[expose] public section

set_option maxRecDepth 16384

open Idealize.ShloMosaic Idealize.ShloMosaic.TcCoe Idealize.SL.Sem

namespace Cert.Merge.Gen

set_option maxHeartbeats 4000000 in
/-- The kernel's body is the same in both programs. -/
theorem body_eq : Cert.MergeIdeal.defs₀ (F := Bits) = Cert.Merge.defs₀ (F := Bits) := by
  unfold Cert.MergeIdeal.defs₀ Cert.Merge.defs₀
  refine congrArg Defs.onTc ?_
  funext l x
  match l, x with
  | 0, (t, s) => rfl

/-- So are the procedures of the two programs. -/
theorem defs_eq : Cert.MergeIdeal.defs (F := Bits) = Cert.Merge.defs (F := Bits) :=
  congrArg (Pipeline.defs (Cert.Merge.pcfgs (F := Bits))) body_eq

set_option maxHeartbeats 4000000 in
/-- The printed program ends with its arguments as they were and every counter at zero. -/
theorem frame_kernel : Cert.quiescent_Merge := fun m ρ _ => by
  rw [← defs_eq]
  exact Cert.MergeIdeal.Gen.frame (F := Bits) m ρ

end Cert.Merge.Gen
-- ==== Proof.MergeClaim.lean ====
module

public import proofs.«01_k».proof.Proof.MergeValue
public import proofs.«01_k».proof.Proof.MergeFrame
public import proofs.«01_k».proof.Defs

/-! The claims about the call `merge`. -/

@[expose] public section

set_option maxRecDepth 16384

open Idealize.ShloMosaic Idealize.ShloMosaic.TcCoe Idealize.SL.Sem

namespace Cert.MergeIdeal.RefValue

/-- The reference leaves its arguments unchanged. -/
theorem frame_ref : Cert.quiescent_MergeRefIdeal := by
  intro m g _
  exact (θ_run Cert.MergeRefIdeal.defs _ _).mono
    (fun r h => ⟨fun c => (h c).2.2.2.2.2, Idealize.ShloMosaic.sem_eq_zero_of_no_sems (by decide) r.2⟩)
    (Cert.MergeRefIdeal.Value.run m g)

set_option maxHeartbeats 2000000 in
/-- The kernel and the reference end with equal results. -/
theorem algebraic : Cert.algebraic_MergeIdeal_MergeRefIdeal := by
  pair_intro
  · run_from Cert.MergeIdeal.Gen.run_main m g
    · exact hc.1 16
    · exact hc.1 17
    · exact hc.1 18
  · run_from Cert.MergeRefIdeal.Value.run m' g'
    · refine (Cert.MergeRefIdeal.Read.val_main_v42_eq m' c).trans ?_
      simp only [hagree c]
      exact (final14 m c).symm
    · exact (final15 m c).symm
    · exact (final16 m c).symm
    · exact (final17 m c).symm
    · exact (final18 m c).symm

end Cert.MergeIdeal.RefValue
-- ==== Proof.lean ====
module

public import proofs.«01_k».proof.Defs
public import proofs.«01_k».proof.Proof.Gen.Ffn.Frame
public import proofs.«01_k».proof.Proof.Gen.FfnIdeal.Frame
public import proofs.«01_k».proof.Proof.FfnClaim
public import proofs.«01_k».proof.Proof.Gen.Ple.Frame
public import proofs.«01_k».proof.Proof.Gen.PleIdeal.Frame
public import proofs.«01_k».proof.Proof.PleClaim
public import proofs.«01_k».proof.Proof.Gen.FfnFirst.Frame
public import proofs.«01_k».proof.Proof.Gen.FfnFirstIdeal.Frame
public import proofs.«01_k».proof.Proof.FfnFirstClaim
public import proofs.«01_k».proof.Proof.Gen.FfnRest.Frame
public import proofs.«01_k».proof.Proof.Gen.FfnRestIdeal.Frame
public import proofs.«01_k».proof.Proof.FfnRestClaim
public import proofs.«01_k».proof.Proof.Gen.Proj.Frame
public import proofs.«01_k».proof.Proof.Gen.ProjIdeal.Frame
public import proofs.«01_k».proof.Proof.ProjClaim
public import proofs.«01_k».proof.Proof.Gen.Merge.Frame
public import proofs.«01_k».proof.Proof.Gen.MergeIdeal.Frame
public import proofs.«01_k».proof.Proof.MergeClaim
public import Idealize.ShloMosaic.Adequacy
public import Idealize.ShloMosaic.Init

/-! Every claim, proved: the kernels' frames are those of the generated modules, the values are proved call by call. -/

@[expose] public section

noncomputable section

namespace Cert.Proof

open Idealize.ShloMosaic Idealize.SL.Sem

/-- All the claims together. -/
theorem claim : Cert.Claim := ⟨
    Cert.Ffn.Gen.facts,
    Cert.FfnIdeal.Gen.facts,
    Cert.FfnRefIdeal.Gen.facts,
    Cert.Ple.Gen.facts,
    Cert.PleIdeal.Gen.facts,
    Cert.PleRefIdeal.Gen.facts,
    Cert.FfnFirst.Gen.facts,
    Cert.FfnFirstIdeal.Gen.facts,
    Cert.FfnFirstRefIdeal.Gen.facts,
    Cert.FfnRest.Gen.facts,
    Cert.FfnRestIdeal.Gen.facts,
    Cert.FfnRestRefIdeal.Gen.facts,
    Cert.Proj.Gen.facts,
    Cert.ProjIdeal.Gen.facts,
    Cert.ProjRefIdeal.Gen.facts,
    Cert.Merge.Gen.facts,
    Cert.MergeIdeal.Gen.facts,
    Cert.MergeRefIdeal.Gen.facts,
    fun m ρ _ => Cert.Ffn.Gen.frame m ρ,
    fun m ρ _ => Cert.FfnIdeal.Gen.frame m ρ,
    Cert.FfnIdeal.RefValue.frame_ref,
    fun m ρ _ => Cert.Ple.Gen.frame m ρ,
    fun m ρ _ => Cert.PleIdeal.Gen.frame m ρ,
    Cert.PleIdeal.RefValue.frame_ref,
    fun m ρ _ => Cert.FfnFirst.Gen.frame m ρ,
    fun m ρ _ => Cert.FfnFirstIdeal.Gen.frame m ρ,
    Cert.FfnFirstIdeal.RefValue.frame_ref,
    Cert.FfnRest.Gen.frame_kernel,
    fun m ρ _ => Cert.FfnRestIdeal.Gen.frame m ρ,
    Cert.FfnRestIdeal.RefValue.frame_ref,
    fun m ρ _ => Cert.Proj.Gen.frame m ρ,
    fun m ρ _ => Cert.ProjIdeal.Gen.frame m ρ,
    Cert.ProjIdeal.RefValue.frame_ref,
    Cert.Merge.Gen.frame_kernel,
    fun m ρ _ => Cert.MergeIdeal.Gen.frame m ρ,
    Cert.MergeIdeal.RefValue.frame_ref,
    trivial,
    Cert.FfnIdeal.RefValue.algebraic,
    trivial,
    Cert.PleIdeal.RefValue.algebraic,
    trivial,
    Cert.FfnFirstIdeal.RefValue.algebraic,
    trivial,
    Cert.FfnRestIdeal.RefValue.algebraic,
    trivial,
    Cert.ProjIdeal.RefValue.algebraic,
    trivial,
    Cert.MergeIdeal.RefValue.algebraic⟩

end Cert.Proof

end
